-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_segments_filled [hPre_segments_filled : Cert.Pre_segments_filled.Facts] (m : (ℓ : Loc Cert.KernelIdeal.nD Cert.KernelIdeal.τ Cert.KernelIdeal.sig) → Buf (Elt Ideal) ℓ) : Prop :=
  ∀ c : Dev Cert.KernelIdeal.nD,
    (Cert.Pre_segments_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_segments_filled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_segments_filled [hPre_segments_filled : Cert.Pre_segments_filled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_segments_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_segments_filled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_segments_filled [hKernelIdeal : Cert.KernelIdeal.Facts] [hPre_segments_filled : Cert.Pre_segments_filled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_segments_filled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_segments_filled [hReferenceIdeal : Cert.ReferenceIdeal.Facts] [hPre_segments_filled : Cert.Pre_segments_filled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_segments_filled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_segments_filled [hKernelIdeal : Cert.KernelIdeal.Facts] [hReferenceIdeal : Cert.ReferenceIdeal.Facts] [hPre_segments_filled : Cert.Pre_segments_filled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_segments_filled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_segments_filled : Cert.Pre_segments_filled.Facts),
    quiescent_Kernel (hKernel := hKernel)
    ∧ quiescent_KernelIdeal (hKernelIdeal := hKernelIdeal)
    ∧ quiescent_KernelIdeal_pre_segments_filled (hKernelIdeal := hKernelIdeal) (hPre_segments_filled := hPre_segments_filled)
    ∧ quiescent_ReferenceIdeal (hReferenceIdeal := hReferenceIdeal)
    ∧ quiescent_ReferenceIdeal_pre_segments_filled (hReferenceIdeal := hReferenceIdeal) (hPre_segments_filled := hPre_segments_filled)
    ∧ preserves_Kernel_KernelIdeal
    ∧ algebraic_KernelIdeal_ReferenceIdeal_pre_segments_filled (hKernelIdeal := hKernelIdeal) (hReferenceIdeal := hReferenceIdeal) (hPre_segments_filled := hPre_segments_filled)
-- ==== Pre_segments_filled.lean ====
abbrev S100000x128x1x4 : Shape := ⟨4, ![100000, 128, 1, 4]⟩
abbrev S100000 : Shape := ⟨1, ![100000]⟩
abbrev S3x128 : Shape := ⟨2, ![3, 128]⟩
abbrev S3 : Shape := ⟨1, ![3]⟩
abbrev S128x128 : Shape := ⟨2, ![128, 128]⟩
abbrev S128 : Shape := ⟨1, ![128]⟩
abbrev S_ : Shape := ⟨0, ![]⟩
abbrev S12x128 : Shape := ⟨2, ![12, 128]⟩
abbrev S1x100000 : Shape := ⟨2, ![1, 100000]⟩
abbrev S64 : Shape := ⟨1, ![64]⟩
abbrev S64x1 : Shape := ⟨2, ![64, 1]⟩
abbrev S64x100000 : Shape := ⟨2, ![64, 100000]⟩

class Facts : Prop where
  bcast_S100000_S1x100000_1 : S100000.BroadcastsInDim S1x100000 (![1] : Fin 1 → Fin S1x100000.rank)
  bcast_S64_S64x1_0 : S64.BroadcastsInDim S64x1 (![0] : Fin 1 → Fin S64x1.rank)
  bcast_S1x100000_S64x100000_0_1 : S1x100000.BroadcastsInDim S64x100000 (![0, 1] : Fin 2 → Fin S64x100000.rank)
  bcast_S64x1_S64x100000_0_1 : S64x1.BroadcastsInDim S64x100000 (![0, 1] : Fin 2 → Fin S64x100000.rank)
  bcast_S_S100000 : S_.BroadcastsInDim S100000 (![] : Fin 0 → Fin S100000.rank)
  reducesTo_S64x100000_S64_d1 : S64x100000.ReducesTo [1] S64
  h_S_ : 0 < S_.numel

variable [Facts]

def fn {F : FTy → Type} [FloatOps F] (main_arg0 : FVec F S100000x128x1x4 .f32) (main_arg1 : IVec S100000 32) (main_arg2 : FVec F S3x128 .f32) (main_arg3 : FVec F S3 .f32) (main_arg4 : FVec F S128x128 .f32) (main_arg5 : FVec F S128 .f32) (main_arg6 : FVec F S128 .f32) (main_arg7 : FVec F S_ .f32) (main_arg8 : FVec F S12x128 .f32) (main_arg9 : FVec F S128 .f32) (main_arg10 : FVec F S128 .f32) (main_arg11 : FVec F S_ .f32) : IVec S100000 1 × IVec S64 1 :=
  let main_v0 : IVec S1x100000 32 := broadcastInDim S1x100000 ![1] bcast_S100000_S1x100000_1 main_arg1
  let main_v1 : IVec S64 32 := iotaInDim S64 32 0
  let main_v2 : IVec S64x1 32 := broadcastInDim S64x1 ![0] bcast_S64_S64x1_0 main_v1
  let main_v3 : IVec S64x100000 32 := broadcastInDim S64x100000 ![0, 1] bcast_S1x100000_S64x100000_0_1 main_v0
  let main_v4 : IVec S64x100000 32 := broadcastInDim S64x100000 ![0, 1] bcast_S64x1_S64x100000_0_1 main_v2
  let main_v5 : IVec S64x100000 1 := cmpi .eq main_v3 main_v4
  let main_c : IVec S_ 32 := constantI S_ 32 0#32
  let main_v6 : IVec S100000 32 := broadcastInDim S100000 ![] bcast_S_S100000 main_c
  let main_v7 : IVec S100000 1 := cmpi .sge main_arg1 main_v6
  let main_c_0 : IVec S_ 1 := constantI S_ 1 0#1
  let main_v8 : IVec S64 1 := (fun x v => Host.reduce IntOp.ori x v reducesTo_S64x100000_S64_d1 h_S_) main_v5 main_c_0
  (main_v7, main_v8)
-- ==== Kernel.lean ====
abbrev S100000x128x1x4 : Shape := ⟨4, ![100000, 128, 1, 4]⟩
abbrev S100000 : Shape := ⟨1, ![100000]⟩
abbrev S3x128 : Shape := ⟨2, ![3, 128]⟩
abbrev S3 : Shape := ⟨1, ![3]⟩
abbrev S128x128 : Shape := ⟨2, ![128, 128]⟩
abbrev S128 : Shape := ⟨1, ![128]⟩
abbrev S_ : Shape := ⟨0, ![]⟩
abbrev S12x128 : Shape := ⟨2, ![12, 128]⟩
abbrev S9 : Shape := ⟨1, ![9]⟩
abbrev S100000x4x128x1 : Shape := ⟨4, ![100000, 4, 128, 1]⟩
abbrev S100000x512 : Shape := ⟨2, ![100000, 512]⟩
abbrev S1x384 : Shape := ⟨2, ![1, 384]⟩
abbrev S1x128 : Shape := ⟨2, ![1, 128]⟩
abbrev S1x512 : Shape := ⟨2, ![1, 512]⟩
abbrev S1x1 : Shape := ⟨2, ![1, 1]⟩
abbrev S49x1x2048 : Shape := ⟨3, ![49, 1, 2048]⟩
abbrev S2048x512 : Shape := ⟨2, ![2048, 512]⟩
abbrev S1x1x2048 : Shape := ⟨3, ![1, 1, 2048]⟩
abbrev S2048 : Shape := ⟨1, ![2048]⟩
abbrev S2048x128 : Shape := ⟨2, ![2048, 128]⟩
abbrev S100352 : Shape := ⟨1, ![100352]⟩
abbrev S352 : Shape := ⟨1, ![352]⟩
abbrev S1 : Shape := ⟨1, ![1]⟩
abbrev S2 : Shape := ⟨1, ![2]⟩
abbrev S16x128 : Shape := ⟨2, ![16, 128]⟩
abbrev S784x128 : Shape := ⟨2, ![784, 128]⟩
abbrev S1x64 : Shape := ⟨2, ![1, 64]⟩
abbrev S8x128x64 : Shape := ⟨3, ![8, 128, 64]⟩
abbrev S64 : Shape := ⟨1, ![64]⟩
abbrev S8x128 : Shape := ⟨2, ![8, 128]⟩
abbrev S8x128x1 : Shape := ⟨3, ![8, 128, 1]⟩
abbrev S64x64 : Shape := ⟨2, ![64, 64]⟩
abbrev S64x1 : Shape := ⟨2, ![64, 1]⟩
abbrev S64x784 : Shape := ⟨2, ![64, 784]⟩
abbrev S64x128 : Shape := ⟨2, ![64, 128]⟩
abbrev S64x16 : Shape := ⟨2, ![64, 16]⟩

abbrev nBuf : Space → Nat
  | .hbm => 61
  | .vmem => 18
  | .smem => 0
  | _ => 0

abbrev bufTy : (tb : Table) → Fin (tcTables nBuf tb) → BufTy
  | .hbm, ⟨0, _⟩ => ⟨S100000x128x1x4, .f32⟩
  | .hbm, ⟨1, _⟩ => ⟨S100000, .i32⟩
  | .hbm, ⟨2, _⟩ => ⟨S3x128, .f32⟩
  | .hbm, ⟨3, _⟩ => ⟨S3, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S_, .f32⟩
  | .hbm, ⟨8, _⟩ => ⟨S12x128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S9, .f32⟩
  | .hbm, ⟨13, _⟩ => ⟨S100000x4x128x1, .f32⟩
  | .hbm, ⟨14, _⟩ => ⟨S100000x512, .f32⟩
  | .hbm, ⟨15, _⟩ => ⟨S1x384, .f32⟩
  | .hbm, ⟨16, _⟩ => ⟨S_, .f32⟩
  | .hbm, ⟨17, _⟩ => ⟨S1x128, .f32⟩
  | .hbm, ⟨18, _⟩ => ⟨S1x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S1x128, .f32⟩
  | .hbm, ⟨24, _⟩ => ⟨S1x128, .f32⟩
  | .hbm, ⟨25, _⟩ => ⟨S49x1x2048, .f32⟩
  | .hbm, ⟨26, _⟩ => ⟨S100352, .f32⟩
  | .hbm, ⟨27, _⟩ => ⟨S100352, .i32⟩
  | .hbm, ⟨28, _⟩ => ⟨S_, .i32⟩
  | .hbm, ⟨29, _⟩ => ⟨S100352, .i32⟩
  | .hbm, ⟨30, _⟩ => ⟨S100352, .i1⟩
  | .hbm, ⟨31, _⟩ => ⟨S_, .f32⟩
  | .hbm, ⟨32, _⟩ => ⟨S_, .f32⟩
  | .hbm, ⟨33, _⟩ => ⟨S100352, .f32⟩
  | .hbm, ⟨34, _⟩ => ⟨S100352, .f32⟩
  | .hbm, ⟨35, _⟩ => ⟨S_, .i32⟩
  | .hbm, ⟨36, _⟩ => ⟨S352, .i32⟩
  | .hbm, ⟨37, _⟩ => ⟨S100352, .i32⟩
  | .hbm, ⟨38, _⟩ => ⟨S100352, .i32⟩
  | .hbm, ⟨39, _⟩ => ⟨S100352, .f32⟩
  | .hbm, ⟨40, _⟩ => ⟨S_, .f32⟩
  | .hbm, ⟨41, _⟩ => ⟨S1x128, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1x128, .f32⟩
  | .hbm, ⟨48, _⟩ => ⟨S_, .f32⟩
  | .hbm, ⟨49, _⟩ => ⟨S16x128, .f32⟩
  | .hbm, ⟨50, _⟩ => ⟨S_, .i32⟩
  | .hbm, ⟨51, _⟩ => ⟨S1, .i32⟩
  | .hbm, ⟨52, _⟩ => ⟨S16x128, .f32⟩
  | .hbm, ⟨53, _⟩ => ⟨S784x128, .f32⟩
  | .hbm, ⟨54, _⟩ => ⟨S784x128, .i32⟩
  | .hbm, ⟨55, _⟩ => ⟨S784x128, .f32⟩
  | .hbm, ⟨56, _⟩ => ⟨S1x128, .f32⟩
  | .hbm, ⟨57, _⟩ => ⟨S1x128, .f32⟩
  | .hbm, ⟨58, _⟩ => ⟨S1x1, .f32⟩
  | .hbm, ⟨59, _⟩ => ⟨S1x64, .f32⟩
  | .hbm, ⟨60, _⟩ => ⟨S64, .f32⟩
  | .local _ .vmem, ⟨0, _⟩ => ⟨S2048x512, .f32⟩
  | .local _ .vmem, ⟨1, _⟩ => ⟨S2048x512, .f32⟩
  | .local _ .vmem, ⟨2, _⟩ => ⟨S1x512, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x1, .f32⟩
  | .local _ .vmem, ⟨7, _⟩ => ⟨S1x1x2048, .f32⟩
  | .local _ .vmem, ⟨8, _⟩ => ⟨S1x1x2048, .f32⟩
  | .local _ .vmem, ⟨9, _⟩ => ⟨S784x128, .f32⟩
  | .local _ .vmem, ⟨10, _⟩ => ⟨S784x128, .i32⟩
  | .local _ .vmem, ⟨11, _⟩ => ⟨S784x128, .f32⟩
  | .local _ .vmem, ⟨12, _⟩ => ⟨S1x128, .f32⟩
  | .local _ .vmem, ⟨13, _⟩ => ⟨S16x128, .f32⟩
  | .local _ .vmem, ⟨14, _⟩ => ⟨S1x128, .f32⟩
  | .local _ .vmem, ⟨15, _⟩ => ⟨S1x128, .f32⟩
  | .local _ .vmem, ⟨16, _⟩ => ⟨S1x1, .f32⟩
  | .local _ .vmem, ⟨17, _⟩ => ⟨S1x64, .f32⟩
  | _, _ => ⟨S100000x128x1x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c_3 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_cst_4 : Ref sig .tc := ⟨.hbm, 40, rfl⟩
abbrev main_v19 : Ref sig .tc := ⟨.hbm, 41, rfl⟩
abbrev main_c_5 : Ref sig .tc := ⟨.hbm, 42, rfl⟩
abbrev main_v20 : Ref sig .tc := ⟨.hbm, 43, rfl⟩
abbrev main_c_6 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_cst_7 : Ref sig .tc := ⟨.hbm, 48, rfl⟩
abbrev main_v24 : Ref sig .tc := ⟨.hbm, 49, rfl⟩
abbrev main_c_8 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![1], ![false]⟩

@[reducible] def k1_t1_loop : Scf.Loop 32 :=
  let c0_i32 : BitVec 32 := 0#32
  let c98_i32 : BitVec 32 := 98#32
  let v3 : BitVec 32 := Scalar.addi c0_i32 c98_i32
  let c1_i32 : BitVec 32 := 1#32
  ⟨c0_i32, v3, c1_i32⟩
def k1_off1 (k1_t1 : Fin k1_t1_loop.trips) : Fin 2 → Nat :=
  let c0_i32 : BitVec 32 := 0#32
  let c1_i32 : BitVec 32 := 1#32
  let arg10 : BitVec 32 := Scf.iv c0_i32 c1_i32 k1_t1
  let c8_i32 : BitVec 32 := 8#32
  let v1014 : BitVec 32 := Scalar.muli arg10 c8_i32
  let v1015 : Index := Scalar.indexCast v1014
  let c0_292 : Index := 0#32
  ![v1015.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S784x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S784x128 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S784x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S100000x128x1x4 : Shape := ⟨4, ![100000, 128, 1, 4]⟩
abbrev S100000 : Shape := ⟨1, ![100000]⟩
abbrev S3x128 : Shape := ⟨2, ![3, 128]⟩
abbrev S3 : Shape := ⟨1, ![3]⟩
abbrev S128x128 : Shape := ⟨2, ![128, 128]⟩
abbrev S128 : Shape := ⟨1, ![128]⟩
abbrev S_ : Shape := ⟨0, ![]⟩
abbrev S12x128 : Shape := ⟨2, ![12, 128]⟩
abbrev S9 : Shape := ⟨1, ![9]⟩
abbrev S100000x128x4 : Shape := ⟨3, ![100000, 128, 4]⟩
abbrev S100000x128x1 : Shape := ⟨3, ![100000, 128, 1]⟩
abbrev S100000x128 : Shape := ⟨2, ![100000, 128]⟩
abbrev S1x128 : Shape := ⟨2, ![1, 128]⟩
abbrev S1 : Shape := ⟨1, ![1]⟩
abbrev S64 : Shape := ⟨1, ![64]⟩
abbrev S100000x1 : Shape := ⟨2, ![100000, 1]⟩
abbrev S1x100000 : Shape := ⟨2, ![1, 100000]⟩
abbrev S64x1 : Shape := ⟨2, ![64, 1]⟩
abbrev S64x100000 : Shape := ⟨2, ![64, 100000]⟩
abbrev S1x9 : Shape := ⟨2, ![1, 9]⟩
abbrev S64x9 : Shape := ⟨2, ![64, 9]⟩
abbrev S64x9x1 : Shape := ⟨3, ![64, 9, 1]⟩
abbrev S64x12 : Shape := ⟨2, ![64, 12]⟩
abbrev S64x128 : Shape := ⟨2, ![64, 128]⟩

abbrev nBuf : Space → Nat
  | .hbm => 176
  | .vmem => 0
  | .smem => 0
  | _ => 0

abbrev hbmTy0_0 (i : Nat) : BufTy := match i % 128 with
  | 0 => ⟨S100000x128x1x4, .f32⟩
  | 1 => ⟨S100000, .i32⟩
  | 2 => ⟨S3x128, .f32⟩
  | 3 => ⟨S3, .f32⟩
  | 4 => ⟨S128x128, .f32⟩
  | 5 => ⟨S128, .f32⟩
  | 6 => ⟨S128, .f32⟩
  | 7 => ⟨S_, .f32⟩
  | 8 => ⟨S12x128, .f32⟩
  | 9 => ⟨S128, .f32⟩
  | 10 => ⟨S128, .f32⟩
  | 11 => ⟨S_, .f32⟩
  | 12 => ⟨S9, .f32⟩
  | 13 => ⟨S100000x128x4, .f32⟩
  | 14 => ⟨S_, .f32⟩
  | 15 => ⟨S100000, .f32⟩
  | 16 => ⟨S100000x128x1, .f32⟩
  | 17 => ⟨S100000x128, .f32⟩
  | 18 => ⟨S1x128, .f32⟩
  | 19 => ⟨S128, .f32⟩
  | 20 => ⟨S100000, .f32⟩
  | 21 => ⟨S100000, .f32⟩
  | 22 => ⟨S1, .f32⟩
  | 23 => ⟨S_, .f32⟩
  | 24 => ⟨S100000, .f32⟩
  | 25 => ⟨S100000, .f32⟩
  | 26 => ⟨S100000x128x1, .f32⟩
  | 27 => ⟨S100000x128, .f32⟩
  | 28 => ⟨S1x128, .f32⟩
  | 29 => ⟨S128, .f32⟩
  | 30 => ⟨S100000, .f32⟩
  | 31 => ⟨S100000, .f32⟩
  | 32 => ⟨S1, .f32⟩
  | 33 => ⟨S_, .f32⟩
  | 34 => ⟨S100000, .f32⟩
  | 35 => ⟨S100000, .f32⟩
  | 36 => ⟨S100000x128x1, .f32⟩
  | 37 => ⟨S100000x128, .f32⟩
  | 38 => ⟨S1x128, .f32⟩
  | 39 => ⟨S128, .f32⟩
  | 40 => ⟨S100000, .f32⟩
  | 41 => ⟨S100000, .f32⟩
  | 42 => ⟨S1, .f32⟩
  | 43 => ⟨S_, .f32⟩
  | 44 => ⟨S100000, .f32⟩
  | 45 => ⟨S100000, .f32⟩
  | 46 => ⟨S100000x128x1, .f32⟩
  | 47 => ⟨S100000x128, .f32⟩
  | 48 => ⟨S100000x128, .f32⟩
  | 49 => ⟨S1x128, .f32⟩
  | 50 => ⟨S100000x128, .f32⟩
  | 51 => ⟨S100000x128, .f32⟩
  | 52 => ⟨S100000x128, .f32⟩
  | 53 => ⟨S100000x128, .f32⟩
  | 54 => ⟨S_, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S100000x128, .f32⟩
  | 61 => ⟨S100000, .f32⟩
  | 62 => ⟨S100000, .f32⟩
  | 63 => ⟨S100000, .f32⟩
  | 64 => ⟨S100000, .f32⟩
  | 65 => ⟨S_, .f32⟩
  | 66 => ⟨S100000, .f32⟩
  | 67 => ⟨S_, .f32⟩
  | 68 => ⟨S64, .f32⟩
  | 69 => ⟨S100000x1, .i32⟩
  | 70 => ⟨S64, .f32⟩
  | 71 => ⟨S_, .f32⟩
  | 72 => ⟨S64, .f32⟩
  | 73 => ⟨S100000x1, .i32⟩
  | 74 => ⟨S64, .f32⟩
  | 75 => ⟨S_, .f32⟩
  | 76 => ⟨S64, .f32⟩
  | 77 => ⟨S64, .f32⟩
  | 78 => ⟨S64, .f32⟩
  | 79 => ⟨S1x100000, .i32⟩
  | 80 => ⟨S64, .i32⟩
  | 81 => ⟨S64x1, .i32⟩
  | 82 => ⟨S64x100000, .i32⟩
  | 83 => ⟨S64x100000, .i32⟩
  | 84 => ⟨S64x100000, .i1⟩
  | 85 => ⟨S1x100000, .f32⟩
  | 86 => ⟨S_, .f32⟩
  | 87 => ⟨S_, .f32⟩
  | 88 => ⟨S64x100000, .f32⟩
  | 89 => ⟨S64x100000, .f32⟩
  | 90 => ⟨S64x100000, .f32⟩
  | 91 => ⟨S_, .f32⟩
  | 92 => ⟨S64, .f32⟩
  | 93 => ⟨S1x100000, .f32⟩
  | 94 => ⟨S_, .f32⟩
  | 95 => ⟨S_, .f32⟩
  | 96 => ⟨S64x100000, .f32⟩
  | 97 => ⟨S64x100000, .f32⟩
  | 98 => ⟨S64x100000, .f32⟩
  | 99 => ⟨S_, .f32⟩
  | 100 => ⟨S64, .f32⟩
  | 101 => ⟨S64, .i32⟩
  | 102 => ⟨S1x100000, .i32⟩
  | 103 => ⟨S64x1, .i32⟩
  | 104 => ⟨S64x100000, .i32⟩
  | 105 => ⟨S64x100000, .i32⟩
  | 106 => ⟨S64x100000, .i1⟩
  | 107 => ⟨S64x100000, .i32⟩
  | 108 => ⟨S_, .i32⟩
  | 109 => ⟨S64, .i32⟩
  | 110 => ⟨S_, .f32⟩
  | 111 => ⟨S_, .f32⟩
  | 112 => ⟨S100000, .f32⟩
  | 113 => ⟨S64x100000, .f32⟩
  | 114 => ⟨S64x100000, .f32⟩
  | 115 => ⟨S64x100000, .f32⟩
  | 116 => ⟨S64x100000, .f32⟩
  | 117 => ⟨S_, .i32⟩
  | 118 => ⟨S64, .i32⟩
  | 119 => ⟨S64, .i32⟩
  | 120 => ⟨S64, .f32⟩
  | 121 => ⟨S1x9, .f32⟩
  | 122 => ⟨S64x1, .f32⟩
  | 123 => ⟨S64x9, .f32⟩
  | 124 => ⟨S64x9, .f32⟩
  | 125 => ⟨S64x9, .f32⟩
  | 126 => ⟨S64x9, .f32⟩
  | 127 => ⟨S64x9, .i32⟩
  | _ => ⟨S100000x128x1x4, .f32⟩

abbrev hbmTy0_1 (i : Nat) : BufTy := match i % 128 with
  | 0 => ⟨S64x9, .f32⟩
  | 1 => ⟨S64x9, .i32⟩
  | 2 => ⟨S64x9, .f32⟩
  | 3 => ⟨S64x9, .f32⟩
  | 4 => ⟨S_, .i32⟩
  | 5 => ⟨S64x9, .i32⟩
  | 6 => ⟨S64x9, .i1⟩
  | 7 => ⟨S_, .i32⟩
  | 8 => ⟨S64x9, .i32⟩
  | 9 => ⟨S64x9, .i32⟩
  | 10 => ⟨S64x9, .i32⟩
  | 11 => ⟨S64x9x1, .i32⟩
  | 12 => ⟨S64x9, .f32⟩
  | 13 => ⟨S_, .f32⟩
  | 14 => ⟨S64x9, .f32⟩
  | 15 => ⟨S64x9, .f32⟩
  | 16 => ⟨S64x9, .f32⟩
  | 17 => ⟨S_, .i32⟩
  | 18 => ⟨S64x9, .i32⟩
  | 19 => ⟨S64x9, .i1⟩
  | 20 => ⟨S_, .i32⟩
  | 21 => ⟨S64x9, .i32⟩
  | 22 => ⟨S64x9, .i32⟩
  | 23 => ⟨S64x9, .i32⟩
  | 24 => ⟨S64x9x1, .i32⟩
  | 25 => ⟨S64x9, .f32⟩
  | 26 => ⟨S64x9, .f32⟩
  | 27 => ⟨S64x9, .f32⟩
  | 28 => ⟨S64x1, .f32⟩
  | 29 => ⟨S64x1, .f32⟩
  | 30 => ⟨S64x1, .f32⟩
  | 31 => ⟨S64x12, .f32⟩
  | 32 => ⟨S64x128, .f32⟩
  | 33 => ⟨S1x128, .f32⟩
  | 34 => ⟨S64x128, .f32⟩
  | 35 => ⟨S64x128, .f32⟩
  | 36 => ⟨S64x128, .f32⟩
  | 37 => ⟨S64x128, .f32⟩
  | 38 => ⟨S_, .f32⟩
  | 39 => ⟨S64x128, .f32⟩
  | 40 => ⟨S64x128, .f32⟩
  | 41 => ⟨S_, .f32⟩
  | 42 => ⟨S64x128, .f32⟩
  | 43 => ⟨S64x128, .f32⟩
  | 44 => ⟨S64x128, .f32⟩
  | 45 => ⟨S64, .f32⟩
  | 46 => ⟨S64, .f32⟩
  | 47 => ⟨S64, .f32⟩
  | _ => ⟨S100000x128x1x4, .f32⟩

abbrev hbmTy (i : Nat) : BufTy := match i / 128 with
  | 0 => hbmTy0_0 i
  | 1 => hbmTy0_1 i
  | _ => ⟨S100000x128x1x4, .f32⟩

abbrev bufTy : (tb : Table) → Fin (tcTables nBuf tb) → BufTy
  | .hbm, ⟨i, _⟩ => hbmTy i
  | _, _ => ⟨S100000x128x1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_1 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_3 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_4 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_5 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v60 : Ref sig .tc := ⟨.hbm, 90, rfl⟩
abbrev main_cst_6 : Ref sig .tc := ⟨.hbm, 91, rfl⟩
abbrev main_v61 : Ref sig .tc := ⟨.hbm, 92, rfl⟩
abbrev main_v62 : Ref sig .tc := ⟨.hbm, 93, rfl⟩
abbrev main_cst_7 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v63 : Ref sig .tc := ⟨.hbm, 98, rfl⟩
abbrev main_cst_8 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_c : Ref sig .tc := ⟨.hbm, 108, rfl⟩
abbrev main_v72 : Ref sig .tc := ⟨.hbm, 109, rfl⟩
abbrev main_cst_9 : Ref sig .tc := ⟨.hbm, 110, rfl⟩
abbrev main_call3_v0 : Ref sig .tc := ⟨.hbm, 111, rfl⟩
abbrev main_call3_v1 : Ref sig .tc := ⟨.hbm, 112, rfl⟩
abbrev main_call3_v2 : Ref sig .tc := ⟨.hbm, 113, rfl⟩
abbrev main_call3_v3 : Ref sig .tc := ⟨.hbm, 114, rfl⟩
abbrev main_v73 : Ref sig .tc := ⟨.hbm, 115, rfl⟩
abbrev main_v74 : Ref sig .tc := ⟨.hbm, 116, rfl⟩
abbrev main_c_10 : Ref sig .tc := ⟨.hbm, 117, rfl⟩
abbrev main_v75 : Ref sig .tc := ⟨.hbm, 118, rfl⟩
abbrev main_v76 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_c_11 : Ref sig .tc := ⟨.hbm, 132, rfl⟩
abbrev main_v89 : Ref sig .tc := ⟨.hbm, 133, rfl⟩
abbrev main_v90 : Ref sig .tc := ⟨.hbm, 134, rfl⟩
abbrev main_c_12 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_13 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_c_14 : Ref sig .tc := ⟨.hbm, 145, rfl⟩
abbrev main_v99 : Ref sig .tc := ⟨.hbm, 146, rfl⟩
abbrev main_v100 : Ref sig .tc := ⟨.hbm, 147, rfl⟩
abbrev main_c_15 : Ref sig .tc := ⟨.hbm, 148, rfl⟩
abbrev main_v101 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_call5_v0 : Ref sig .tc := ⟨.hbm, 164, rfl⟩
abbrev main_call5_v1 : Ref sig .tc := ⟨.hbm, 165, rfl⟩
abbrev main_call5_cst : Ref sig .tc := ⟨.hbm, 166, rfl⟩
abbrev main_call5_v2 : Ref sig .tc := ⟨.hbm, 167, rfl⟩
abbrev main_call5_v3 : Ref sig .tc := ⟨.hbm, 168, rfl⟩
abbrev main_call5_cst_0 : Ref sig .tc := ⟨.hbm, 169, rfl⟩
abbrev main_call5_v4 : Ref sig .tc := ⟨.hbm, 170, rfl⟩
abbrev main_call5_v5 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩

abbrev nD : Nat := 1
abbrev τ : Topo := Topo.v7x

variable {F : FTy → Type} [FloatOps F]
-- ==== Proof.AlgI.lean ====
/- The algebra over which the whole run is stated. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F]

/-- The algebra of the run: one copy of the pipelines' own for each of the two regions, and the counters. -/
abbrev UU : Type := IProdConst (Fin 2) (UR sig nD τ) × Counters

local notation "𝕄" => MT nD τ sig Unit (Elt F) ℕ UU ℕ

end Cert.KernelIdeal.Run
-- ==== Proof.NodeI.lean ====
/- The first region (one value per node): its body on any buffers, and its proof data, in which the last block of the embedding, cut by the end of the array, is filled with anything. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.AlgI
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F]

local notation "𝕄" => MT nD τ sig Unit (Elt F) ℕ UU ℕ

section Regions
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_1_of {c : Dev nD} (dat : Dat τ (Elt F) Unit ℕ UU ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ UU ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ UU ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ UU ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ UU ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S2048x512 := Rect.unit (s := S2048x512) ![0, 0] S2048x512.size inb_S2048x512_S2048x512_0_0
abbrev r0_1 : Rect S1x512 := Rect.unit (s := S1x512) ![0, 0] S1x512.size inb_S1x512_S1x512_0_0
abbrev r0_2 : Rect S128x128 := Rect.unit (s := S128x128) ![0, 0] S128x128.size inb_S128x128_S128x128_0_0
abbrev r0_3 : Rect S1x128 := Rect.unit (s := S1x128) ![0, 0] S1x128.size inb_S1x128_S1x128_0_0
abbrev r0_4 : Rect S1x1 := Rect.unit (s := S1x1) ![0, 0] S1x1.size inb_S1x1_S1x1_0_0
abbrev r0_5 : Rect S1x1x2048 := Rect.unit (s := S1x1x2048) ![0, 0, 0] S1x1x2048.size inb_S1x1x2048_S1x1x2048_0_0_0

def out0_6 (x0 : Vec F S2048x512 .f32) (x1 : Vec F S1x512 .f32) (x2 : Vec F S128x128 .f32) (x3 : Vec F S1x128 .f32) (x4 : Vec F S1x128 .f32) (x5 : Vec F S1x1 .f32) : Vec F S1x1x2048 .f32 :=
  View.canon [⟨r0_5, k0_pay1 (View.ld x0 r0_0) (View.ld x1 r0_1) (View.ld x2 r0_2) (View.ld x3 r0_3) (View.ld x4 r0_3) (View.ld x5 r0_4)⟩]

theorem cover0_6 (p0 : Vec F S1x1x2048 .f32) (y : S1x1x2048.Idx) :
    ∃ pc ∈ ([⟨r0_5, p0⟩] : List (View.Piece (Elt F) S1x1x2048 .f32)), y ∈ pc.1.set :=
  View.cover_of_tiled [⟨r0_5, p0⟩] S1x1x2048.size (by rfl) y

set_option maxHeartbeats 1000000 in
theorem sound_kernel0 (c : Dev nD) (E : Set ℕ) (i : grid0.Coords) (arg1 : Memref sig .tc .vmem S2048x512 .f32) (harg1 : arg1.IsWhole) (arg2 : Memref sig .tc .vmem S1x512 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S1x1 .f32) (harg6 : arg6.IsWhole) (arg7 : Memref sig .tc .vmem S1x1x2048 .f32) (harg7 : arg7.IsWhole)
    (x0 : Vec F S2048x512 .f32) (x1 : Vec F S1x512 .f32) (x2 : Vec F S128x128 .f32) (x3 : Vec F S1x128 .f32) (x4 : Vec F S1x128 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__node_kernel i arg1 harg1 arg2 harg2 arg3 harg3 arg4 harg4 arg5 harg5 arg6 harg6 arg7 harg7) K := by
  simp only [cc0__node_kernel_eq_skeleton]; unfold cc0__node_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _)

/-- The proof data of the first region, read exactly: the windows copied whole at their blocks. The first window (whose last block
    is cut by the array's end) and the output window are held to a predicate below, so their entries here are arbitrary. -/
def dat0 (c : Dev nD) : Dat τ (Elt F) Unit ℕ UU ℕ cfg0 c where
  A w := V c (Pipeline.arrRef spec0 w)
  after w t := match w with
    | ⟨0, _⟩ => fun _ => Classical.arbitrary _
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => fun _ => Classical.arbitrary _
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]

theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-- The two windows held to a predicate. -/
abbrev fgt0 : Fin cfg0.W → Bool
  | ⟨0, _⟩ => true
  | ⟨6, _⟩ => true
  | _ => false

/-- A block of the first window: its part inside the array, the rest at anything. -/
def blk0 (c : Dev nD) (t : Fin cfg0.N) (d : (cfg0.win 0).block.Idx → Elt F (cfg0.win 0).elt) : Vec F S2048x512 .f32 :=
  (cfg0.win 0).fill (cfg0.grid.coords t) d (iblk0 V c 0 t)

/-- What the body leaves at a point: of the output block, the body's function of SOME filling of the first window's block. -/
def Rl0 (c : Dev nD) : (w : Fin cfg0.W) → Fin cfg0.N → ((cfg0.win w).block.Idx → Elt F (cfg0.win w).elt) → Prop
  | ⟨0, _⟩ => fun _ _ => True
  | ⟨6, _⟩ => fun t X => ∃ d, X = out0_6 (blk0 V c t d) (iblk0 V c 1 t) (iblk0 V c 2 t) (iblk0 V c 3 t) (iblk0 V c 4 t) (iblk0 V c 5 t)
  | ⟨1, _⟩ => fun _ _ => True
  | ⟨2, _⟩ => fun _ _ => True
  | ⟨3, _⟩ => fun _ _ => True
  | ⟨4, _⟩ => fun _ _ => True
  | ⟨5, _⟩ => fun _ _ => True

/-- The relational data of the first region. -/
abbrev rdat0 (c : Dev nD) : RDat τ (Elt F) Unit ℕ UU ℕ cfg0 c := (dat0 V c).toRRel fgt0 (Rl0 V c)

theorem finds0_0 (c : Dev nD) (t : Fin cfg0.N) (Y) (h : (rdat0 V c).Finds 0 t Y) : ∃ d, Y = blk0 V c t d := by
  obtain ⟨d, hd⟩ := ((rdat0 V c).finds_of_fetch (fetch0_0 t) Y).mp h
  exact ⟨d, hd⟩

/-- What the body is called with at point `t`, window by window, -/
def bodyPre0 (c : Dev nD) (t : Fin cfg0.N) : sProp 𝕄 :=
  iprop((dat0 V c).Φ t.castSucc ∗ (dat0 V c).owesAt () t.castSucc
    ∗ (∃ Y, ⌜(rdat0 V c).Finds 0 t Y⌝ ∗ owns (c : Thread nD τ) (st0_0 t) fullShare Y)
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ Y, ⌜(rdat0 V c).Finds 6 t Y⌝ ∗ owns (c : Thread nD τ) (st0_6 t) fullShare Y))

/-- and what it returns. -/
def bodyPost0 (c : Dev nD) (t : Fin cfg0.N) : sProp 𝕄 :=
  iprop((dat0 V c).Φ t.succ ∗ (dat0 V c).owesAt () t.succ
    ∗ (∃ X, ⌜Rl0 V c 0 t X⌝ ∗ owns (c : Thread nD τ) (st0_0 t) fullShare X)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (∃ X, ⌜Rl0 V c 6 t X⌝ ∗ owns (c : Thread nD τ) (st0_6 t) fullShare X))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_1, before0_2, before0_3, before0_4, before0_5]
  rw [show (dat0 V c).Φ t.succ = (dat0 V c).Φ t.castSucc from rfl,
    show (dat0 V c).owesAt () t.succ = (dat0 V c).owesAt () t.castSucc from rfl,
    after0_1, after0_2, after0_3, after0_4, after0_5]
  iintro ⟨HΦ, Ho, ⟨%Y0, %hY0, H0⟩, ⟨%d1, H1⟩, ⟨%d2, H2⟩, ⟨%d3, H3⟩, ⟨%d4, H4⟩, ⟨%d5, H5⟩, ⟨%Y6, %hY6, H6⟩⟩
  obtain ⟨d0, rfl⟩ := finds0_0 V c t Y0 hY0
  iapply (sound_kernel0 c Set.univ (grid0.coords t) _ _ _ _ _ _ _ _ _ _ _ _ _ _ (blk0 V c t d0) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]
  · iexists _; isplitr
    swap; · iexact H0
    ipureintro; exact trivial
  isplitl [H1]; · iexact H1
  isplitl [H2]; · iexact H2
  isplitl [H3]; · iexact H3
  isplitl [H4]; · iexact H4
  isplitl [H5]; · iexact H5
  iexists _; isplitr
  swap; · iexact H6
  ipureintro; exact ⟨d0, rfl⟩

theorem defs₀_row0 (t : Fin cfg0.N) :
    defs₀ (F := F) .tc cfg0.body (cfg0.bodyArgs t (cfg0.slots t)) = bodyAt0 t := by
  unfold defs₀; rw [Defs.onTc_tc]

/-- The body obligation of the first region, the two windows held to the predicate. -/
theorem body_obligation0 (c : Dev nD) : Pipeline.BodyObligationRel (dat0 (F := F) V c) (defs₀ (F := F)) Variants.none () Set.univ fgt0 (Rl0 V c) := fun t => by
  rw [bigSep_W0, bigSep_W0, defs₀_row0]
  exact triple_restated (sound_body0 V c t) rfl .rfl fun _ => .rfl

end Regions

end Cert.KernelIdeal.Run
-- ==== Proof.ReadoutI.lean ====
/- The second region (the per-graph readout): the loop of counts and sums, one run of the body on any buffers, and its proof data. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.AlgI
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F]

local notation "𝕄" => MT nD τ sig Unit (Elt F) ℕ UU ℕ

abbrev Trip (c : Dev nD) (arg1 : Memref sig .tc .vmem S784x128 .f32) (arg2 : Memref sig .tc .vmem S784x128 .i32) (X_arg1 : BufTy.Contents (Elt F) arg1.view.ty) (X_arg2 : BufTy.Contents (Elt F) arg2.view.ty) : sProp 𝕄 :=
  iprop((arg1.view.loc (c : Thread nD τ) ↦[arg1.view.set]{fullShare} X_arg1) ∗ (arg2.view.loc (c : Thread nD τ) ↦[arg2.view.set]{fullShare} X_arg2))

@[irreducible] def trip (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (k : Fin k1_t1_loop.trips) :
    { R : ((FVec F S64 .f32 × FVec F S64 .f32) → FVec F S64 .f32 × FVec F S64 .f32) // ∀ (E : Set ℕ) (acc : FVec F S64 .f32 × FVec F S64 .f32),
      Trip (F := F) c arg1 arg2 X_arg1 X_arg2
      ⊢ wp frame (wpE (defs₀ (F := F)) 𝒱 (c : Thread nD τ) bd) E (k1_t1_body (F := F) i arg1 harg1 arg2 harg2 arg3 harg3 arg4 harg4 arg5 harg5 arg6 harg6 arg7 harg7 arg8 harg8 arg9 harg9 k acc)
          (fun yld => iprop(⌜yld = R acc⌝ ∗ Trip (F := F) c arg1 arg2 X_arg1 X_arg2)) } := by
  have hk : k.val < 98 := Nat.lt_of_lt_of_le k.isLt k1_t1_abs.2.1
  refine ⟨?_, fun E acc => ?run⟩
  case run =>
    unfold k1_t1_body
    iintro ⟨HR_arg1, HR_arg2⟩
    sl_exec
    sl_step
    sl_close

abbrev tripR (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (k : Fin k1_t1_loop.trips) (acc : FVec F S64 .f32 × FVec F S64 .f32) : FVec F S64 .f32 × FVec F S64 .f32 :=
  (trip (F := F) 𝒱 c bd i arg1 harg1 arg2 harg2 arg3 harg3 arg4 harg4 arg5 harg5 arg6 harg6 arg7 harg7 arg8 harg8 arg9 harg9 X_arg1 X_arg2 k).1 acc

@[irreducible] def stStep (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) (k : ℕ) (prev : FVec F S64 .f32 × FVec F S64 .f32) : FVec F S64 .f32 × FVec F S64 .f32 :=
  if h : k < k1_t1_loop.trips then
    tripR (F := F) 𝒱 c bd i arg1 harg1 arg2 harg2 arg3 harg3 arg4 harg4 arg5 harg5 arg6 harg6 arg7 harg7 arg8 harg8 arg9 harg9 X_arg1 X_arg2 ⟨k, h⟩ prev
  else prev

def st (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) : ℕ → FVec F S64 .f32 × FVec F S64 .f32
  | 0 => init
  | k + 1 => stStep 𝒱 c bd i arg1 harg1 arg2 harg2 arg3 harg3 arg4 harg4 arg5 harg5 arg6 harg6 arg7 harg7 arg8 harg8 arg9 harg9 X_arg1 X_arg2 init k (st 𝒱 c bd i arg1 harg1 arg2 harg2 arg3 harg3 arg4 harg4 arg5 harg5 arg6 harg6 arg7 harg7 arg8 harg8 arg9 harg9 X_arg1 X_arg2 init k)

theorem st_succ (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) (k : Fin k1_t1_loop.trips) :
    st (F := F) 𝒱 c bd i arg1 harg1 arg2 harg2 arg3 harg3 arg4 harg4 arg5 harg5 arg6 harg6 arg7 harg7 arg8 harg8 arg9 harg9 X_arg1 X_arg2 init (k.val + 1)
      = (tripR (F := F) 𝒱 c bd i arg1 harg1 arg2 harg2 arg3 harg3 arg4 harg4 arg5 harg5 arg6 harg6 arg7 harg7 arg8 harg8 arg9 harg9 X_arg1 X_arg2 k (st (F := F) 𝒱 c bd i arg1 harg1 arg2 harg2 arg3 harg3 arg4 harg4 arg5 harg5 arg6 harg6 arg7 harg7 arg8 harg8 arg9 harg9 X_arg1 X_arg2 init k.val)) := by
  rw [st.eq_2]; unfold stStep; exact dif_pos k.isLt

theorem st_zero (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) :
    (st (F := F) 𝒱 c bd i arg1 harg1 arg2 harg2 arg3 harg3 arg4 harg4 arg5 harg5 arg6 harg6 arg7 harg7 arg8 harg8 arg9 harg9 X_arg1 X_arg2 init 0) = init := rfl

abbrev inv (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) (k : ℕ) (acc : FVec F S64 .f32 × FVec F S64 .f32) : sProp 𝕄 :=
  iprop((arg1.view.loc (c : Thread nD τ) ↦[arg1.view.set]{fullShare} X_arg1) ∗ (arg2.view.loc (c : Thread nD τ) ↦[arg2.view.set]{fullShare} X_arg2) ∗ ⌜acc = (st (F := F) 𝒱 c bd i arg1 harg1 arg2 harg2 arg3 harg3 arg4 harg4 arg5 harg5 arg6 harg6 arg7 harg7 arg8 harg8 arg9 harg9 X_arg1 X_arg2 init k)⌝)

set_option warn.classDefReducibility false in
@[sl_loop] def loopInv (𝒱 : Variants) (c : Dev nD) (bd : Option 𝒱.V) (E : Set ℕ) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole) (X_arg1 : BufTy.Contents (Elt F) arg1.view.ty) (X_arg2 : BufTy.Contents (Elt F) arg2.view.ty) (init : FVec F S64 .f32 × FVec F S64 .f32) :
    LoopInvTy_k1_t1 (F := F) Unit ℕ UU ℕ 𝒱 c bd E i arg1 harg1 arg2 harg2 arg3 harg3 arg4 harg4 arg5 harg5 arg6 harg6 arg7 harg7 arg8 harg8 arg9 harg9 init where
  inv := inv (F := F) 𝒱 c bd i arg1 harg1 arg2 harg2 arg3 harg3 arg4 harg4 arg5 harg5 arg6 harg6 arg7 harg7 arg8 harg8 arg9 harg9 X_arg1 X_arg2 init
  step k acc := by
    iintro ⟨HR_arg1, HR_arg2, %h_acc⟩
    subst h_acc
    iapply (wp_wand_r Idealize.ShloMosaic.frame (wpE (defs₀ (F := F)) 𝒱 (c : Thread nD τ) bd) E)
    isplitl [HR_arg1 HR_arg2]
    · iapply ((trip (F := F) 𝒱 c bd i arg1 harg1 arg2 harg2 arg3 harg3 arg4 harg4 arg5 harg5 arg6 harg6 arg7 harg7 arg8 harg8 arg9 harg9 X_arg1 X_arg2 k).2 E (st (F := F) 𝒱 c bd i arg1 harg1 arg2 harg2 arg3 harg3 arg4 harg4 arg5 harg5 arg6 harg6 arg7 harg7 arg8 harg8 arg9 harg9 X_arg1 X_arg2 init k))
      isplitl [HR_arg1]; · iexact HR_arg1
      iexact HR_arg2
    · iintro %yld ⟨%h_res, HR_arg1, HR_arg2⟩
      isplitl [HR_arg1]; · iexact HR_arg1
      isplitl [HR_arg2]; · iexact HR_arg2
      simp only [st_succ]
      ipureintro; rw [h_res]

section Regions
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ UU ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ UU ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ UU ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ UU ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ UU ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ UU ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ UU ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
theorem before1_7_of {c : Dev nD} (dat : Dat τ (Elt F) Unit ℕ UU ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

abbrev VO1_8 : View sig .tc .vmem S1x64 .f32 := (Memref.whole cc1_stg8_0 : Memref sig .tc .vmem S1x64 .f32).view
abbrev ms1_0 (t : Fin cfg1.N) : Memref sig .tc .vmem S784x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S784x128 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S784x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S16x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x64 .f32 := win1_8.stage (cfg1.slots t 8)
abbrev hs1_8 (t : Fin cfg1.N) : (ms1_8 t).IsWhole := hstage1_8 ((cfg1.slots t 8).cast nbuf1_8)

-- (the run's proof term is large: the definition's epilogue — `abstractNestedProofs` — walks it past the default budget)
set_option maxHeartbeats 1000000 in
noncomputable def kernelRun1_A (c : Dev nD) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)
    (x0 : Vec F S784x128 .f32) (x1 : Vec F S784x128 .i32) (x2 : Vec F S784x128 .f32) (x3 : Vec F S1x128 .f32) (x4 : Vec F S16x128 .f32) (x5 : Vec F S1x128 .f32) (x6 : Vec F S1x128 .f32) (x7 : Vec F S1x1 .f32) :
    { L8 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8)) -∗ K ⟨⟩))
          ⊢ wp frame (wpE (defs₀ (F := F)) Variants.none c none) E (cc1__readout_kernel i arg1 harg1 arg2 harg2 arg3 harg3 arg4 harg4 arg5 harg5 arg6 harg6 arg7 harg7 arg8 harg8 arg9 harg9) K } := by
  refine ⟨?_, fun E K => ?run⟩
  case run =>
    simp only [cc1__readout_kernel_eq_skeleton]; unfold cc1__readout_kernel_skel
    simp only [k1_part22_eq_skeleton, k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    iexists _; iexact H8

theorem cover1_A_8 (c : Dev nD) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)
    (x0 : Vec F S784x128 .f32) (x1 : Vec F S784x128 .i32) (x2 : Vec F S784x128 .f32) (x3 : Vec F S1x128 .f32) (x4 : Vec F S16x128 .f32) (x5 : Vec F S1x128 .f32) (x6 : Vec F S1x128 .f32) (x7 : Vec F S1x1 .f32) (y : S1x64.Idx) :
    ∃ pc ∈ (kernelRun1_A c i arg1 harg1 arg2 harg2 arg3 harg3 arg4 harg4 arg5 harg5 arg6 harg6 arg7 harg7 arg8 harg8 arg9 harg9 x0 x1 x2 x3 x4 x5 x6 x7).1, y ∈ pc.1.set :=
  View.cover_of_tiledL (kernelRun1_A c i arg1 harg1 arg2 harg2 arg3 harg3 arg4 harg4 arg5 harg5 arg6 harg6 arg7 harg7 arg8 harg8 arg9 harg9 x0 x1 x2 x3 x4 x5 x6 x7).1 S1x64.size (by sl_kernel_rfl) y

def out1_A_8 (c : Dev nD) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)
    (x0 : Vec F S784x128 .f32) (x1 : Vec F S784x128 .i32) (x2 : Vec F S784x128 .f32) (x3 : Vec F S1x128 .f32) (x4 : Vec F S16x128 .f32) (x5 : Vec F S1x128 .f32) (x6 : Vec F S1x128 .f32) (x7 : Vec F S1x1 .f32) : Vec F S1x64 .f32 :=
  VO1_8.read (Elt F) (VO1_8.writes (Elt F) VO1_8.junk (kernelRun1_A c i arg1 harg1 arg2 harg2 arg3 harg3 arg4 harg4 arg5 harg5 arg6 harg6 arg7 harg7 arg8 harg8 arg9 harg9 x0 x1 x2 x3 x4 x5 x6 x7).1)

def outsAt1 (c : Dev nD) (t : Fin cfg1.N) : Vec F S1x64 .f32 :=
  out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (iblk1 V c 0 t) (iblk1 V c 1 t) (iblk1 V c 2 t) (iblk1 V c 3 t) (iblk1 V c 4 t) (iblk1 V c 5 t) (iblk1 V c 6 t) (iblk1 V c 7 t)

def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

set_option maxHeartbeats 800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outsAt1
  unfold out1_A_8
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1_A c (grid1.coords t) _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold owns; iexists _; isplitr
  swap; · iexact H8
  ipureintro; exact View.read_writes_of_cover _ _ _ _ _ (cover1_A_8 c _ _ _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run
-- ==== Proof.RunI.lean ====
/- The whole run: the host stretches and the two regions in order, from the launch to the return. What the first region leaves of the
   padding rows of its output is unknown, so everything after it is stated for every array `o` that it may leave. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Loops
public import proofs.«01_k».proof.Proof.NodeI
public import proofs.«01_k».proof.Proof.ReadoutI
public import Idealize.ShloMosaic.Lib.Pipeline.RegionsForgetLinks
public import Idealize.ShloMosaic.Lib.HostLoop.Lifted
public import Idealize.ShloMosaic.Init
public import Idealize.ShloMosaic.Lib.Pipeline.FrameBody
public import Idealize.ShloMosaic.Lib.Pipeline.RegionsLoop
public import Idealize.ShloMosaic.Lib.Pipeline.FrameSuffix
public import Idealize.ShloMosaic.Lib.Pipeline.DatRel
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf RDat)

variable {F : FTy → Type} [FloatOps F]

local notation "𝕄" => MT nD τ sig Unit (Elt F) ℕ UU ℕ

abbrev argRefs : List (Ref sig .tc) := [main_arg0, main_arg1, main_arg2, main_arg3, main_arg4, main_arg5, main_arg6, main_arg7, main_arg8, main_arg9, main_arg10, main_arg11]

theorem hostOps0_fresh : (hostOps0 : List (HloOp τ sig (Elt F))).Forall fun op => op.fresh = ∅ := by
  simp only [List.Forall]; repeat' constructor
abbrev hostOps0_W : List (Ref sig .tc) := [main_cst, main_v0, main_v1, main_v2, main_cst_0, main_v3, main_v4, main_cst_1, main_v5, main_v6, main_v7, main_v8, main_v9]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor
abbrev hostOps1_W : List (Ref sig .tc) := [main_v11, main_v12, main_c, main_v13, main_v14, main_cst_2]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

theorem hostOps1_1_fresh : (hostOps1_1 : List (HloOp τ sig (Elt F))).Forall fun op => op.fresh = ∅ := by
  simp only [List.Forall]; repeat' constructor
abbrev hostOps1_1_W : List (Ref sig .tc) := [main_call0_v0, main_call0_v1, main_v15]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

theorem hostOps1_2_fresh : (hostOps1_2 : List (HloOp τ sig (Elt F))).Forall fun op => op.fresh = ∅ := by
  simp only [List.Forall]; repeat' constructor
abbrev hostOps1_2_W : List (Ref sig .tc) := [main_c_3, main_v16, main_v17, main_v18_0, main_v18_1, main_cst_4, main_v19, main_c_5, main_v20, main_c_6, main_v21, main_v22, main_v23, main_cst_7, main_v24, main_c_8, main_v25, main_v26, main_v27, main_v28, main_v29, main_v30, main_v31, main_v32]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

theorem hostOps2_fresh : (hostOps2 : List (HloOp τ sig (Elt F))).Forall fun op => op.fresh = ∅ := by
  simp only [List.Forall]; repeat' constructor
abbrev hostOps2_W : List (Ref sig .tc) := [main_v34]
theorem hostOps2_writes : (hostOps2 : List (HloOp τ sig (Elt F))).Forall fun op => op.writes ⊆ (hostOps2_W.map (Proc.devRef (τ := τ) .tc)).toFinset :=
  StableHlo.forall_writes_sub_of_map rfl
theorem hostOps2_args : ∀ a ∈ argRefs, a ∉ hostOps2_W := ListAll.forall_mem_of_all_decide (by decide +kernel)

variable (m : (ℓ : Loc nD τ sig) → Buf (Elt F) ℓ) (ρ : Dev nD → PrngReg)

/-! ## The buffers at each boundary -/

abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)
abbrev V1 : (c : Dev nD) → (b : Ref sig .tc) → Buf (Elt F) ((c : Thread nD τ).loc b) := fun c b => W1 m c b

/-- What the first region may leave of its output array. -/
abbrev Out : Type := Vec F S49x1x2048 .f32
def rel (o : Out (F := F)) (c : Dev nD) : Prop := (rdat0 (V1 m) c).ArrAt 6 cfg0.N o

section After
variable (o : Out (F := F))

/-- The buffers when the first region has left `o`. -/
def W2 (c : Dev nD) : Valuation τ sig (Elt F) := Function.update (W1 m c) (Proc.devRef .tc main_v10) o
theorem W2_out (c : Dev nD) : W2 m o c (Proc.devRef .tc main_v10) = o := Function.update_self ..
theorem W2_of_ne (c : Dev nD) (r : Ref sig .tc) (h : r ≠ main_v10) : W2 m o c (Proc.devRef .tc r) = W1 m c (Proc.devRef .tc r) :=
  Function.update_of_ne (StableHlo.devRef_ne_of_ne h) ..
theorem args_ne : ∀ a ∈ argRefs, a ≠ main_v10 := ListAll.forall_mem_of_all_decide (by decide +kernel)
theorem W2_args (c : Dev nD) : ∀ a ∈ argRefs, W2 m o c (Proc.devRef .tc a) = m ((c : Thread nD τ).loc a) :=
  fun a ha => (W2_of_ne m o c a (args_ne a ha)).trans (W1_args m c a ha)
abbrev V2 : (c : Dev nD) → (b : Ref sig .tc) → Buf (Elt F) ((c : Thread nD τ).loc b) := fun c b => W2 m o c b

abbrev W3 : Dev nD → Valuation τ sig (Elt F) := fun c => StableHlo.after hostOps1 (W2 m o c)
theorem W3_of (c : Dev nD) (r : Ref sig .tc) (h : r ∉ hostOps1_W) : W3 m o c (Proc.devRef .tc r) = W2 m o c (Proc.devRef .tc r) :=
  StableHlo.after_of_writes_sub hostOps1 _ hostOps1_writes h
theorem W3_args (c : Dev nD) : ∀ a ∈ argRefs, W3 m o c (Proc.devRef .tc a) = m ((c : Thread nD τ).loc a) :=
  fun a ha => (W3_of m o c a (hostOps1_args a ha)).trans (W2_args m o c a ha)
abbrev W4 : Dev nD → Valuation τ sig (Elt F) := fun c => StableHlo.after hostOps1_1 (W3 m o c)
theorem W4_of (c : Dev nD) (r : Ref sig .tc) (h : r ∉ hostOps1_1_W) : W4 m o c (Proc.devRef .tc r) = W3 m o c (Proc.devRef .tc r) :=
  StableHlo.after_of_writes_sub hostOps1_1 _ hostOps1_1_writes h
theorem W4_args (c : Dev nD) : ∀ a ∈ argRefs, W4 m o c (Proc.devRef .tc a) = m ((c : Thread nD τ).loc a) :=
  fun a ha => (W4_of m o c a (hostOps1_1_args a ha)).trans (W3_args m o c a ha)
abbrev W5 : Dev nD → Valuation τ sig (Elt F) := fun c => StableHlo.after hostOps1_2 (W4 m o c)
theorem W5_of (c : Dev nD) (r : Ref sig .tc) (h : r ∉ hostOps1_2_W) : W5 m o c (Proc.devRef .tc r) = W4 m o c (Proc.devRef .tc r) :=
  StableHlo.after_of_writes_sub hostOps1_2 _ hostOps1_2_writes h
theorem W5_args (c : Dev nD) : ∀ a ∈ argRefs, W5 m o c (Proc.devRef .tc a) = m ((c : Thread nD τ).loc a) :=
  fun a ha => (W5_of m o c a (hostOps1_2_args a ha)).trans (W4_args m o c a ha)
abbrev V5 : (c : Dev nD) → (b : Ref sig .tc) → Buf (Elt F) ((c : Thread nD τ).loc b) := fun c b => W5 m o c b

def W6 (c : Dev nD) : Valuation τ sig (Elt F) :=
  Pipeline.withArrays spec1 c (W5 m o c) fun w => (dat1 (V5 m o) c).arrAt w cfg1.N
theorem W6_arr (c : Dev nD) (w : Fin cfg1.W) :
    W6 m o c (Proc.devRef .tc (Pipeline.arrRef spec1 w)) = (dat1 (V5 m o) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m o c (Proc.devRef .tc b) = W5 m o c (Proc.devRef .tc b) := by
  unfold W6; exact Pipeline.withArrays_of_ne spec1 c _ _ b hb
theorem W6_of (c : Dev nD) (r : Ref sig .tc) (h : ∀ w : Fin cfg1.W, Pipeline.arrRef spec1 w = r → (cfg1.win w).isOut = false) :
    W6 m o c (Proc.devRef .tc r) = W5 m o c (Proc.devRef .tc r) := by
  by_cases hw : ∃ w : Fin cfg1.W, Pipeline.arrRef spec1 w = r
  · obtain ⟨w, rfl⟩ := hw
    exact (W6_arr m o c w).trans (((dat1 (V5 m o) c).arrAt_in w (h w rfl) _).trans (A_eq1 (V5 m o) c w))
  · exact W6_of_ne m o c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m o c (Proc.devRef .tc a) = m ((c : Thread nD τ).loc a) :=
  fun a ha => (W6_of m o c a (argsIn1 a ha)).trans (W5_args m o c a ha)
abbrev V6 : (c : Dev nD) → (b : Ref sig .tc) → Buf (Elt F) ((c : Thread nD τ).loc b) := fun c b => W6 m o c b
theorem hF1 (c : Dev nD) (w : Fin cfg1.W) : (dat1 (V5 m o) c).arrAt w cfg1.N = V6 m o c (Pipeline.arrRef spec1 w) :=
  (W6_arr m o c w).symm
theorem hrest1 (c : Dev nD) : ∀ b, b ∉ Finset.univ.image (Pipeline.arrRef spec1) → V6 m o c b = V5 m o c b :=
  fun b hb => W6_of_ne m o c b fun w e => hb (Finset.mem_image.mpr ⟨w, Finset.mem_univ _, e⟩)

abbrev W7 : Dev nD → Valuation τ sig (Elt F) := fun c => StableHlo.after hostOps2 (W6 m o c)
theorem W7_of (c : Dev nD) (r : Ref sig .tc) (h : r ∉ hostOps2_W) : W7 m o c (Proc.devRef .tc r) = W6 m o c (Proc.devRef .tc r) :=
  StableHlo.after_of_writes_sub hostOps2 _ hostOps2_writes h
theorem W7_args (c : Dev nD) : ∀ a ∈ argRefs, W7 m o c (Proc.devRef .tc a) = m ((c : Thread nD τ).loc a) :=
  fun a ha => (W7_of m o c a (hostOps2_args a ha)).trans (W6_args m o c a ha)

end After

/-! ## The thread state, and the regions as segments -/

abbrev adm : (p : Fin 2) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
/-- What rides beside the buffers through every segment: the generator's register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- Data for a pipeline that a family's region does not run. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

def pjunk : (p : Fin 2) → (c : Dev nD) → Dat τ (Elt F) Unit ℕ UU ℕ (Pipeline.pin (pcfgs (F := F)) adm p) c :=
  fun _ c => junkDat c
/-- The first region's data read exactly (used only for what does not depend on the windows held to a predicate). -/
def pdats0 : (p : Fin 2) → (c : Dev nD) → Dat τ (Elt F) Unit ℕ UU ℕ (Pipeline.pin (pcfgs (F := F)) adm p) c
  | ⟨0, _⟩ => fun c => dat0 (V1 m) c
  | ⟨1, _⟩ => fun c => junkDat c
/-- The first region's data. -/
def rdats0 : (p : Fin 2) → (c : Dev nD) → RDat τ (Elt F) Unit ℕ UU ℕ (Pipeline.pin (pcfgs (F := F)) adm p) c
  | ⟨0, _⟩ => fun c => rdat0 (V1 m) c
  | ⟨1, _⟩ => fun c => (junkDat c).toR
/-- The second region's data when the first has left `o`. -/
def pdats1 (o : Out (F := F)) : (p : Fin 2) → (c : Dev nD) → Dat τ (Elt F) Unit ℕ UU ℕ (Pipeline.pin (pcfgs (F := F)) adm p) c
  | ⟨0, _⟩ => fun c => junkDat c
  | ⟨1, _⟩ => fun c => dat1 (V5 m o) c

/-- The arrays at the first region's exit: what it found, except for the output. -/
theorem exit0 (c : Dev nD) (A : (w : Fin cfg0.W) → Buf (Elt F) ((cfg0.win w).arr.view.loc (c : Thread nD τ)))
    (h : ∀ w, (rdat0 (V1 m) c).ArrAt w cfg0.N (A w)) (w : Fin cfg0.W) : A w = V2 m (A 6) c (Pipeline.arrRef spec0 w) := by
  have hin : ∀ w : Fin cfg0.W, (cfg0.win w).isOut = false → Pipeline.arrRef spec0 w ≠ main_v10 → A w = V2 m (A 6) c (Pipeline.arrRef spec0 w) := by
    intro w hw hne
    have h1 := h w
    rw [(rdat0 (V1 m) c).ArrAt_in w hw] at h1
    exact h1.trans ((A_eq0 (V1 m) c w).trans (W2_of_ne m (A 6) c _ hne).symm)
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact (W2_out m (A 6) c).symm
theorem exit0_rest (o : Out (F := F)) (c : Dev nD) : ∀ b, b ∉ Finset.univ.image (Pipeline.arrRef spec0) → V2 m o c b = V1 m c b :=
  fun b hb => W2_of_ne m o c b fun e => hb (Finset.mem_image.mpr ⟨6, Finset.mem_univ _, e.symm⟩)

theorem arraysAt_open {cfg : Cfg sig Λ₀} {c : Dev nD} (rd : RDat τ (Elt F) Unit ℕ UU ℕ cfg c) (n : Nat) :
    rd.arraysAt n ⊢ (iprop(∃ A : (w : Fin cfg.W) → Buf (Elt F) ((cfg.win w).arr.view.loc (c : Thread nD τ)), ⌜∀ w, rd.ArrAt w n (A w)⌝ ∗ rd.arrays A) : sProp 𝕄) := by
  unfold RDat.arraysAt RDat.arrays
  refine (BI.bigSep_exists_pi Finset.univ _).trans ?_
  iintro ⟨%A, H⟩
  ihave H' := (BI.bigSep_pure_sep Finset.univ (fun w => rd.ArrAt w n (A w)) _) $$ H
  icases H' with ⟨%hA, H⟩
  iexists A
  isplitr; · ipureintro; exact fun w => hA w (Finset.mem_univ _)
  iexact H

set_option backward.isDefEq.respectTransparency.types false in
/-- The first region: from the buffers at `W1` to the buffers at `W2 o` for some `o` it may leave. -/
def reg0 : RDat.RegionSeg (pcfgs (F := F)) adm (rdats0 m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).toRRel
  hwaits := Pipeline.RDat.hwaits_of_owed_zero _ _ _ _ L lv 0 fun _ _ => rfl
  pre c := iprop(StableHlo.held (c : Thread nD τ) (Pipeline.ucRefs τ sig) (W1 m c) ∗ R c)
  post c := iprop(∃ o, ⌜rel m o c⌝ ∗ (StableHlo.held (c : Thread nD τ) (Pipeline.ucRefs τ sig) (W2 m o c) ∗ R c))
  X c := iprop(∃ r, prngReg c r)
  Y c := iprop(∃ r, prngReg c r)
  Z c := Pipeline.unscopedRest (Ix := Unit) (Name := ℕ) (U := UU) (Lvl := ℕ) spec0 c (V1 m c)
  hentry c := by
    rw [Pipeline.ownSems0_none]
    have hsplit := Pipeline.arrays_of_unscopedBufs (p := 0) (pcfgs (F := F)) adm (pdats0 m) launch0.win launch0.arr_whole c
      ((pdats0 m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]
    · iapply (show ((pdats0 m 0 c).arrays ((pdats0 m 0 c).arrAt · 0) : sProp 𝕄) ⊢ (rdats0 m 0 c).arrays (rdats0 m 0 c).A from .rfl)
      iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats0 m 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats0 m 0 c).Φ (Fin.last _) = Pipeline.ΦA spec0 c from rfl]; unfold Pipeline.ΦA
    iintro ⟨Hr, Hp⟩
    isplitl [Hp]; · iexact Hp
    isplitr; · iempintro
    iexact Hr
  hexit c := by
    have hopen : (rdats0 m 0 c).arraysAt (Pipeline.pin (pcfgs (F := F)) adm 0).N
        ⊢ (iprop(∃ A : (w : Fin cfg0.W) → Buf (Elt F) ((cfg0.win w).arr.view.loc (c : Thread nD τ)), ⌜∀ w, (rdat0 (V1 m) c).ArrAt w cfg0.N (A w)⌝ ∗ (pdats0 m 0 c).arrays A) : sProp 𝕄) :=
      arraysAt_open (rdat0 (V1 m) c) cfg0.N
    iintro ⟨Ha, HO, HY, Hrest⟩
    imodintro
    ihave Ha' := hopen $$ Ha
    icases Ha' with ⟨%A, %hA, Ha⟩
    have hjoin := Pipeline.unscopedBufs_of_arrays (p := 0) (pcfgs (F := F)) adm (Ix := Unit) (Name := ℕ) (U := UU) (Lvl := ℕ)
      launch0.win launch0.arr_whole c (pdats0 m) ((pdats0 m 0 c).share_full fun _ => rfl)
      (V1 m c) (V2 m (A 6) c) A (exit0 m c A hA) (exit0_rest m (A 6) c)
    rw [Pipeline.unscopedBufs_held] at hjoin
    iexists (A 6)
    isplitr; · ipureintro; exact hA 6
    isplitl [Ha Hrest]
    · iapply hjoin; isplitl [Ha] <;> iassumption
    isplitl [HY]; · iexact HY
    unfold Pipeline.RDat.owesAt Pipeline.owesWithin
    icases HO with ⟨%W, -, HO⟩; iexists W; iexact HO

set_option backward.isDefEq.respectTransparency.types false in
/-- The second region, entered from the buffers at `W5 o`, left at `W6 o`. -/
def reg1 (o : Out (F := F)) : Pipeline.RegionSeg (pcfgs (F := F)) adm (pdats1 m o) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m o) c).loose
  hwaits := Pipeline.hwaits_of_owed_zero _ _ _ _ L lv 1 fun _ _ => rfl
  pre c := iprop(StableHlo.held (c : Thread nD τ) (Pipeline.ucRefs τ sig) (W5 m o c) ∗ R c)
  post c := iprop(StableHlo.held (c : Thread nD τ) (Pipeline.ucRefs τ sig) (W6 m o c) ∗ R c)
  X c := iprop(∃ r, prngReg c r)
  Y c := iprop(∃ r, prngReg c r)
  Z c := Pipeline.unscopedRest (Ix := Unit) (Name := ℕ) (U := UU) (Lvl := ℕ) spec1 c (V5 m o c)
  hentry c := by
    rw [Pipeline.ownSems0_none]
    have hsplit := Pipeline.arrays_of_unscopedBufs (p := 1) (pcfgs (F := F)) adm (pdats1 m o) launch1.win launch1.arr_whole c
      ((pdats1 m o 1 c).share_full fun _ => rfl) (V5 m o c) (A_eq1 (V5 m o) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats1 m o 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats1 m o 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UU) (Lvl := ℕ)
      launch1.win launch1.arr_whole c (pdats1 m o) ((pdats1 m o 1 c).share_full fun _ => rfl)
      (V5 m o c) (V6 m o c) ((pdats1 m o 1 c).arrAt · cfg1.N) (hF1 m o c) (hrest1 m o c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

abbrev loops : Fin 0 → Prog (TpuEff nD τ sig (Elt F) (HostLoop.Sig (Pipeline.Sig Λ₀ (Fin 2) fun p => (pcfgs (F := F) p).Adm) 0) .tc) PUnit := fun l => l.elim0
/-- A ticket for each region. -/
def tk : Fin 2 → Pipeline.Ticket (Ix := Unit) (Name := ℕ) (U := UU) (Lvl := ℕ) (nD := nD) (τ := τ) (pcfgs (F := F)) adm
  | ⟨0, h⟩ => { p := 0, pdats := pjunk, EP := embAt (⟨0, h⟩ : Fin 2) }
  | ⟨1, h⟩ => { p := 1, pdats := pjunk, EP := embAt (⟨1, h⟩ : Fin 2) }

abbrev Seg := Pipeline.CSeg (pcfgs (F := F)) adm defs₀ 𝒱₀ L lv loops tk

abbrev hseg (ops : List (HloOp τ sig (Elt F))) (hsub : ops.Forall fun op => op.bufs ⊆ StableHlo.tcRefs τ sig)
    (hfresh : ops.Forall fun op => op.fresh = ∅) (W : Dev nD → Valuation τ sig (Elt F)) : Seg (F := F) :=
  Pipeline.CSeg.ofOps _ _ _ _ _ _ _ _ (Pipeline.ucRefs τ sig) ops
    (fun op h => Pipeline.sub_ucRefs op ((List.forall_iff_forall_mem.mp hsub) op h))
    (fun op h => (List.forall_iff_forall_mem.mp hfresh) op h) W R
/-- A host stretch after the first region, for every `o`. -/
abbrev hsegX (ops : List (HloOp τ sig (Elt F))) (hsub : ops.Forall fun op => op.bufs ⊆ StableHlo.tcRefs τ sig)
    (hfresh : ops.Forall fun op => op.fresh = ∅) (W : Out (F := F) → Dev nD → Valuation τ sig (Elt F)) : Seg (F := F) :=
  Pipeline.CSeg.exSel (rel m) (fun o => hseg ops hsub hfresh (W o)) (StableHlo.seq ops) (fun _ => rfl) 0 (fun _ => le_rfl) ∅ (fun _ => rfl)

abbrev rseg0 : Seg (F := F) := Pipeline.CSeg.regionAtR (pcfgs (F := F)) adm () cellOf_inj defs₀ 𝒱₀ L lv loops tk (0 : Fin 2) (rdats0 m) (reg0 m)
abbrev rseg1 : Seg (F := F) := Pipeline.CSeg.regionF (pcfgs (F := F)) adm () cellOf_inj defs₀ 𝒱₀ L lv loops tk (1 : Fin 2) (pdats1 m) (reg1 m) (rel m)

abbrev segs : List (Seg (F := F)) :=
  [ hseg hostOps0 hostOps0_sub hostOps0_fresh (W0 m),
    rseg0 m,
    hsegX m hostOps1 hostOps1_sub hostOps1_fresh (W2 m),
    hsegX m hostOps1_1 hostOps1_1_sub hostOps1_1_fresh (W3 m),
    hsegX m hostOps1_2 hostOps1_2_sub hostOps1_2_fresh (W4 m),
    rseg1 m,
    hsegX m hostOps2 hostOps2_sub hostOps2_fresh (W6 m) ]

theorem main_lift (c : Dev nD) : HostLoop.liftProg (L := 0) (main (F := F) c) = Pipeline.CSeg.runL (segs m) := by
  rw [main_chain c, HostLoop.liftProg_chain]
  simp only [List.map_cons, List.map_nil, HostLoop.liftProg_seq]
  rfl

theorem no_unscoped : ∀ sm : SemLoc sig, sm.isScoped .tc = true := by decide

/-- The last state without what is owed: every buffer as the last stretch leaves it, for some `o`. -/
abbrev Tₙ (c : Dev nD) : sProp 𝕄 :=
  iprop(∃ o, ⌜rel m o c⌝ ∗ (StableHlo.held (c : Thread nD τ) (Pipeline.ucRefs τ sig) (W7 m o c) ∗ ∃ r, prngReg c r))

abbrev u1 : Rounds.URounds (GSem nD τ sig) Unit :=
  initOf (Pipeline.cells (Pipeline.pin (pcfgs (F := F)) adm) cellOf_inj) (Pipeline.launchToks (Pipeline.pin (pcfgs (F := F)) adm) cellOf_inj)

def u0 : UU := ((fun _ => u1 (F := F)), 1)

set_option backward.isDefEq.respectTransparency.types false in
/-- The run of the lifted program. -/
theorem run_lift : θ_run (HostLoop.defs (loops (F := F)) defs) (onTc (τ := τ) (fun c => HostLoop.liftProg (L := 0) (main (F := F) c))) ⟨m, fun _ => 0, ρ⟩
    (fun r => (∀ c : Dev nD, ∃ o, rel m o c ∧ ∀ b ∈ Pipeline.ucRefs τ sig, r.2.mem (((c : Thread nD τ)).1, b) = W7 m o c b)
      ∧ r.2.sem = fun _ => 0) :=
  Pipeline.θ_run_regions_loop_kit_sems (pcfgs (F := F)) adm cellOf_inj defs₀ 𝒱₀ L lv loops tk m ρ (fun c => HostLoop.liftProg (L := 0) (main (F := F) c)) (segs m)
    (fun c Q => by rw [main_lift m c])
    (by
      simp only [segs, List.pairwise_cons, List.mem_cons, forall_eq_or_imp]
      refine ⟨⟨?_, ?_, ?_, ?_, ?_, ?_, ?_⟩, ⟨?_, ?_, ?_, ?_, ?_, ?_⟩, ⟨?_, ?_, ?_, ?_, ?_⟩, ⟨?_, ?_, ?_, ?_⟩, ⟨?_, ?_, ?_⟩, ⟨?_, ?_⟩, ?_, ?_⟩
      all_goals first
        | (intro a ha; exact absurd ha List.not_mem_nil)
        | exact Finset.disjoint_empty_left _
        | exact Finset.disjoint_empty_right _
        | exact (by decide : Disjoint ({0} : Finset (Fin 2)) {1})
        | exact List.Pairwise.nil)
    (O₀ := 0) (hL := fun _ _ => rfl) (G := fun _ => iprop(emp))
    (u₀ := u0 (F := F))
    (hu₀ := by
      unfold u0
      iintro Hu
      ihave H := (ownU_pair _ _) $$ Hu
      icases H with ⟨HP, -⟩
      imodintro
      isplitl [HP]
      · ihave H := (own_iprod (fun _ => u1 (F := F) : IProdConst (Fin 2) (UR sig nD τ))) $$ HP
        iapply (show (bigSep Finset.univ fun j : Fin 2 => BI.own (embAt j (u1 (F := F))) : sProp 𝕄)
          ⊢ bigSep Finset.univ fun j : Fin 2 => BI.own ((tk j).EP (u1 (F := F))) from
          Entails.of_eq (BI.bigSep_congr fun j _ => by match j with | ⟨0, _⟩ => rfl | ⟨1, _⟩ => rfl))
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun c => by
      show iprop(∃ o, ⌜rel m o c⌝ ∗ (StableHlo.held (c : Thread nD τ) (Pipeline.ucRefs τ sig) (W7 m o c) ∗ R c)) ⊢ _
      iintro ⟨%o, %ho, Hh, Hp, HO⟩
      isplitl [Hh Hp]
      · iexists o
        isplitr; · ipureintro; exact ho
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∃ o, rel m o c ∧ ∀ b ∈ Pipeline.ucRefs τ sig, s.mem (((c : Thread nD τ)).1, b) = W7 m o c b)
    (hfin := fun c s' => by
      iintro ⟨⟨%o, %ho, Hh, -⟩, HSI⟩
      unfold StableHlo.held
      imodintro
      ihave H := (pointsTo_read_all (Pipeline.ucRefs τ sig) (fun b => (((c : Thread nD τ)).1, b)) (W7 m o c) s') $$ [Hh HSI]
      · isplitl [Hh] <;> iassumption
      icases H with ⟨%hb, HSI⟩
      isplitr; · ipureintro; exact ⟨o, ho, hb⟩
      iexact HSI)
    (hQ := fun s h hz => ⟨h, funext fun g => hz g (.inr (no_unscoped g.2))⟩)

/-- The run: every execution ends, every buffer at what the last stretch leaves, for some `o` that the first region may leave. -/
theorem run : θ_run defs (onTc (τ := τ) (main (F := F))) ⟨m, fun _ => 0, ρ⟩
    (fun r => (∀ c : Dev nD, ∃ o, rel m o c ∧ ∀ b ∈ Pipeline.ucRefs τ sig, r.2.mem (((c : Thread nD τ)).1, b) = W7 m o c b)
      ∧ r.2.sem = fun _ => 0) :=
  HostLoop.θ_run_of_lift (fun l => l.elim0) defs main ⟨m, fun _ => 0, ρ⟩ _ (run_lift m ρ)

/-- The frame: every execution ends, the arguments as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => by
    obtain ⟨o, -, hb⟩ := h.1 c
    exact ⟨(hb _ (mem_uc main_arg0 (by decide))).trans (W7_args m o c main_arg0 (by decide)),
      (hb _ (mem_uc main_arg1 (by decide))).trans (W7_args m o c main_arg1 (by decide)),
      (hb _ (mem_uc main_arg2 (by decide))).trans (W7_args m o c main_arg2 (by decide)),
      (hb _ (mem_uc main_arg3 (by decide))).trans (W7_args m o c main_arg3 (by decide)),
      (hb _ (mem_uc main_arg4 (by decide))).trans (W7_args m o c main_arg4 (by decide)),
      (hb _ (mem_uc main_arg5 (by decide))).trans (W7_args m o c main_arg5 (by decide)),
      (hb _ (mem_uc main_arg6 (by decide))).trans (W7_args m o c main_arg6 (by decide)),
      (hb _ (mem_uc main_arg7 (by decide))).trans (W7_args m o c main_arg7 (by decide)),
      (hb _ (mem_uc main_arg8 (by decide))).trans (W7_args m o c main_arg8 (by decide)),
      (hb _ (mem_uc main_arg9 (by decide))).trans (W7_args m o c main_arg9 (by decide)),
      (hb _ (mem_uc main_arg10 (by decide))).trans (W7_args m o c main_arg10 (by decide)),
      (hb _ (mem_uc main_arg11 (by decide))).trans (W7_args m o c main_arg11 (by decide))⟩, h.2⟩) (run m ρ)

end Cert.KernelIdeal.Run
-- ==== Proof.RefI.lean ====
module

public import proofs.«01_k».proof.Proof.Gen.ReferenceIdeal
public import Idealize.ShloMosaic.Lib.StableHlo.RunHlo
public import Idealize.ShloMosaic.Lib.Decide

@[expose] public section

set_option maxRecDepth 100000
set_option maxHeartbeats 4000000
set_option Elab.async false

noncomputable section

/-! The reference is one straight line of host operations. Its list is cut into pieces, one per
    intermediate result that the value proof names, and the program is run along the list. -/

namespace Cert.ReferenceIdeal.Run

open Cert.ReferenceIdeal.Gen
open Idealize.ShloMosaic Idealize.ShloMosaic.TcCoe Idealize.ShloMosaic.Tactic
open Idealize.SL.Sem

variable {F : FTy → Type} [FloatOps F]

abbrev argRefs : List (Ref sig .tc) := [main_arg0, main_arg1, main_arg2, main_arg3, main_arg4, main_arg5, main_arg6, main_arg7, main_arg8, main_arg9, main_arg10, main_arg11]

abbrev ops0 : List (HloOp τ sig (Elt F)) :=
  [ StableHlo.nullary main_cst (fun i => FloatOps.ofBits .f32 (lit0 (S9.rowMajor i))),
    StableHlo.reshape main_arg0 main_v0 (rfl : (.f32 : EltTy) = .f32) shapeCasts_S100000x128x1x4_S100000x128x4,
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_v0 main_v2 ((extractStridedSlice S100000x128x1 ![0, 0, 0] · slices_S100000x128x4_S100000x128x1_0_0_0) : (⟨S100000x128x4, .f32⟩ : BufTy).Contents (Elt F) → (⟨S100000x128x1, .f32⟩ : BufTy).Contents (Elt F)),
    StableHlo.reshape main_v2 main_v3 (rfl : (.f32 : EltTy) = .f32) shapeCasts_S100000x128x1_S100000x128,
    StableHlo.unary main_arg2 main_v4 ((extractStridedSlice S1x128 ![0, 0] · slices_S3x128_S1x128_0_0) : (⟨S3x128, .f32⟩ : BufTy).Contents (Elt F) → (⟨S1x128, .f32⟩ : BufTy).Contents (Elt F)),
    StableHlo.reshape main_v4 main_v5 (rfl : (.f32 : EltTy) = .f32) shapeCasts_S1x128_S128,
    StableHlo.binary main_v3 main_v5 main_v6 ((fun l r => Host.dotGeneral dot_S100000x128_S128_S100000_1_0_0_n_n_n none l r) : (⟨S100000x128, .f32⟩ : BufTy).Contents (Elt F) → (⟨S128, .f32⟩ : BufTy).Contents (Elt F) → (⟨S100000, .f32⟩ : BufTy).Contents (Elt F)),
    StableHlo.binary main_v1 main_v6 main_v7 (addf : (⟨S100000, .f32⟩ : BufTy).Contents (Elt F) → (⟨S100000, .f32⟩ : BufTy).Contents (Elt F) → (⟨S100000, .f32⟩ : BufTy).Contents (Elt F)),
    StableHlo.unary main_arg3 main_v8 ((extractStridedSlice S1 ![0] · slices_S3_S1_0) : (⟨S3, .f32⟩ : BufTy).Contents (Elt F) → (⟨S1, .f32⟩ : BufTy).Contents (Elt F)),
    StableHlo.reshape main_v8 main_v9 (rfl : (.f32 : EltTy) = .f32) shapeCasts_S1_S_,
    StableHlo.unary main_v9 main_v10 (broadcastInDim S100000 ![] bcast_S_S100000 : (⟨S_, .f32⟩ : BufTy).Contents (Elt F) → (⟨S100000, .f32⟩ : BufTy).Contents (Elt F)),
    StableHlo.binary main_v7 main_v10 main_v11 (addf : (⟨S100000, .f32⟩ : BufTy).Contents (Elt F) → (⟨S100000, .f32⟩ : BufTy).Contents (Elt F) → (⟨S100000, .f32⟩ : BufTy).Contents (Elt F)),
    StableHlo.unary main_v0 main_v12 ((extractStridedSlice S100000x128x1 ![0, 0, 1] · slices_S100000x128x4_S100000x128x1_0_0_1) : (⟨S100000x128x4, .f32⟩ : BufTy).Contents (Elt F) → (⟨S100000x128x1, .f32⟩ : BufTy).Contents (Elt F)),
    StableHlo.reshape main_v12 main_v13 (rfl : (.f32 : EltTy) = .f32) shapeCasts_S100000x128x1_S100000x128,
    StableHlo.unary main_arg2 main_v14 ((extractStridedSlice S1x128 ![1, 0] · slices_S3x128_S1x128_1_0) : (⟨S3x128, .f32⟩ : BufTy).Contents (Elt F) → (⟨S1x128, .f32⟩ : BufTy).Contents (Elt F)),
    StableHlo.reshape main_v14 main_v15 (rfl : (.f32 : EltTy) = .f32) shapeCasts_S1x128_S128,
    StableHlo.binary main_v13 main_v15 main_v16 ((fun l r => Host.dotGeneral dot_S100000x128_S128_S100000_1_0_0_n_n_n none l r) : (⟨S100000x128, .f32⟩ : BufTy).Contents (Elt F) → (⟨S128, .f32⟩ : BufTy).Contents (Elt F) → (⟨S100000, .f32⟩ : BufTy).Contents (Elt F)),
    StableHlo.binary main_v11 main_v16 main_v17 (addf : (⟨S100000, .f32⟩ : BufTy).Contents (Elt F) → (⟨S100000, .f32⟩ : BufTy).Contents (Elt F) → (⟨S100000, .f32⟩ : BufTy).Contents (Elt F)),
    StableHlo.unary main_arg3 main_v18 ((extractStridedSlice S1 ![1] · slices_S3_S1_1) : (⟨S3, .f32⟩ : BufTy).Contents (Elt F) → (⟨S1, .f32⟩ : BufTy).Contents (Elt F)),
    StableHlo.reshape main_v18 main_v19 (rfl : (.f32 : EltTy) = .f32) shapeCasts_S1_S_,
    StableHlo.unary main_v19 main_v20 (broadcastInDim S100000 ![] bcast_S_S100000 : (⟨S_, .f32⟩ : BufTy).Contents (Elt F) → (⟨S100000, .f32⟩ : BufTy).Contents (Elt F)),
    StableHlo.binary main_v17 main_v20 main_v21 (addf : (⟨S100000, .f32⟩ : BufTy).Contents (Elt F) → (⟨S100000, .f32⟩ : BufTy).Contents (Elt F) → (⟨S100000, .f32⟩ : BufTy).Contents (Elt F)),
    StableHlo.unary main_v0 main_v22 ((extractStridedSlice S100000x128x1 ![0, 0, 2] · slices_S100000x128x4_S100000x128x1_0_0_2) : (⟨S100000x128x4, .f32⟩ : BufTy).Contents (Elt F) → (⟨S100000x128x1, .f32⟩ : BufTy).Contents (Elt F)),
    StableHlo.reshape main_v22 main_v23 (rfl : (.f32 : EltTy) = .f32) shapeCasts_S100000x128x1_S100000x128,
    StableHlo.unary main_arg2 main_v24 ((extractStridedSlice S1x128 ![2, 0] · slices_S3x128_S1x128_2_0) : (⟨S3x128, .f32⟩ : BufTy).Contents (Elt F) → (⟨S1x128, .f32⟩ : BufTy).Contents (Elt F)),
    StableHlo.reshape main_v24 main_v25 (rfl : (.f32 : EltTy) = .f32) shapeCasts_S1x128_S128,
    StableHlo.binary main_v23 main_v25 main_v26 ((fun l r => Host.dotGeneral dot_S100000x128_S128_S100000_1_0_0_n_n_n none l r) : (⟨S100000x128, .f32⟩ : BufTy).Contents (Elt F) → (⟨S128, .f32⟩ : BufTy).Contents (Elt F) → (⟨S100000, .f32⟩ : BufTy).Contents (Elt F)),
    StableHlo.binary main_v21 main_v26 main_v27 (addf : (⟨S100000, .f32⟩ : BufTy).Contents (Elt F) → (⟨S100000, .f32⟩ : BufTy).Contents (Elt F) → (⟨S100000, .f32⟩ : BufTy).Contents (Elt F)),
    StableHlo.unary main_arg3 main_v28 ((extractStridedSlice S1 ![2] · slices_S3_S1_2) : (⟨S3, .f32⟩ : BufTy).Contents (Elt F) → (⟨S1, .f32⟩ : BufTy).Contents (Elt F)),
    StableHlo.reshape main_v28 main_v29 (rfl : (.f32 : EltTy) = .f32) shapeCasts_S1_S_,
    StableHlo.unary main_v29 main_v30 (broadcastInDim S100000 ![] bcast_S_S100000 : (⟨S_, .f32⟩ : BufTy).Contents (Elt F) → (⟨S100000, .f32⟩ : BufTy).Contents (Elt F)),
    StableHlo.binary main_v27 main_v30 main_v31 (addf : (⟨S100000, .f32⟩ : BufTy).Contents (Elt F) → (⟨S100000, .f32⟩ : BufTy).Contents (Elt F) → (⟨S100000, .f32⟩ : BufTy).Contents (Elt F)),
    StableHlo.unary main_v0 main_v32 ((extractStridedSlice S100000x128x1 ![0, 0, 3] · slices_S100000x128x4_S100000x128x1_0_0_3) : (⟨S100000x128x4, .f32⟩ : BufTy).Contents (Elt F) → (⟨S100000x128x1, .f32⟩ : BufTy).Contents (Elt F)),
    StableHlo.reshape main_v32 main_v33 (rfl : (.f32 : EltTy) = .f32) shapeCasts_S100000x128x1_S100000x128,
    StableHlo.binary main_v33 main_arg4 main_v34 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg5 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v34 main_v36 main_v37 (addf : (⟨S100000x128, .f32⟩ : BufTy).Contents (Elt F) → (⟨S100000x128, .f32⟩ : BufTy).Contents (Elt F) → (⟨S100000x128, .f32⟩ : BufTy).Contents (Elt F)) ]
theorem ops0_sub : (ops0 : List (HloOp τ sig (Elt F))).Forall fun op => op.bufs ⊆ StableHlo.tcRefs τ sig :=
  ⟨StableHlo.nullary_bufs_sub .., StableHlo.reshape_bufs_sub .., StableHlo.nullary_bufs_sub .., StableHlo.unary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.unary_bufs_sub .., StableHlo.reshape_bufs_sub .., StableHlo.binary_bufs_sub .., StableHlo.binary_bufs_sub .., StableHlo.unary_bufs_sub .., StableHlo.reshape_bufs_sub .., StableHlo.unary_bufs_sub .., StableHlo.binary_bufs_sub .., StableHlo.unary_bufs_sub .., StableHlo.reshape_bufs_sub .., StableHlo.binary_bufs_sub .., StableHlo.unary_bufs_sub .., StableHlo.unary_bufs_sub .., StableHlo.binary_bufs_sub ..⟩
theorem ops0_fresh : (ops0 : List (HloOp τ sig (Elt F))).Forall fun op => op.fresh = ∅ := by
  simp only [List.Forall]; repeat' constructor
abbrev ops0_W : List (Ref sig .tc) := [main_cst, main_v0, main_cst_0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_v34, main_v35, main_v36, main_v37]
theorem ops0_writes : (ops0 : List (HloOp τ sig (Elt F))).Forall fun op => op.writes ⊆ (ops0_W.map (Proc.devRef (τ := τ) .tc)).toFinset :=
  StableHlo.forall_writes_sub_of_map rfl
theorem ops0_args : ∀ a ∈ argRefs, a ∉ ops0_W := ListAll.forall_mem_of_all_decide (by decide +kernel)

abbrev ops1 : List (HloOp τ sig (Elt F)) :=
  [ StableHlo.TRef.unary (.of main_v37 : StableHlo.TRef sig ⟨S100000x128, .f32⟩) (.of main_call0_v0 : StableHlo.TRef sig ⟨S100000x128, .f32⟩) Host.negf,
    StableHlo.TRef.unary (.of main_call0_v0 : StableHlo.TRef sig ⟨S100000x128, .f32⟩) (.of main_call0_v1 : StableHlo.TRef sig ⟨S100000x128, .f32⟩) Host.exp,
    StableHlo.TRef.nullary (.of main_call0_cst : StableHlo.TRef sig ⟨S_, .f32⟩) (constant S_ .f32 0x3F800000#32),
    StableHlo.TRef.unary (.of main_call0_cst : StableHlo.TRef sig ⟨S_, .f32⟩) (.of main_call0_v2 : StableHlo.TRef sig ⟨S100000x128, .f32⟩) (broadcastInDim S100000x128 ![] bcast_S_S100000x128),
    StableHlo.TRef.binary (.of main_call0_v2 : StableHlo.TRef sig ⟨S100000x128, .f32⟩) (.of main_call0_v1 : StableHlo.TRef sig ⟨S100000x128, .f32⟩) (.of main_call0_v3 : StableHlo.TRef sig ⟨S100000x128, .f32⟩) addf,
    StableHlo.TRef.nullary (.of main_call0_cst_0 : StableHlo.TRef sig ⟨S_, .f32⟩) (constant S_ .f32 0x3F800000#32),
    StableHlo.TRef.unary (.of main_call0_cst_0 : StableHlo.TRef sig ⟨S_, .f32⟩) (.of main_call0_v4 : StableHlo.TRef sig ⟨S100000x128, .f32⟩) (broadcastInDim S100000x128 ![] bcast_S_S100000x128),
    StableHlo.TRef.binary (.of main_call0_v4 : StableHlo.TRef sig ⟨S100000x128, .f32⟩) (.of main_call0_v3 : StableHlo.TRef sig ⟨S100000x128, .f32⟩) (.of main_call0_v5 : StableHlo.TRef sig ⟨S100000x128, .f32⟩) Host.divf,
    StableHlo.TRef.binary (.of main_v37 : StableHlo.TRef sig ⟨S100000x128, .f32⟩) (.of main_call0_v5 : StableHlo.TRef sig ⟨S100000x128, .f32⟩) (.of main_v38 : StableHlo.TRef sig ⟨S100000x128, .f32⟩) mulf ]
theorem ops1_sub : (ops1 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops1_fresh : (ops1 : List (HloOp τ sig (Elt F))).Forall fun op => op.fresh = ∅ := by
  simp only [List.Forall]; repeat' constructor
abbrev ops1_W : List (Ref sig .tc) := [main_call0_v0, main_call0_v1, main_call0_cst, main_call0_v2, main_call0_v3, main_call0_cst_0, main_call0_v4, main_call0_v5, main_v38]
theorem ops1_writes : (ops1 : List (HloOp τ sig (Elt F))).Forall fun op => op.writes ⊆ (ops1_W.map (Proc.devRef (τ := τ) .tc)).toFinset :=
  StableHlo.forall_writes_sub_of_map rfl
theorem ops1_args : ∀ a ∈ argRefs, a ∉ ops1_W := ListAll.forall_mem_of_all_decide (by decide +kernel)

abbrev ops2 : List (HloOp τ sig (Elt F)) :=
  [ StableHlo.binary main_v38 main_arg6 main_v39 ((fun l r => Host.dotGeneral dot_S100000x128_S128_S100000_1_0_0_n_n_n none l r) : (⟨S100000x128, .f32⟩ : BufTy).Contents (Elt F) → (⟨S128, .f32⟩ : BufTy).Contents (Elt F) → (⟨S100000, .f32⟩ : BufTy).Contents (Elt F)),
    StableHlo.binary main_v31 main_v39 main_v40 (addf : (⟨S100000, .f32⟩ : BufTy).Contents (Elt F) → (⟨S100000, .f32⟩ : BufTy).Contents (Elt F) → (⟨S100000, .f32⟩ : BufTy).Contents (Elt F)),
    StableHlo.unary main_arg7 main_v41 (broadcastInDim S100000 ![] bcast_S_S100000 : (⟨S_, .f32⟩ : BufTy).Contents (Elt F) → (⟨S100000, .f32⟩ : BufTy).Contents (Elt F)),
    StableHlo.binary main_v40 main_v41 main_v42 (addf : (⟨S100000, .f32⟩ : BufTy).Contents (Elt F) → (⟨S100000, .f32⟩ : BufTy).Contents (Elt F) → (⟨S100000, .f32⟩ : BufTy).Contents (Elt F)) ]
theorem ops2_sub : (ops2 : List (HloOp τ sig (Elt F))).Forall fun op => op.bufs ⊆ StableHlo.tcRefs τ sig :=
  ⟨StableHlo.binary_bufs_sub .., StableHlo.binary_bufs_sub .., StableHlo.unary_bufs_sub .., StableHlo.binary_bufs_sub ..⟩
theorem ops2_fresh : (ops2 : List (HloOp τ sig (Elt F))).Forall fun op => op.fresh = ∅ := by
  simp only [List.Forall]; repeat' constructor
abbrev ops2_W : List (Ref sig .tc) := [main_v39, main_v40, main_v41, main_v42]
theorem ops2_writes : (ops2 : List (HloOp τ sig (Elt F))).Forall fun op => op.writes ⊆ (ops2_W.map (Proc.devRef (τ := τ) .tc)).toFinset :=
  StableHlo.forall_writes_sub_of_map rfl
theorem ops2_args : ∀ a ∈ argRefs, a ∉ ops2_W := ListAll.forall_mem_of_all_decide (by decide +kernel)

abbrev ops3 : List (HloOp τ sig (Elt F)) :=
  [ StableHlo.nullary main_cst_1 (constant S_ .f32 0x3F800000#32),
    StableHlo.unary main_cst_1 main_v43 (broadcastInDim S100000 ![] bcast_S_S100000 : (⟨S_, .f32⟩ : BufTy).Contents (Elt F) → (⟨S100000, .f32⟩ : BufTy).Contents (Elt F)),
    StableHlo.nullary main_cst_2 (constant S_ .f32 0x00000000#32),
    StableHlo.unary main_cst_2 main_v44 (broadcastInDim S64 ![] bcast_S_S64 : (⟨S_, .f32⟩ : BufTy).Contents (Elt F) → (⟨S64, .f32⟩ : BufTy).Contents (Elt F)),
    StableHlo.unary main_arg1 main_v45 (broadcastInDim S100000x1 ![0] bcast_S100000_S100000x1_0 : (⟨S100000, .i32⟩ : BufTy).Contents (Elt F) → (⟨S100000x1, .i32⟩ : BufTy).Contents (Elt F)),
    StableHlo.ternary main_v44 main_v45 main_v43 main_v46 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_3 (constant S_ .f32 0x00000000#32),
    StableHlo.unary main_cst_3 main_v47 (broadcastInDim S64 ![] bcast_S_S64 : (⟨S_, .f32⟩ : BufTy).Contents (Elt F) → (⟨S64, .f32⟩ : BufTy).Contents (Elt F)),
    StableHlo.unary main_arg1 main_v48 (broadcastInDim S100000x1 ![0] bcast_S100000_S100000x1_0 : (⟨S100000, .i32⟩ : BufTy).Contents (Elt F) → (⟨S100000x1, .i32⟩ : BufTy).Contents (Elt F)),
    StableHlo.ternary main_v47 main_v48 main_v42 main_v49 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_4 (constant S_ .f32 0x3F800000#32),
    StableHlo.unary main_cst_4 main_v50 (broadcastInDim S64 ![] bcast_S_S64 : (⟨S_, .f32⟩ : BufTy).Contents (Elt F) → (⟨S64, .f32⟩ : BufTy).Contents (Elt F)),
    StableHlo.binary main_v46 main_v50 main_v51 (maximumf : (⟨S64, .f32⟩ : BufTy).Contents (Elt F) → (⟨S64, .f32⟩ : BufTy).Contents (Elt F) → (⟨S64, .f32⟩ : BufTy).Contents (Elt F)),
    StableHlo.binary main_v49 main_v51 main_v52 (Host.divf : (⟨S64, .f32⟩ : BufTy).Contents (Elt F) → (⟨S64, .f32⟩ : BufTy).Contents (Elt F) → (⟨S64, .f32⟩ : BufTy).Contents (Elt F)) ]
theorem ops3_sub : (ops3 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.binary_bufs_sub ..⟩
theorem ops3_fresh : (ops3 : List (HloOp τ sig (Elt F))).Forall fun op => op.fresh = ∅ := by
  simp only [List.Forall]; repeat' constructor
abbrev ops3_W : List (Ref sig .tc) := [main_cst_1, main_v43, main_cst_2, main_v44, main_v45, main_v46, main_cst_3, main_v47, main_v48, main_v49, main_cst_4, main_v50, main_v51, main_v52]
theorem ops3_writes : (ops3 : List (HloOp τ sig (Elt F))).Forall fun op => op.writes ⊆ (ops3_W.map (Proc.devRef (τ := τ) .tc)).toFinset :=
  StableHlo.forall_writes_sub_of_map rfl
theorem ops3_args : ∀ a ∈ argRefs, a ∉ ops3_W := ListAll.forall_mem_of_all_decide (by decide +kernel)

abbrev ops4 : List (HloOp τ sig (Elt F)) :=
  [ StableHlo.unary main_arg1 main_v53 (broadcastInDim S1x100000 ![1] bcast_S100000_S1x100000_1 : (⟨S100000, .i32⟩ : BufTy).Contents (Elt F) → (⟨S1x100000, .i32⟩ : BufTy).Contents (Elt F)) ]
theorem ops4_sub : (ops4 : List (HloOp τ sig (Elt F))).Forall fun op => op.bufs ⊆ StableHlo.tcRefs τ sig :=
  StableHlo.unary_bufs_sub ..
theorem ops4_fresh : (ops4 : List (HloOp τ sig (Elt F))).Forall fun op => op.fresh = ∅ := by
  simp only [List.Forall]; repeat' constructor
abbrev ops4_W : List (Ref sig .tc) := [main_v53]
theorem ops4_writes : (ops4 : List (HloOp τ sig (Elt F))).Forall fun op => op.writes ⊆ (ops4_W.map (Proc.devRef (τ := τ) .tc)).toFinset :=
  StableHlo.forall_writes_sub_of_map rfl
theorem ops4_args : ∀ a ∈ argRefs, a ∉ ops4_W := ListAll.forall_mem_of_all_decide (by decide +kernel)

abbrev ops5 : List (HloOp τ sig (Elt F)) :=
  [ StableHlo.nullary main_v54 (iotaInDim S64 32 0),
    StableHlo.unary main_v54 main_v55 (broadcastInDim S64x1 ![0] bcast_S64_S64x1_0 : (⟨S64, .i32⟩ : BufTy).Contents (Elt F) → (⟨S64x1, .i32⟩ : BufTy).Contents (Elt F)),
    StableHlo.unary main_v53 main_v56 (broadcastInDim S64x100000 ![0, 1] bcast_S1x100000_S64x100000_0_1 : (⟨S1x100000, .i32⟩ : BufTy).Contents (Elt F) → (⟨S64x100000, .i32⟩ : BufTy).Contents (Elt F)),
    StableHlo.unary main_v55 main_v57 (broadcastInDim S64x100000 ![0, 1] bcast_S64x1_S64x100000_0_1 : (⟨S64x1, .i32⟩ : BufTy).Contents (Elt F) → (⟨S64x100000, .i32⟩ : BufTy).Contents (Elt F)),
    StableHlo.binary main_v56 main_v57 main_v58 (cmpi .eq : (⟨S64x100000, .i32⟩ : BufTy).Contents (Elt F) → (⟨S64x100000, .i32⟩ : BufTy).Contents (Elt F) → (⟨S64x100000, .i1⟩ : BufTy).Contents (Elt F)) ]
theorem ops5_sub : (ops5 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub ..⟩
theorem ops5_fresh : (ops5 : List (HloOp τ sig (Elt F))).Forall fun op => op.fresh = ∅ := by
  simp only [List.Forall]; repeat' constructor
abbrev ops5_W : List (Ref sig .tc) := [main_v54, main_v55, main_v56, main_v57, main_v58]
theorem ops5_writes : (ops5 : List (HloOp τ sig (Elt F))).Forall fun op => op.writes ⊆ (ops5_W.map (Proc.devRef (τ := τ) .tc)).toFinset :=
  StableHlo.forall_writes_sub_of_map rfl
theorem ops5_args : ∀ a ∈ argRefs, a ∉ ops5_W := ListAll.forall_mem_of_all_decide (by decide +kernel)

abbrev ops6 : List (HloOp τ sig (Elt F)) :=
  [ StableHlo.unary main_v42 main_v59 (broadcastInDim S1x100000 ![1] bcast_S100000_S1x100000_1 : (⟨S100000, .f32⟩ : BufTy).Contents (Elt F) → (⟨S1x100000, .f32⟩ : BufTy).Contents (Elt F)),
    StableHlo.nullary main_cst_5 (constant S_ .f32 0xFF800000#32) ]
theorem ops6_sub : (ops6 : List (HloOp τ sig (Elt F))).Forall fun op => op.bufs ⊆ StableHlo.tcRefs τ sig :=
  ⟨StableHlo.unary_bufs_sub .., StableHlo.nullary_bufs_sub ..⟩
theorem ops6_fresh : (ops6 : List (HloOp τ sig (Elt F))).Forall fun op => op.fresh = ∅ := by
  simp only [List.Forall]; repeat' constructor
abbrev ops6_W : List (Ref sig .tc) := [main_v59, main_cst_5]
theorem ops6_writes : (ops6 : List (HloOp τ sig (Elt F))).Forall fun op => op.writes ⊆ (ops6_W.map (Proc.devRef (τ := τ) .tc)).toFinset :=
  StableHlo.forall_writes_sub_of_map rfl
theorem ops6_args : ∀ a ∈ argRefs, a ∉ ops6_W := ListAll.forall_mem_of_all_decide (by decide +kernel)

abbrev ops7 : List (HloOp τ sig (Elt F)) :=
  [ StableHlo.TRef.unary (.of main_cst_5 : StableHlo.TRef sig ⟨S_, .f32⟩) (.of main_call1_v0 : StableHlo.TRef sig ⟨S_, .f32⟩) id,
    StableHlo.TRef.unary (.of main_v59 : StableHlo.TRef sig ⟨S1x100000, .f32⟩) (.of main_call1_v1 : StableHlo.TRef sig ⟨S64x100000, .f32⟩) (broadcastInDim S64x100000 ![0, 1] bcast_S1x100000_S64x100000_0_1),
    StableHlo.TRef.unary (.of main_call1_v0 : StableHlo.TRef sig ⟨S_, .f32⟩) (.of main_call1_v2 : StableHlo.TRef sig ⟨S64x100000, .f32⟩) (broadcastInDim S64x100000 ![] bcast_S_S64x100000),
    StableHlo.TRef.ternary (.of main_v58 : StableHlo.TRef sig ⟨S64x100000, .i1⟩) (.of main_call1_v1 : StableHlo.TRef sig ⟨S64x100000, .f32⟩) (.of main_call1_v2 : StableHlo.TRef sig ⟨S64x100000, .f32⟩) (.of main_v60 : StableHlo.TRef sig ⟨S64x100000, .f32⟩) select ]
theorem ops7_sub : (ops7 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops7_fresh : (ops7 : List (HloOp τ sig (Elt F))).Forall fun op => op.fresh = ∅ := by
  simp only [List.Forall]; repeat' constructor
abbrev ops7_W : List (Ref sig .tc) := [main_call1_v0, main_call1_v1, main_call1_v2, main_v60]
theorem ops7_writes : (ops7 : List (HloOp τ sig (Elt F))).Forall fun op => op.writes ⊆ (ops7_W.map (Proc.devRef (τ := τ) .tc)).toFinset :=
  StableHlo.forall_writes_sub_of_map rfl
theorem ops7_args : ∀ a ∈ argRefs, a ∉ ops7_W := ListAll.forall_mem_of_all_decide (by decide +kernel)

abbrev ops8 : List (HloOp τ sig (Elt F)) :=
  [ StableHlo.nullary main_cst_6 (constant S_ .f32 0xFF800000#32),
    StableHlo.binary main_v60 main_cst_6 main_v61 ((fun x v => Host.reduce FloatOps.maximumf x v reducesTo_S64x100000_S64_d1 h_S_) : (⟨S64x100000, .f32⟩ : BufTy).Contents (Elt F) → (⟨S_, .f32⟩ : BufTy).Contents (Elt F) → (⟨S64, .f32⟩ : BufTy).Contents (Elt F)) ]
theorem ops8_sub : (ops8 : List (HloOp τ sig (Elt F))).Forall fun op => op.bufs ⊆ StableHlo.tcRefs τ sig :=
  ⟨StableHlo.nullary_bufs_sub .., StableHlo.binary_bufs_sub ..⟩
theorem ops8_fresh : (ops8 : List (HloOp τ sig (Elt F))).Forall fun op => op.fresh = ∅ := by
  simp only [List.Forall]; repeat' constructor
abbrev ops8_W : List (Ref sig .tc) := [main_cst_6, main_v61]
theorem ops8_writes : (ops8 : List (HloOp τ sig (Elt F))).Forall fun op => op.writes ⊆ (ops8_W.map (Proc.devRef (τ := τ) .tc)).toFinset :=
  StableHlo.forall_writes_sub_of_map rfl
theorem ops8_args : ∀ a ∈ argRefs, a ∉ ops8_W := ListAll.forall_mem_of_all_decide (by decide +kernel)

abbrev ops9 : List (HloOp τ sig (Elt F)) :=
  [ StableHlo.unary main_v42 main_v62 (broadcastInDim S1x100000 ![1] bcast_S100000_S1x100000_1 : (⟨S100000, .f32⟩ : BufTy).Contents (Elt F) → (⟨S1x100000, .f32⟩ : BufTy).Contents (Elt F)),
    StableHlo.nullary main_cst_7 (constant S_ .f32 0x7F800000#32) ]
theorem ops9_sub : (ops9 : List (HloOp τ sig (Elt F))).Forall fun op => op.bufs ⊆ StableHlo.tcRefs τ sig :=
  ⟨StableHlo.unary_bufs_sub .., StableHlo.nullary_bufs_sub ..⟩
theorem ops9_fresh : (ops9 : List (HloOp τ sig (Elt F))).Forall fun op => op.fresh = ∅ := by
  simp only [List.Forall]; repeat' constructor
abbrev ops9_W : List (Ref sig .tc) := [main_v62, main_cst_7]
theorem ops9_writes : (ops9 : List (HloOp τ sig (Elt F))).Forall fun op => op.writes ⊆ (ops9_W.map (Proc.devRef (τ := τ) .tc)).toFinset :=
  StableHlo.forall_writes_sub_of_map rfl
theorem ops9_args : ∀ a ∈ argRefs, a ∉ ops9_W := ListAll.forall_mem_of_all_decide (by decide +kernel)

abbrev ops10 : List (HloOp τ sig (Elt F)) :=
  [ StableHlo.TRef.unary (.of main_cst_7 : StableHlo.TRef sig ⟨S_, .f32⟩) (.of main_call2_v0 : StableHlo.TRef sig ⟨S_, .f32⟩) id,
    StableHlo.TRef.unary (.of main_v62 : StableHlo.TRef sig ⟨S1x100000, .f32⟩) (.of main_call2_v1 : StableHlo.TRef sig ⟨S64x100000, .f32⟩) (broadcastInDim S64x100000 ![0, 1] bcast_S1x100000_S64x100000_0_1),
    StableHlo.TRef.unary (.of main_call2_v0 : StableHlo.TRef sig ⟨S_, .f32⟩) (.of main_call2_v2 : StableHlo.TRef sig ⟨S64x100000, .f32⟩) (broadcastInDim S64x100000 ![] bcast_S_S64x100000),
    StableHlo.TRef.ternary (.of main_v58 : StableHlo.TRef sig ⟨S64x100000, .i1⟩) (.of main_call2_v1 : StableHlo.TRef sig ⟨S64x100000, .f32⟩) (.of main_call2_v2 : StableHlo.TRef sig ⟨S64x100000, .f32⟩) (.of main_v63 : StableHlo.TRef sig ⟨S64x100000, .f32⟩) select ]
theorem ops10_sub : (ops10 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
theorem ops10_fresh : (ops10 : List (HloOp τ sig (Elt F))).Forall fun op => op.fresh = ∅ := by
  simp only [List.Forall]; repeat' constructor
abbrev ops10_W : List (Ref sig .tc) := [main_call2_v0, main_call2_v1, main_call2_v2, main_v63]
theorem ops10_writes : (ops10 : List (HloOp τ sig (Elt F))).Forall fun op => op.writes ⊆ (ops10_W.map (Proc.devRef (τ := τ) .tc)).toFinset :=
  StableHlo.forall_writes_sub_of_map rfl
theorem ops10_args : ∀ a ∈ argRefs, a ∉ ops10_W := ListAll.forall_mem_of_all_decide (by decide +kernel)

abbrev ops11 : List (HloOp τ sig (Elt F)) :=
  [ StableHlo.nullary main_cst_8 (constant S_ .f32 0x7F800000#32),
    StableHlo.binary main_v63 main_cst_8 main_v64 ((fun x v => Host.reduce FloatOps.minimumf x v reducesTo_S64x100000_S64_d1 h_S_) : (⟨S64x100000, .f32⟩ : BufTy).Contents (Elt F) → (⟨S_, .f32⟩ : BufTy).Contents (Elt F) → (⟨S64, .f32⟩ : BufTy).Contents (Elt F)) ]
theorem ops11_sub : (ops11 : List (HloOp τ sig (Elt F))).Forall fun op => op.bufs ⊆ StableHlo.tcRefs τ sig :=
  ⟨StableHlo.nullary_bufs_sub .., StableHlo.binary_bufs_sub ..⟩
theorem ops11_fresh : (ops11 : List (HloOp τ sig (Elt F))).Forall fun op => op.fresh = ∅ := by
  simp only [List.Forall]; repeat' constructor
abbrev ops11_W : List (Ref sig .tc) := [main_cst_8, main_v64]
theorem ops11_writes : (ops11 : List (HloOp τ sig (Elt F))).Forall fun op => op.writes ⊆ (ops11_W.map (Proc.devRef (τ := τ) .tc)).toFinset :=
  StableHlo.forall_writes_sub_of_map rfl
theorem ops11_args : ∀ a ∈ argRefs, a ∉ ops11_W := ListAll.forall_mem_of_all_decide (by decide +kernel)

abbrev ops12 : List (HloOp τ sig (Elt F)) :=
  [ StableHlo.nullary main_v65 (iotaInDim S64 32 0),
    StableHlo.unary main_arg1 main_v66 (broadcastInDim S1x100000 ![1] bcast_S100000_S1x100000_1 : (⟨S100000, .i32⟩ : BufTy).Contents (Elt F) → (⟨S1x100000, .i32⟩ : BufTy).Contents (Elt F)),
    StableHlo.unary main_v65 main_v67 (broadcastInDim S64x1 ![0] bcast_S64_S64x1_0 : (⟨S64, .i32⟩ : BufTy).Contents (Elt F) → (⟨S64x1, .i32⟩ : BufTy).Contents (Elt F)),
    StableHlo.unary main_v66 main_v68 (broadcastInDim S64x100000 ![0, 1] bcast_S1x100000_S64x100000_0_1 : (⟨S1x100000, .i32⟩ : BufTy).Contents (Elt F) → (⟨S64x100000, .i32⟩ : BufTy).Contents (Elt F)),
    StableHlo.unary main_v67 main_v69 (broadcastInDim S64x100000 ![0, 1] bcast_S64x1_S64x100000_0_1 : (⟨S64x1, .i32⟩ : BufTy).Contents (Elt F) → (⟨S64x100000, .i32⟩ : BufTy).Contents (Elt F)),
    StableHlo.binary main_v68 main_v69 main_v70 (cmpi .eq : (⟨S64x100000, .i32⟩ : BufTy).Contents (Elt F) → (⟨S64x100000, .i32⟩ : BufTy).Contents (Elt F) → (⟨S64x100000, .i1⟩ : BufTy).Contents (Elt F)),
    StableHlo.unary main_v70 main_v71 ((extui 32 · natLt_1_32) : (⟨S64x100000, .i1⟩ : BufTy).Contents (Elt F) → (⟨S64x100000, .i32⟩ : BufTy).Contents (Elt F)),
    StableHlo.nullary main_c (constantI S_ 32 0#32),
    StableHlo.binary main_v71 main_c main_v72 ((fun x v => Host.reduce IntOp.addi x v reducesTo_S64x100000_S64_d1 h_S_) : (⟨S64x100000, .i32⟩ : BufTy).Contents (Elt F) → (⟨S_, .i32⟩ : BufTy).Contents (Elt F) → (⟨S64, .i32⟩ : BufTy).Contents (Elt F)) ]
theorem ops12_sub : (ops12 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.nullary_bufs_sub .., StableHlo.binary_bufs_sub ..⟩
theorem ops12_fresh : (ops12 : List (HloOp τ sig (Elt F))).Forall fun op => op.fresh = ∅ := by
  simp only [List.Forall]; repeat' constructor
abbrev ops12_W : List (Ref sig .tc) := [main_v65, main_v66, main_v67, main_v68, main_v69, main_v70, main_v71, main_c, main_v72]
theorem ops12_writes : (ops12 : List (HloOp τ sig (Elt F))).Forall fun op => op.writes ⊆ (ops12_W.map (Proc.devRef (τ := τ) .tc)).toFinset :=
  StableHlo.forall_writes_sub_of_map rfl
theorem ops12_args : ∀ a ∈ argRefs, a ∉ ops12_W := ListAll.forall_mem_of_all_decide (by decide +kernel)

abbrev ops13 : List (HloOp τ sig (Elt F)) :=
  [ StableHlo.nullary main_cst_9 (constant S_ .f32 0x7F800000#32) ]
theorem ops13_sub : (ops13 : List (HloOp τ sig (Elt F))).Forall fun op => op.bufs ⊆ StableHlo.tcRefs τ sig :=
  StableHlo.nullary_bufs_sub ..
theorem ops13_fresh : (ops13 : List (HloOp τ sig (Elt F))).Forall fun op => op.fresh = ∅ := by
  simp only [List.Forall]; repeat' constructor
abbrev ops13_W : List (Ref sig .tc) := [main_cst_9]
theorem ops13_writes : (ops13 : List (HloOp τ sig (Elt F))).Forall fun op => op.writes ⊆ (ops13_W.map (Proc.devRef (τ := τ) .tc)).toFinset :=
  StableHlo.forall_writes_sub_of_map rfl
theorem ops13_args : ∀ a ∈ argRefs, a ∉ ops13_W := ListAll.forall_mem_of_all_decide (by decide +kernel)

abbrev ops14 : List (HloOp τ sig (Elt F)) :=
  [ StableHlo.TRef.unary (.of main_cst_9 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S100000, .f32⟩) (broadcastInDim S100000 ![] bcast_S_S100000),
    StableHlo.TRef.unary (.of main_call3_v1 : StableHlo.TRef sig ⟨S100000, .f32⟩) (.of main_call3_v2 : StableHlo.TRef sig ⟨S64x100000, .f32⟩) (broadcastInDim S64x100000 ![1] bcast_S100000_S64x100000_1),
    StableHlo.TRef.unary (.of main_v42 : StableHlo.TRef sig ⟨S100000, .f32⟩) (.of main_call3_v3 : StableHlo.TRef sig ⟨S64x100000, .f32⟩) (broadcastInDim S64x100000 ![1] bcast_S100000_S64x100000_1),
    StableHlo.TRef.ternary (.of main_v70 : StableHlo.TRef sig ⟨S64x100000, .i1⟩) (.of main_call3_v3 : StableHlo.TRef sig ⟨S64x100000, .f32⟩) (.of main_call3_v2 : StableHlo.TRef sig ⟨S64x100000, .f32⟩) (.of main_v73 : StableHlo.TRef sig ⟨S64x100000, .f32⟩) select ]
theorem ops14_sub : (ops14 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.ternary_bufs_sub ..⟩
theorem ops14_fresh : (ops14 : List (HloOp τ sig (Elt F))).Forall fun op => op.fresh = ∅ := by
  simp only [List.Forall]; repeat' constructor
abbrev ops14_W : List (Ref sig .tc) := [main_call3_v0, main_call3_v1, main_call3_v2, main_call3_v3, main_v73]
theorem ops14_writes : (ops14 : List (HloOp τ sig (Elt F))).Forall fun op => op.writes ⊆ (ops14_W.map (Proc.devRef (τ := τ) .tc)).toFinset :=
  StableHlo.forall_writes_sub_of_map rfl
theorem ops14_args : ∀ a ∈ argRefs, a ∉ ops14_W := ListAll.forall_mem_of_all_decide (by decide +kernel)

abbrev ops15 : List (HloOp τ sig (Elt F)) :=
  [ StableHlo.TRef.unary (.of main_v73 : StableHlo.TRef sig ⟨S64x100000, .f32⟩) (.of main_v74 : StableHlo.TRef sig ⟨S64x100000, .f32⟩) (fun x => Host.sort S64x100000 1 comparator_f32_d1 x) ]
theorem ops15_sub : (ops15 : List (HloOp τ sig (Elt F))).Forall fun op => op.bufs ⊆ StableHlo.tcRefs τ sig :=
  StableHlo.unary_bufs_sub ..
theorem ops15_fresh : (ops15 : List (HloOp τ sig (Elt F))).Forall fun op => op.fresh = ∅ := by
  simp only [List.Forall]; repeat' constructor
abbrev ops15_W : List (Ref sig .tc) := [main_v74]
theorem ops15_writes : (ops15 : List (HloOp τ sig (Elt F))).Forall fun op => op.writes ⊆ (ops15_W.map (Proc.devRef (τ := τ) .tc)).toFinset :=
  StableHlo.forall_writes_sub_of_map rfl
theorem ops15_args : ∀ a ∈ argRefs, a ∉ ops15_W := ListAll.forall_mem_of_all_decide (by decide +kernel)

abbrev ops16 : List (HloOp τ sig (Elt F)) :=
  [ StableHlo.nullary main_c_10 (constantI S_ 32 1#32),
    StableHlo.unary main_c_10 main_v75 (broadcastInDim S64 ![] bcast_S_S64 : (⟨S_, .i32⟩ : BufTy).Contents (Elt F) → (⟨S64, .i32⟩ : BufTy).Contents (Elt F)),
    StableHlo.binary main_v72 main_v75 main_v76 (subi : (⟨S64, .i32⟩ : BufTy).Contents (Elt F) → (⟨S64, .i32⟩ : BufTy).Contents (Elt F) → (⟨S64, .i32⟩ : BufTy).Contents (Elt F)),
    StableHlo.unary main_v76 main_v77 (sitofp .f32 : (⟨S64, .i32⟩ : BufTy).Contents (Elt F) → (⟨S64, .f32⟩ : BufTy).Contents (Elt F)) ]
theorem ops16_sub : (ops16 : List (HloOp τ sig (Elt F))).Forall fun op => op.bufs ⊆ StableHlo.tcRefs τ sig :=
  ⟨StableHlo.nullary_bufs_sub .., StableHlo.unary_bufs_sub .., StableHlo.binary_bufs_sub .., StableHlo.unary_bufs_sub ..⟩
theorem ops16_fresh : (ops16 : List (HloOp τ sig (Elt F))).Forall fun op => op.fresh = ∅ := by
  simp only [List.Forall]; repeat' constructor
abbrev ops16_W : List (Ref sig .tc) := [main_c_10, main_v75, main_v76, main_v77]
theorem ops16_writes : (ops16 : List (HloOp τ sig (Elt F))).Forall fun op => op.writes ⊆ (ops16_W.map (Proc.devRef (τ := τ) .tc)).toFinset :=
  StableHlo.forall_writes_sub_of_map rfl
theorem ops16_args : ∀ a ∈ argRefs, a ∉ ops16_W := ListAll.forall_mem_of_all_decide (by decide +kernel)

abbrev ops17 : List (HloOp τ sig (Elt F)) :=
  [ StableHlo.unary main_cst main_v78 (broadcastInDim S1x9 ![1] bcast_S9_S1x9_1 : (⟨S9, .f32⟩ : BufTy).Contents (Elt F) → (⟨S1x9, .f32⟩ : BufTy).Contents (Elt F)),
    StableHlo.unary main_v77 main_v79 (broadcastInDim S64x1 ![0] bcast_S64_S64x1_0 : (⟨S64, .f32⟩ : BufTy).Contents (Elt F) → (⟨S64x1, .f32⟩ : BufTy).Contents (Elt F)),
    StableHlo.unary main_v78 main_v80 (broadcastInDim S64x9 ![0, 1] bcast_S1x9_S64x9_0_1 : (⟨S1x9, .f32⟩ : BufTy).Contents (Elt F) → (⟨S64x9, .f32⟩ : BufTy).Contents (Elt F)),
    StableHlo.unary main_v79 main_v81 (broadcastInDim S64x9 ![0, 1] bcast_S64x1_S64x9_0_1 : (⟨S64x1, .f32⟩ : BufTy).Contents (Elt F) → (⟨S64x9, .f32⟩ : BufTy).Contents (Elt F)),
    StableHlo.binary main_v80 main_v81 main_v82 (mulf : (⟨S64x9, .f32⟩ : BufTy).Contents (Elt F) → (⟨S64x9, .f32⟩ : BufTy).Contents (Elt F) → (⟨S64x9, .f32⟩ : BufTy).Contents (Elt F)),
    StableHlo.unary main_v82 main_v83 (Host.floor : (⟨S64x9, .f32⟩ : BufTy).Contents (Elt F) → (⟨S64x9, .f32⟩ : BufTy).Contents (Elt F)),
    StableHlo.unary main_v83 main_v84 (fptosi 32 : (⟨S64x9, .f32⟩ : BufTy).Contents (Elt F) → (⟨S64x9, .i32⟩ : BufTy).Contents (Elt F)),
    StableHlo.unary main_v82 main_v85 (Host.ceil : (⟨S64x9, .f32⟩ : BufTy).Contents (Elt F) → (⟨S64x9, .f32⟩ : BufTy).Contents (Elt F)),
    StableHlo.unary main_v85 main_v86 (fptosi 32 : (⟨S64x9, .f32⟩ : BufTy).Contents (Elt F) → (⟨S64x9, .i32⟩ : BufTy).Contents (Elt F)),
    StableHlo.unary main_v84 main_v87 (sitofp .f32 : (⟨S64x9, .i32⟩ : BufTy).Contents (Elt F) → (⟨S64x9, .f32⟩ : BufTy).Contents (Elt F)),
    StableHlo.binary main_v82 main_v87 main_v88 (subf : (⟨S64x9, .f32⟩ : BufTy).Contents (Elt F) → (⟨S64x9, .f32⟩ : BufTy).Contents (Elt F) → (⟨S64x9, .f32⟩ : BufTy).Contents (Elt F)) ]
theorem ops17_sub : (ops17 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub ..⟩
theorem ops17_fresh : (ops17 : List (HloOp τ sig (Elt F))).Forall fun op => op.fresh = ∅ := by
  simp only [List.Forall]; repeat' constructor
abbrev ops17_W : List (Ref sig .tc) := [main_v78, main_v79, main_v80, main_v81, main_v82, main_v83, main_v84, main_v85, main_v86, main_v87, main_v88]
theorem ops17_writes : (ops17 : List (HloOp τ sig (Elt F))).Forall fun op => op.writes ⊆ (ops17_W.map (Proc.devRef (τ := τ) .tc)).toFinset :=
  StableHlo.forall_writes_sub_of_map rfl
theorem ops17_args : ∀ a ∈ argRefs, a ∉ ops17_W := ListAll.forall_mem_of_all_decide (by decide +kernel)

abbrev ops18 : List (HloOp τ sig (Elt F)) :=
  [ StableHlo.nullary main_c_11 (constantI S_ 32 0#32),
    StableHlo.unary main_c_11 main_v89 (broadcastInDim S64x9 ![] bcast_S_S64x9 : (⟨S_, .i32⟩ : BufTy).Contents (Elt F) → (⟨S64x9, .i32⟩ : BufTy).Contents (Elt F)),
    StableHlo.binary main_v84 main_v89 main_v90 (cmpi .slt : (⟨S64x9, .i32⟩ : BufTy).Contents (Elt F) → (⟨S64x9, .i32⟩ : BufTy).Contents (Elt F) → (⟨S64x9, .i1⟩ : BufTy).Contents (Elt F)),
    StableHlo.nullary main_c_12 (constantI S_ 32 100000#32),
    StableHlo.unary main_c_12 main_v91 (broadcastInDim S64x9 ![] bcast_S_S64x9 : (⟨S_, .i32⟩ : BufTy).Contents (Elt F) → (⟨S64x9, .i32⟩ : BufTy).Contents (Elt F)),
    StableHlo.binary main_v84 main_v91 main_v92 (addi : (⟨S64x9, .i32⟩ : BufTy).Contents (Elt F) → (⟨S64x9, .i32⟩ : BufTy).Contents (Elt F) → (⟨S64x9, .i32⟩ : BufTy).Contents (Elt F)),
    StableHlo.ternary main_v90 main_v92 main_v84 main_v93 (select : (⟨S64x9, .i1⟩ : BufTy).Contents (Elt F) → (⟨S64x9, .i32⟩ : BufTy).Contents (Elt F) → (⟨S64x9, .i32⟩ : BufTy).Contents (Elt F) → (⟨S64x9, .i32⟩ : BufTy).Contents (Elt F)),
    StableHlo.unary main_v93 main_v94 (broadcastInDim S64x9x1 ![0, 1] bcast_S64x9_S64x9x1_0_1 : (⟨S64x9, .i32⟩ : BufTy).Contents (Elt F) → (⟨S64x9x1, .i32⟩ : BufTy).Contents (Elt F)),
    StableHlo.binary main_v74 main_v94 main_v95 ((fun x i => Host.gather gather_S64x100000_S64x9x1_S64x9_n_1_0_0_1_2_11 x i) : (⟨S64x100000, .f32⟩ : BufTy).Contents (Elt F) → (⟨S64x9x1, .i32⟩ : BufTy).Contents (Elt F) → (⟨S64x9, .f32⟩ : BufTy).Contents (Elt F)),
    StableHlo.nullary main_cst_13 (constant S_ .f32 0x3F800000#32),
    StableHlo.unary main_cst_13 main_v96 (broadcastInDim S64x9 ![] bcast_S_S64x9 : (⟨S_, .f32⟩ : BufTy).Contents (Elt F) → (⟨S64x9, .f32⟩ : BufTy).Contents (Elt F)),
    StableHlo.binary main_v96 main_v88 main_v97 (subf : (⟨S64x9, .f32⟩ : BufTy).Contents (Elt F) → (⟨S64x9, .f32⟩ : BufTy).Contents (Elt F) → (⟨S64x9, .f32⟩ : BufTy).Contents (Elt F)),
    StableHlo.binary main_v95 main_v97 main_v98 (mulf : (⟨S64x9, .f32⟩ : BufTy).Contents (Elt F) → (⟨S64x9, .f32⟩ : BufTy).Contents (Elt F) → (⟨S64x9, .f32⟩ : BufTy).Contents (Elt F)) ]
theorem ops18_sub : (ops18 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.binary_bufs_sub ..⟩
theorem ops18_fresh : (ops18 : List (HloOp τ sig (Elt F))).Forall fun op => op.fresh = ∅ := by
  simp only [List.Forall]; repeat' constructor
abbrev ops18_W : List (Ref sig .tc) := [main_c_11, main_v89, main_v90, main_c_12, main_v91, main_v92, main_v93, main_v94, main_v95, main_cst_13, main_v96, main_v97, main_v98]
theorem ops18_writes : (ops18 : List (HloOp τ sig (Elt F))).Forall fun op => op.writes ⊆ (ops18_W.map (Proc.devRef (τ := τ) .tc)).toFinset :=
  StableHlo.forall_writes_sub_of_map rfl
theorem ops18_args : ∀ a ∈ argRefs, a ∉ ops18_W := ListAll.forall_mem_of_all_decide (by decide +kernel)

abbrev ops19 : List (HloOp τ sig (Elt F)) :=
  [ StableHlo.nullary main_c_14 (constantI S_ 32 0#32),
    StableHlo.unary main_c_14 main_v99 (broadcastInDim S64x9 ![] bcast_S_S64x9 : (⟨S_, .i32⟩ : BufTy).Contents (Elt F) → (⟨S64x9, .i32⟩ : BufTy).Contents (Elt F)),
    StableHlo.binary main_v86 main_v99 main_v100 (cmpi .slt : (⟨S64x9, .i32⟩ : BufTy).Contents (Elt F) → (⟨S64x9, .i32⟩ : BufTy).Contents (Elt F) → (⟨S64x9, .i1⟩ : BufTy).Contents (Elt F)),
    StableHlo.nullary main_c_15 (constantI S_ 32 100000#32),
    StableHlo.unary main_c_15 main_v101 (broadcastInDim S64x9 ![] bcast_S_S64x9 : (⟨S_, .i32⟩ : BufTy).Contents (Elt F) → (⟨S64x9, .i32⟩ : BufTy).Contents (Elt F)) ]
theorem ops19_sub : (ops19 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub ..⟩
theorem ops19_fresh : (ops19 : List (HloOp τ sig (Elt F))).Forall fun op => op.fresh = ∅ := by
  simp only [List.Forall]; repeat' constructor
abbrev ops19_W : List (Ref sig .tc) := [main_c_14, main_v99, main_v100, main_c_15, main_v101]
theorem ops19_writes : (ops19 : List (HloOp τ sig (Elt F))).Forall fun op => op.writes ⊆ (ops19_W.map (Proc.devRef (τ := τ) .tc)).toFinset :=
  StableHlo.forall_writes_sub_of_map rfl
theorem ops19_args : ∀ a ∈ argRefs, a ∉ ops19_W := ListAll.forall_mem_of_all_decide (by decide +kernel)

abbrev ops20 : List (HloOp τ sig (Elt F)) :=
  [ StableHlo.binary main_v86 main_v101 main_v102 (addi : (⟨S64x9, .i32⟩ : BufTy).Contents (Elt F) → (⟨S64x9, .i32⟩ : BufTy).Contents (Elt F) → (⟨S64x9, .i32⟩ : BufTy).Contents (Elt F)),
    StableHlo.ternary main_v100 main_v102 main_v86 main_v103 (select : (⟨S64x9, .i1⟩ : BufTy).Contents (Elt F) → (⟨S64x9, .i32⟩ : BufTy).Contents (Elt F) → (⟨S64x9, .i32⟩ : BufTy).Contents (Elt F) → (⟨S64x9, .i32⟩ : BufTy).Contents (Elt F)),
    StableHlo.unary main_v103 main_v104 (broadcastInDim S64x9x1 ![0, 1] bcast_S64x9_S64x9x1_0_1 : (⟨S64x9, .i32⟩ : BufTy).Contents (Elt F) → (⟨S64x9x1, .i32⟩ : BufTy).Contents (Elt F)),
    StableHlo.binary main_v74 main_v104 main_v105 ((fun x i => Host.gather gather_S64x100000_S64x9x1_S64x9_n_1_0_0_1_2_11 x i) : (⟨S64x100000, .f32⟩ : BufTy).Contents (Elt F) → (⟨S64x9x1, .i32⟩ : BufTy).Contents (Elt F) → (⟨S64x9, .f32⟩ : BufTy).Contents (Elt F)),
    StableHlo.binary main_v105 main_v88 main_v106 (mulf : (⟨S64x9, .f32⟩ : BufTy).Contents (Elt F) → (⟨S64x9, .f32⟩ : BufTy).Contents (Elt F) → (⟨S64x9, .f32⟩ : BufTy).Contents (Elt F)),
    StableHlo.binary main_v98 main_v106 main_v107 (addf : (⟨S64x9, .f32⟩ : BufTy).Contents (Elt F) → (⟨S64x9, .f32⟩ : BufTy).Contents (Elt F) → (⟨S64x9, .f32⟩ : BufTy).Contents (Elt F)) ]
theorem ops20_sub : (ops20 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.binary_bufs_sub .., StableHlo.binary_bufs_sub ..⟩
theorem ops20_fresh : (ops20 : List (HloOp τ sig (Elt F))).Forall fun op => op.fresh = ∅ := by
  simp only [List.Forall]; repeat' constructor
abbrev ops20_W : List (Ref sig .tc) := [main_v102, main_v103, main_v104, main_v105, main_v106, main_v107]
theorem ops20_writes : (ops20 : List (HloOp τ sig (Elt F))).Forall fun op => op.writes ⊆ (ops20_W.map (Proc.devRef (τ := τ) .tc)).toFinset :=
  StableHlo.forall_writes_sub_of_map rfl
theorem ops20_args : ∀ a ∈ argRefs, a ∉ ops20_W := ListAll.forall_mem_of_all_decide (by decide +kernel)

abbrev ops21 : List (HloOp τ sig (Elt F)) :=
  [ StableHlo.unary main_v52 main_v108 (broadcastInDim S64x1 ![0] bcast_S64_S64x1_0 : (⟨S64, .f32⟩ : BufTy).Contents (Elt F) → (⟨S64x1, .f32⟩ : BufTy).Contents (Elt F)),
    StableHlo.unary main_v61 main_v109 (broadcastInDim S64x1 ![0] bcast_S64_S64x1_0 : (⟨S64, .f32⟩ : BufTy).Contents (Elt F) → (⟨S64x1, .f32⟩ : BufTy).Contents (Elt F)),
    StableHlo.unary main_v64 main_v110 (broadcastInDim S64x1 ![0] bcast_S64_S64x1_0 : (⟨S64, .f32⟩ : BufTy).Contents (Elt F) → (⟨S64x1, .f32⟩ : BufTy).Contents (Elt F)),
    StableHlo.nary ![main_v108, main_v109, main_v110, main_v107] main_v111 (fun u => (concatenate S64x12 1 [⟨S64x1, (u 0 : (⟨S64x1, .f32⟩ : BufTy).Contents (Elt F))⟩, ⟨S64x1, (u 1 : (⟨S64x1, .f32⟩ : BufTy).Contents (Elt F))⟩, ⟨S64x1, (u 2 : (⟨S64x1, .f32⟩ : BufTy).Contents (Elt F))⟩, ⟨S64x9, (u 3 : (⟨S64x9, .f32⟩ : BufTy).Contents (Elt F))⟩] concatenates_S64x1_S64x1_S64x1_S64x9_S64x12_d1 : (⟨S64x12, .f32⟩ : BufTy).Contents (Elt F))),
    StableHlo.binary main_v111 main_arg8 main_v112 ((fun l r => Host.dotGeneral dot_S64x12_S12x128_S64x128_1_0_0_1_n_n none l r) : (⟨S64x12, .f32⟩ : BufTy).Contents (Elt F) → (⟨S12x128, .f32⟩ : BufTy).Contents (Elt F) → (⟨S64x128, .f32⟩ : BufTy).Contents (Elt F)),
    StableHlo.unary main_arg9 main_v113 (broadcastInDim S1x128 ![1] bcast_S128_S1x128_1 : (⟨S128, .f32⟩ : BufTy).Contents (Elt F) → (⟨S1x128, .f32⟩ : BufTy).Contents (Elt F)),
    StableHlo.unary main_v113 main_v114 (broadcastInDim S64x128 ![0, 1] bcast_S1x128_S64x128_0_1 : (⟨S1x128, .f32⟩ : BufTy).Contents (Elt F) → (⟨S64x128, .f32⟩ : BufTy).Contents (Elt F)),
    StableHlo.binary main_v112 main_v114 main_v115 (addf : (⟨S64x128, .f32⟩ : BufTy).Contents (Elt F) → (⟨S64x128, .f32⟩ : BufTy).Contents (Elt F) → (⟨S64x128, .f32⟩ : BufTy).Contents (Elt F)) ]
theorem ops21_sub : (ops21 : List (HloOp τ sig (Elt F))).Forall fun op => op.bufs ⊆ StableHlo.tcRefs τ sig :=
  ⟨StableHlo.unary_bufs_sub .., StableHlo.unary_bufs_sub .., StableHlo.unary_bufs_sub .., StableHlo.nary_bufs_sub .., StableHlo.binary_bufs_sub .., StableHlo.unary_bufs_sub .., StableHlo.unary_bufs_sub .., StableHlo.binary_bufs_sub ..⟩
theorem ops21_fresh : (ops21 : List (HloOp τ sig (Elt F))).Forall fun op => op.fresh = ∅ := by
  simp only [List.Forall]; repeat' constructor
abbrev ops21_W : List (Ref sig .tc) := [main_v108, main_v109, main_v110, main_v111, main_v112, main_v113, main_v114, main_v115]
theorem ops21_writes : (ops21 : List (HloOp τ sig (Elt F))).Forall fun op => op.writes ⊆ (ops21_W.map (Proc.devRef (τ := τ) .tc)).toFinset :=
  StableHlo.forall_writes_sub_of_map rfl
theorem ops21_args : ∀ a ∈ argRefs, a ∉ ops21_W := ListAll.forall_mem_of_all_decide (by decide +kernel)

abbrev ops22 : List (HloOp τ sig (Elt F)) :=
  [ StableHlo.TRef.unary (.of main_v115 : StableHlo.TRef sig ⟨S64x128, .f32⟩) (.of main_call5_v0 : StableHlo.TRef sig ⟨S64x128, .f32⟩) Host.negf,
    StableHlo.TRef.unary (.of main_call5_v0 : StableHlo.TRef sig ⟨S64x128, .f32⟩) (.of main_call5_v1 : StableHlo.TRef sig ⟨S64x128, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S64x128, .f32⟩) (broadcastInDim S64x128 ![] bcast_S_S64x128),
    StableHlo.TRef.binary (.of main_call5_v2 : StableHlo.TRef sig ⟨S64x128, .f32⟩) (.of main_call5_v1 : StableHlo.TRef sig ⟨S64x128, .f32⟩) (.of main_call5_v3 : StableHlo.TRef sig ⟨S64x128, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S64x128, .f32⟩) (broadcastInDim S64x128 ![] bcast_S_S64x128),
    StableHlo.TRef.binary (.of main_call5_v4 : StableHlo.TRef sig ⟨S64x128, .f32⟩) (.of main_call5_v3 : StableHlo.TRef sig ⟨S64x128, .f32⟩) (.of main_call5_v5 : StableHlo.TRef sig ⟨S64x128, .f32⟩) Host.divf,
    StableHlo.TRef.binary (.of main_v115 : StableHlo.TRef sig ⟨S64x128, .f32⟩) (.of main_call5_v5 : StableHlo.TRef sig ⟨S64x128, .f32⟩) (.of main_v116 : StableHlo.TRef sig ⟨S64x128, .f32⟩) mulf ]
theorem ops22_sub : (ops22 : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub ..⟩
theorem ops22_fresh : (ops22 : List (HloOp τ sig (Elt F))).Forall fun op => op.fresh = ∅ := by
  simp only [List.Forall]; repeat' constructor
abbrev ops22_W : List (Ref sig .tc) := [main_call5_v0, main_call5_v1, main_call5_cst, main_call5_v2, main_call5_v3, main_call5_cst_0, main_call5_v4, main_call5_v5, main_v116]
theorem ops22_writes : (ops22 : List (HloOp τ sig (Elt F))).Forall fun op => op.writes ⊆ (ops22_W.map (Proc.devRef (τ := τ) .tc)).toFinset :=
  StableHlo.forall_writes_sub_of_map rfl
theorem ops22_args : ∀ a ∈ argRefs, a ∉ ops22_W := ListAll.forall_mem_of_all_decide (by decide +kernel)

abbrev ops23 : List (HloOp τ sig (Elt F)) :=
  [ StableHlo.binary main_v116 main_arg10 main_v117 ((fun l r => Host.dotGeneral dot_S64x128_S128_S64_1_0_0_n_n_n none l r) : (⟨S64x128, .f32⟩ : BufTy).Contents (Elt F) → (⟨S128, .f32⟩ : BufTy).Contents (Elt F) → (⟨S64, .f32⟩ : BufTy).Contents (Elt F)),
    StableHlo.unary main_arg11 main_v118 (broadcastInDim S64 ![] bcast_S_S64 : (⟨S_, .f32⟩ : BufTy).Contents (Elt F) → (⟨S64, .f32⟩ : BufTy).Contents (Elt F)),
    StableHlo.binary main_v117 main_v118 main_v119 (addf : (⟨S64, .f32⟩ : BufTy).Contents (Elt F) → (⟨S64, .f32⟩ : BufTy).Contents (Elt F) → (⟨S64, .f32⟩ : BufTy).Contents (Elt F)) ]
theorem ops23_sub : (ops23 : List (HloOp τ sig (Elt F))).Forall fun op => op.bufs ⊆ StableHlo.tcRefs τ sig :=
  ⟨StableHlo.binary_bufs_sub .., StableHlo.unary_bufs_sub .., StableHlo.binary_bufs_sub ..⟩
theorem ops23_fresh : (ops23 : List (HloOp τ sig (Elt F))).Forall fun op => op.fresh = ∅ := by
  simp only [List.Forall]; repeat' constructor
abbrev ops23_W : List (Ref sig .tc) := [main_v117, main_v118, main_v119]
theorem ops23_writes : (ops23 : List (HloOp τ sig (Elt F))).Forall fun op => op.writes ⊆ (ops23_W.map (Proc.devRef (τ := τ) .tc)).toFinset :=
  StableHlo.forall_writes_sub_of_map rfl
theorem ops23_args : ∀ a ∈ argRefs, a ∉ ops23_W := ListAll.forall_mem_of_all_decide (by decide +kernel)

theorem part0_ops (d : Dev nD) : main_part0 (F := F) d = StableHlo.seq (ops0 ++ ops1 ++ ops2 ++ ops3 ++ ops4) := rfl
theorem part1_ops (d : Dev nD) : main_part1 (F := F) d = StableHlo.seq (ops5 ++ ops6 ++ ops7 ++ ops8 ++ ops9 ++ ops10 ++ ops11 ++ ops12 ++ ops13 ++ ops14 ++ ops15 ++ ops16 ++ ops17 ++ ops18 ++ ops19) := rfl
theorem part2_ops (d : Dev nD) : main_part2 (F := F) d = StableHlo.seq (ops20 ++ ops21 ++ ops22 ++ ops23) := rfl

/-- The whole list. -/
def ops : List (HloOp τ sig (Elt F)) := (ops0 ++ ops1 ++ ops2 ++ ops3 ++ ops4) ++ ((ops5 ++ ops6 ++ ops7 ++ ops8 ++ ops9 ++ ops10 ++ ops11 ++ ops12 ++ ops13 ++ ops14 ++ ops15 ++ ops16 ++ ops17 ++ ops18 ++ ops19) ++ (ops20 ++ ops21 ++ ops22 ++ ops23))

theorem main_ops (d : Dev nD) : main (F := F) d = StableHlo.seq ops := by
  unfold ops
  exact (show main (F := F) d = (main_part0 d >>= fun _ => main_part1 d >>= fun _ => main_part2 d) from rfl).trans
    (by rw [part0_ops, part1_ops, part2_ops, StableHlo.seq_append (_ ++ _ ++ _ ++ _ ++ _) (_ ++ _), StableHlo.seq_append (ops5 ++ ops6 ++ ops7 ++ ops8 ++ ops9 ++ ops10 ++ ops11 ++ ops12 ++ ops13 ++ ops14 ++ ops15 ++ ops16 ++ ops17 ++ ops18 ++ ops19) (ops20 ++ ops21 ++ ops22 ++ ops23)])

theorem ops_sub : (ops : List (HloOp τ sig (Elt F))).Forall fun op => op.bufs ⊆ StableHlo.tcRefs τ sig := by
  unfold ops
  simp only [List.forall_append]
  exact ⟨⟨⟨⟨⟨ops0_sub, ops1_sub⟩, ops2_sub⟩, ops3_sub⟩, ops4_sub⟩, ⟨⟨⟨⟨⟨⟨⟨⟨⟨⟨⟨⟨⟨⟨ops5_sub, ops6_sub⟩, ops7_sub⟩, ops8_sub⟩, ops9_sub⟩, ops10_sub⟩, ops11_sub⟩, ops12_sub⟩, ops13_sub⟩, ops14_sub⟩, ops15_sub⟩, ops16_sub⟩, ops17_sub⟩, ops18_sub⟩, ops19_sub⟩, ⟨⟨⟨ops20_sub, ops21_sub⟩, ops22_sub⟩, ops23_sub⟩⟩

theorem ops_fresh : ∀ op ∈ (ops : List (HloOp τ sig (Elt F))), op.fresh = ∅ := by
  rw [← List.forall_iff_forall_mem]
  unfold ops
  simp only [List.forall_append]
  exact ⟨⟨⟨⟨⟨ops0_fresh, ops1_fresh⟩, ops2_fresh⟩, ops3_fresh⟩, ops4_fresh⟩, ⟨⟨⟨⟨⟨⟨⟨⟨⟨⟨⟨⟨⟨⟨ops5_fresh, ops6_fresh⟩, ops7_fresh⟩, ops8_fresh⟩, ops9_fresh⟩, ops10_fresh⟩, ops11_fresh⟩, ops12_fresh⟩, ops13_fresh⟩, ops14_fresh⟩, ops15_fresh⟩, ops16_fresh⟩, ops17_fresh⟩, ops18_fresh⟩, ops19_fresh⟩, ⟨⟨⟨ops20_fresh, ops21_fresh⟩, ops22_fresh⟩, ops23_fresh⟩⟩

theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons a l ih => exact ih _

variable (m : (ℓ : Loc nD τ sig) → Buf (Elt F) ℓ)

/-- The buffers' contents before the first piece. -/
def V0 (c : Dev nD) : Valuation τ sig (Elt F) := StableHlo.launchContents m c
/-- The contents after piece 0. -/
def V1 (c : Dev nD) : Valuation τ sig (Elt F) := StableHlo.after ops0 (V0 m c)
theorem V1_of (c : Dev nD) {b : Ref sig .tc} (h : b ∉ ops0_W) : V1 m c (Proc.devRef .tc b) = V0 m c (Proc.devRef .tc b) :=
  StableHlo.after_of_writes_sub ops0 (V0 m c) ops0_writes h
/-- The contents after piece 1. -/
def V2 (c : Dev nD) : Valuation τ sig (Elt F) := StableHlo.after ops1 (V1 m c)
theorem V2_of (c : Dev nD) {b : Ref sig .tc} (h : b ∉ ops1_W) : V2 m c (Proc.devRef .tc b) = V1 m c (Proc.devRef .tc b) :=
  StableHlo.after_of_writes_sub ops1 (V1 m c) ops1_writes h
/-- The contents after piece 2. -/
def V3 (c : Dev nD) : Valuation τ sig (Elt F) := StableHlo.after ops2 (V2 m c)
theorem V3_of (c : Dev nD) {b : Ref sig .tc} (h : b ∉ ops2_W) : V3 m c (Proc.devRef .tc b) = V2 m c (Proc.devRef .tc b) :=
  StableHlo.after_of_writes_sub ops2 (V2 m c) ops2_writes h
/-- The contents after piece 3. -/
def V4 (c : Dev nD) : Valuation τ sig (Elt F) := StableHlo.after ops3 (V3 m c)
theorem V4_of (c : Dev nD) {b : Ref sig .tc} (h : b ∉ ops3_W) : V4 m c (Proc.devRef .tc b) = V3 m c (Proc.devRef .tc b) :=
  StableHlo.after_of_writes_sub ops3 (V3 m c) ops3_writes h
/-- The contents after piece 4. -/
def V5 (c : Dev nD) : Valuation τ sig (Elt F) := StableHlo.after ops4 (V4 m c)
theorem V5_of (c : Dev nD) {b : Ref sig .tc} (h : b ∉ ops4_W) : V5 m c (Proc.devRef .tc b) = V4 m c (Proc.devRef .tc b) :=
  StableHlo.after_of_writes_sub ops4 (V4 m c) ops4_writes h
/-- The contents after piece 5. -/
def V6 (c : Dev nD) : Valuation τ sig (Elt F) := StableHlo.after ops5 (V5 m c)
theorem V6_of (c : Dev nD) {b : Ref sig .tc} (h : b ∉ ops5_W) : V6 m c (Proc.devRef .tc b) = V5 m c (Proc.devRef .tc b) :=
  StableHlo.after_of_writes_sub ops5 (V5 m c) ops5_writes h
/-- The contents after piece 6. -/
def V7 (c : Dev nD) : Valuation τ sig (Elt F) := StableHlo.after ops6 (V6 m c)
theorem V7_of (c : Dev nD) {b : Ref sig .tc} (h : b ∉ ops6_W) : V7 m c (Proc.devRef .tc b) = V6 m c (Proc.devRef .tc b) :=
  StableHlo.after_of_writes_sub ops6 (V6 m c) ops6_writes h
/-- The contents after piece 7. -/
def V8 (c : Dev nD) : Valuation τ sig (Elt F) := StableHlo.after ops7 (V7 m c)
theorem V8_of (c : Dev nD) {b : Ref sig .tc} (h : b ∉ ops7_W) : V8 m c (Proc.devRef .tc b) = V7 m c (Proc.devRef .tc b) :=
  StableHlo.after_of_writes_sub ops7 (V7 m c) ops7_writes h
/-- The contents after piece 8. -/
def V9 (c : Dev nD) : Valuation τ sig (Elt F) := StableHlo.after ops8 (V8 m c)
theorem V9_of (c : Dev nD) {b : Ref sig .tc} (h : b ∉ ops8_W) : V9 m c (Proc.devRef .tc b) = V8 m c (Proc.devRef .tc b) :=
  StableHlo.after_of_writes_sub ops8 (V8 m c) ops8_writes h
/-- The contents after piece 9. -/
def V10 (c : Dev nD) : Valuation τ sig (Elt F) := StableHlo.after ops9 (V9 m c)
theorem V10_of (c : Dev nD) {b : Ref sig .tc} (h : b ∉ ops9_W) : V10 m c (Proc.devRef .tc b) = V9 m c (Proc.devRef .tc b) :=
  StableHlo.after_of_writes_sub ops9 (V9 m c) ops9_writes h
/-- The contents after piece 10. -/
def V11 (c : Dev nD) : Valuation τ sig (Elt F) := StableHlo.after ops10 (V10 m c)
theorem V11_of (c : Dev nD) {b : Ref sig .tc} (h : b ∉ ops10_W) : V11 m c (Proc.devRef .tc b) = V10 m c (Proc.devRef .tc b) :=
  StableHlo.after_of_writes_sub ops10 (V10 m c) ops10_writes h
/-- The contents after piece 11. -/
def V12 (c : Dev nD) : Valuation τ sig (Elt F) := StableHlo.after ops11 (V11 m c)
theorem V12_of (c : Dev nD) {b : Ref sig .tc} (h : b ∉ ops11_W) : V12 m c (Proc.devRef .tc b) = V11 m c (Proc.devRef .tc b) :=
  StableHlo.after_of_writes_sub ops11 (V11 m c) ops11_writes h
/-- The contents after piece 12. -/
def V13 (c : Dev nD) : Valuation τ sig (Elt F) := StableHlo.after ops12 (V12 m c)
theorem V13_of (c : Dev nD) {b : Ref sig .tc} (h : b ∉ ops12_W) : V13 m c (Proc.devRef .tc b) = V12 m c (Proc.devRef .tc b) :=
  StableHlo.after_of_writes_sub ops12 (V12 m c) ops12_writes h
/-- The contents after piece 13. -/
def V14 (c : Dev nD) : Valuation τ sig (Elt F) := StableHlo.after ops13 (V13 m c)
theorem V14_of (c : Dev nD) {b : Ref sig .tc} (h : b ∉ ops13_W) : V14 m c (Proc.devRef .tc b) = V13 m c (Proc.devRef .tc b) :=
  StableHlo.after_of_writes_sub ops13 (V13 m c) ops13_writes h
/-- The contents after piece 14. -/
def V15 (c : Dev nD) : Valuation τ sig (Elt F) := StableHlo.after ops14 (V14 m c)
theorem V15_of (c : Dev nD) {b : Ref sig .tc} (h : b ∉ ops14_W) : V15 m c (Proc.devRef .tc b) = V14 m c (Proc.devRef .tc b) :=
  StableHlo.after_of_writes_sub ops14 (V14 m c) ops14_writes h
/-- The contents after piece 15. -/
def V16 (c : Dev nD) : Valuation τ sig (Elt F) := StableHlo.after ops15 (V15 m c)
theorem V16_of (c : Dev nD) {b : Ref sig .tc} (h : b ∉ ops15_W) : V16 m c (Proc.devRef .tc b) = V15 m c (Proc.devRef .tc b) :=
  StableHlo.after_of_writes_sub ops15 (V15 m c) ops15_writes h
/-- The contents after piece 16. -/
def V17 (c : Dev nD) : Valuation τ sig (Elt F) := StableHlo.after ops16 (V16 m c)
theorem V17_of (c : Dev nD) {b : Ref sig .tc} (h : b ∉ ops16_W) : V17 m c (Proc.devRef .tc b) = V16 m c (Proc.devRef .tc b) :=
  StableHlo.after_of_writes_sub ops16 (V16 m c) ops16_writes h
/-- The contents after piece 17. -/
def V18 (c : Dev nD) : Valuation τ sig (Elt F) := StableHlo.after ops17 (V17 m c)
theorem V18_of (c : Dev nD) {b : Ref sig .tc} (h : b ∉ ops17_W) : V18 m c (Proc.devRef .tc b) = V17 m c (Proc.devRef .tc b) :=
  StableHlo.after_of_writes_sub ops17 (V17 m c) ops17_writes h
/-- The contents after piece 18. -/
def V19 (c : Dev nD) : Valuation τ sig (Elt F) := StableHlo.after ops18 (V18 m c)
theorem V19_of (c : Dev nD) {b : Ref sig .tc} (h : b ∉ ops18_W) : V19 m c (Proc.devRef .tc b) = V18 m c (Proc.devRef .tc b) :=
  StableHlo.after_of_writes_sub ops18 (V18 m c) ops18_writes h
/-- The contents after piece 19. -/
def V20 (c : Dev nD) : Valuation τ sig (Elt F) := StableHlo.after ops19 (V19 m c)
theorem V20_of (c : Dev nD) {b : Ref sig .tc} (h : b ∉ ops19_W) : V20 m c (Proc.devRef .tc b) = V19 m c (Proc.devRef .tc b) :=
  StableHlo.after_of_writes_sub ops19 (V19 m c) ops19_writes h
/-- The contents after piece 20. -/
def V21 (c : Dev nD) : Valuation τ sig (Elt F) := StableHlo.after ops20 (V20 m c)
theorem V21_of (c : Dev nD) {b : Ref sig .tc} (h : b ∉ ops20_W) : V21 m c (Proc.devRef .tc b) = V20 m c (Proc.devRef .tc b) :=
  StableHlo.after_of_writes_sub ops20 (V20 m c) ops20_writes h
/-- The contents after piece 21. -/
def V22 (c : Dev nD) : Valuation τ sig (Elt F) := StableHlo.after ops21 (V21 m c)
theorem V22_of (c : Dev nD) {b : Ref sig .tc} (h : b ∉ ops21_W) : V22 m c (Proc.devRef .tc b) = V21 m c (Proc.devRef .tc b) :=
  StableHlo.after_of_writes_sub ops21 (V21 m c) ops21_writes h
/-- The contents after piece 22. -/
def V23 (c : Dev nD) : Valuation τ sig (Elt F) := StableHlo.after ops22 (V22 m c)
theorem V23_of (c : Dev nD) {b : Ref sig .tc} (h : b ∉ ops22_W) : V23 m c (Proc.devRef .tc b) = V22 m c (Proc.devRef .tc b) :=
  StableHlo.after_of_writes_sub ops22 (V22 m c) ops22_writes h
/-- The contents after piece 23. -/
def V24 (c : Dev nD) : Valuation τ sig (Elt F) := StableHlo.after ops23 (V23 m c)
theorem V24_of (c : Dev nD) {b : Ref sig .tc} (h : b ∉ ops23_W) : V24 m c (Proc.devRef .tc b) = V23 m c (Proc.devRef .tc b) :=
  StableHlo.after_of_writes_sub ops23 (V23 m c) ops23_writes h

theorem after_ops (c : Dev nD) : StableHlo.after ops (StableHlo.launchContents m c) = V24 m c := by
  unfold ops
  simp only [after_append]
  rfl

theorem VN_args (c : Dev nD) (b : Ref sig .tc) (hb : b ∈ argRefs) : V24 m c (Proc.devRef .tc b) = V0 m c (Proc.devRef .tc b) := by
  rw [V24_of m c (ops23_args b hb), V23_of m c (ops22_args b hb), V22_of m c (ops21_args b hb), V21_of m c (ops20_args b hb), V20_of m c (ops19_args b hb), V19_of m c (ops18_args b hb), V18_of m c (ops17_args b hb), V17_of m c (ops16_args b hb), V16_of m c (ops15_args b hb), V15_of m c (ops14_args b hb), V14_of m c (ops13_args b hb), V13_of m c (ops12_args b hb), V12_of m c (ops11_args b hb), V11_of m c (ops10_args b hb), V10_of m c (ops9_args b hb), V9_of m c (ops8_args b hb), V8_of m c (ops7_args b hb), V7_of m c (ops6_args b hb), V6_of m c (ops5_args b hb), V5_of m c (ops4_args b hb), V4_of m c (ops3_args b hb), V3_of m c (ops2_args b hb), V2_of m c (ops1_args b hb), V1_of m c (ops0_args b hb)]

/-- Every run of the reference ends with each buffer at what the list leaves in it. -/
theorem run (ρ : Dev nD → PrngReg) :
    θ_run defs (onTc (τ := τ) (main (F := F))) ⟨m, fun _ => 0, ρ⟩ (fun r =>
      (∀ (c : Dev nD) (b : Ref sig .tc), r.2.mem ((c.tc : Thread nD τ).loc b) = V24 m c (Proc.devRef .tc b)) ∧ r.2.sem = fun _ => 0) := by
  refine θ_run_mono (StableHlo.run_seq (by decide) (by decide) defs main (fun _ => ops) main_ops (fun _ => ops_sub) m ρ (fun _ => ops_fresh)) ?_
  intro r h
  refine ⟨fun c b => by rw [h c b, after_ops], ?_⟩
  exact funext fun g => nomatch g

/-- Every run of the reference ends, with its arguments as they were and no signal outstanding. -/
theorem frame (ρ : Dev nD → PrngReg) :
    θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) := by
  refine θ_run_mono (run m ρ) ?_
  intro r ⟨h, hs⟩
  refine ⟨fun c => ⟨(h c main_arg0).trans (VN_args m c main_arg0 (by decide)), (h c main_arg1).trans (VN_args m c main_arg1 (by decide)), (h c main_arg2).trans (VN_args m c main_arg2 (by decide)), (h c main_arg3).trans (VN_args m c main_arg3 (by decide)), (h c main_arg4).trans (VN_args m c main_arg4 (by decide)), (h c main_arg5).trans (VN_args m c main_arg5 (by decide)), (h c main_arg6).trans (VN_args m c main_arg6 (by decide)), (h c main_arg7).trans (VN_args m c main_arg7 (by decide)), (h c main_arg8).trans (VN_args m c main_arg8 (by decide)), (h c main_arg9).trans (VN_args m c main_arg9 (by decide)), (h c main_arg10).trans (VN_args m c main_arg10 (by decide)), (h c main_arg11).trans (VN_args m c main_arg11 (by decide))⟩, hs⟩

end Cert.ReferenceIdeal.Run
-- ==== Proof.DataV.lean ====
/- The arguments as plain functions, the node values as the problem states them, and the statistics of a segment. -/
module

public import Idealize.ShloMosaic.PureOps.Ideal
public import Idealize.ShloMosaic.PureOps

@[expose] public section

noncomputable section

namespace Cert.Spec

open Idealize.ShloMosaic

/-- The smooth gate `x · 1/(1 + e^(-x))`. -/
def silu (x : EReal) : EReal := x * Ideal.logistic x

/-- The twelve arguments, read at their indices. -/
structure Args where
  e : Fin 100000 → Fin 128 → Fin 4 → EReal
  b : Fin 100000 → BitVec 32
  lw : Fin 3 → Fin 128 → EReal
  lb : Fin 3 → EReal
  w1 : Fin 128 → Fin 128 → EReal
  b1 : Fin 128 → EReal
  w2 : Fin 128 → EReal
  b2 : EReal
  m1 : Fin 12 → Fin 128 → EReal
  c1 : Fin 128 → EReal
  m2 : Fin 128 → EReal
  c2 : EReal

/-- The hidden layer of a node. -/
def Args.hid (a : Args) (i : Fin 100000) (h : Fin 128) : EReal := silu (∑ k : Fin 128, a.e i k 3 * a.w1 k h + a.b1 h)

/-- The value of a node: three linear forms, each with its bias, and the small network on the fourth feature. -/
def Args.node (a : Args) (i : Fin 100000) : EReal :=
  0 + ∑ k : Fin 128, a.e i k 0 * a.lw 0 k + a.lb 0 + ∑ k : Fin 128, a.e i k 1 * a.lw 1 k + a.lb 1 + ∑ k : Fin 128, a.e i k 2 * a.lw 2 k + a.lb 2
    + ∑ h : Fin 128, a.hid i h * a.w2 h + a.b2

/-- The two layers at the end on the twelve statistics of a segment. -/
def fin12 (a : Fin 12 → EReal) (w1 : Fin 12 → Fin 128 → EReal) (b1 w2 : Fin 128 → EReal) (b2 : EReal) : EReal :=
  ∑ h : Fin 128, silu (∑ k : Fin 12, a k * w1 k h + b1 h) * w2 h + b2

/-- The position of quantile `c` among `n` entries. -/
def qpos (c : ℝ) (n : ℕ) : ℝ := c * ((n : ℝ) - 1)

/-- The quantile `c` of `n` sorted entries `S`, interpolated between the two neighbours of its position. -/
def quantS (c : ℝ) (n : ℕ) (S : ℕ → EReal) : EReal :=
  S ⌊qpos c n⌋₊ * (1 - (((qpos c n : ℝ) : EReal) - ((⌊qpos c n⌋₊ : ℝ) : EReal))) + S ⌈qpos c n⌉₊ * (((qpos c n : ℝ) : EReal) - ((⌊qpos c n⌋₊ : ℝ) : EReal))

theorem qpos_nonneg (c : ℝ) (n : ℕ) (h0 : 0 ≤ c) (hn : 1 ≤ n) : 0 ≤ qpos c n :=
  mul_nonneg h0 (sub_nonneg.2 (by exact_mod_cast hn))

theorem qpos_le (c : ℝ) (n : ℕ) (h1 : c ≤ 1) (hn : 1 ≤ n) : qpos c n ≤ ((n - 1 : ℕ) : ℝ) := by
  rw [Nat.cast_sub hn]
  have : (0 : ℝ) ≤ (n : ℝ) - 1 := sub_nonneg.2 (by exact_mod_cast hn)
  unfold qpos
  push_cast
  nlinarith

theorem ceil_lt (c : ℝ) (n : ℕ) (h1 : c ≤ 1) (hn : 1 ≤ n) : ⌈qpos c n⌉₊ < n := by
  have := Nat.ceil_le.2 (qpos_le c n h1 hn)
  omega

theorem floor_lt (c : ℝ) (n : ℕ) (h1 : c ≤ 1) (hn : 1 ≤ n) : ⌊qpos c n⌋₊ < n :=
  lt_of_le_of_lt (Nat.floor_le_ceil _) (ceil_lt c n h1 hn)

theorem quantS_congr (c : ℝ) (n : ℕ) (h1 : c ≤ 1) (hn : 1 ≤ n) (S T : ℕ → EReal) (h : ∀ k, k < n → S k = T k) : quantS c n S = quantS c n T := by
  unfold quantS
  rw [h _ (floor_lt c n h1 hn), h _ (ceil_lt c n h1 hn)]

theorem liftFloor (x : ℝ) (h : 0 ≤ x) : Ideal.liftRound Int.floor ((x : ℝ) : EReal) = ((⌊x⌋₊ : ℝ) : EReal) := by
  show (((⌊x⌋ : ℤ) : ℝ) : EReal) = _
  rw [← natCast_floor_eq_intCast_floor h]

theorem liftCeil (x : ℝ) (h : 0 ≤ x) : Ideal.liftRound Int.ceil ((x : ℝ) : EReal) = ((⌈x⌉₊ : ℝ) : EReal) := by
  show (((⌈x⌉ : ℤ) : ℝ) : EReal) = _
  rw [← natCast_ceil_eq_intCast_ceil h]

theorem toInt_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast, min_eq_right (by norm_num; omega), max_eq_right (by norm_num)]
  rfl

theorem coe_sum {ι : Type} (s : Finset ι) (f : ι → ℝ) : ((∑ x ∈ s, f x : ℝ) : EReal) = ∑ x ∈ s, ((f x : ℝ) : EReal) := by
  classical
  induction s using Finset.induction_on with
  | empty => simp
  | insert a s ha ih => rw [Finset.sum_insert ha, Finset.sum_insert ha, EReal.coe_add, ih]

/-- The nine quantiles, as the 32-bit patterns they are written with, -/
def qbits : Fin 9 → BitVec 32 :=
  ![0x3DCCCCCD#32, 0x3E4CCCCD#32, 0x3E99999A#32, 0x3ECCCCCD#32, 0x3F000000#32, 0x3F19999A#32, 0x3F333333#32, 0x3F4CCCCD#32, 0x3F666666#32]

/-- and as the numbers these patterns denote. -/
def qv : Fin 9 → ℝ :=
  ![13421773 / 134217728, 13421773 / 67108864, 10066330 / 33554432, 13421773 / 33554432, 1 / 2, 10066330 / 16777216, 11744051 / 16777216, 13421773 / 16777216, 15099494 / 16777216]

theorem qv_bits (q : Fin 9) : Ideal.ofBits .f32 (qbits q) = ((qv q : ℝ) : EReal) := by
  fin_cases q <;> (simp [qbits, qv, Ideal.ofBits, Ideal.ieee, -EReal.coe_mul]; try norm_num)

theorem qv_nonneg (q : Fin 9) : 0 ≤ qv q := by fin_cases q <;> simp [qv] <;> norm_num

theorem qv_le (q : Fin 9) : qv q ≤ 1 := by fin_cases q <;> simp [qv] <;> norm_num

end Cert.Spec
-- ==== Proof.Rank.lean ====
/- Order statistics: a value is the `p`-th of a finite family when fewer than or exactly `p` entries lie strictly below it and more than `p` lie
   at or below it. A sorted sequence holds such values, and there is only one at each `p`. -/
module

public import Idealize.ShloMosaic.PureOps
public import Idealize.ShloMosaic.Lib.SortFacts
public import Mathlib.Data.EReal.Basic
public import Mathlib.Data.Fintype.BigOperators
public import Mathlib.Data.Prod.Lex
public import Mathlib.Order.Interval.Finset.Fin

@[expose] public section

noncomputable section

namespace Cert.Rank

open Idealize.ShloMosaic

/-- `v` is the `p`-th smallest (from 0) of the entries of `x` at the members of `S`. -/
def IsRank {ι α : Type} [LinearOrder α] (S : Finset ι) (x : ι → α) (p : ℕ) (v : α) : Prop :=
  (S.filter fun i => x i < v).card ≤ p ∧ p < (S.filter fun i => x i ≤ v).card

theorem IsRank.unique {ι α : Type} [LinearOrder α] {S : Finset ι} {x : ι → α} {p : ℕ} {v w : α}
    (hv : IsRank S x p v) (hw : IsRank S x p w) : v = w := by
  rcases lt_trichotomy v w with h | h | h
  · have : (S.filter fun i => x i ≤ v).card ≤ (S.filter fun i => x i < w).card :=
      Finset.card_le_card fun i hi => by
        simp only [Finset.mem_filter] at hi ⊢; exact ⟨hi.1, lt_of_le_of_lt hi.2 h⟩
    have h1 := hv.2; have h2 := hw.1; omega
  · exact h
  · have : (S.filter fun i => x i ≤ w).card ≤ (S.filter fun i => x i < v).card :=
      Finset.card_le_card fun i hi => by
        simp only [Finset.mem_filter] at hi ⊢; exact ⟨hi.1, lt_of_le_of_lt hi.2 h⟩
    have h1 := hw.2; have h2 := hv.1; omega

/-- The entry that a sort puts at position `p` is the `p`-th smallest. -/
theorem isRank_sortedFrom {n : ℕ} {α : Type} [LinearOrder α] (key : Fin n → α) (p : Fin n) :
    IsRank Finset.univ key p.val (key (sortedFrom (fun k k' => decide (key k < key k')) p)) := by
  set σ := sortedFrom (fun k k' : Fin n => decide (key k < key k')) with hσ
  have hinj : Function.Injective σ := sortedFrom_injective _
  have hmono : ∀ i j : Fin n, i < j → key (σ i) ≤ key (σ j) := by
    intro i j hij
    have := sortedFrom_noInversion (fun k k' : Fin n => decide (key k < key k')) (fun k k' => decide (key k < key k'))
      (fun a b h => by simp only [decide_eq_true_eq] at h; simp only [decide_eq_false_iff_not, not_lt]; exact le_of_lt h)
      (fun a b h => h)
      (fun a b c h1 h2 => by
        simp only [decide_eq_false_iff_not, not_lt] at *; exact le_trans h2 h1) i j hij
    simpa using this
  have himg : ∀ P : Fin n → Prop, ∀ [DecidablePred P],
      (Finset.univ.filter P).card = (Finset.univ.filter fun q => P (σ q)).card := by
    intro P _
    have hs : Function.Surjective σ := sortedFrom_surjective _
    symm
    refine Finset.card_bij (fun q _ => σ q) (fun q hq => by simpa using hq) (fun a _ b _ h => hinj h) (fun b hb => ?_)
    obtain ⟨a, rfl⟩ := hs b
    exact ⟨a, by simpa using hb, rfl⟩
  constructor
  · rw [himg fun i => key i < key (σ p)]
    calc (Finset.univ.filter fun q => key (σ q) < key (σ p)).card ≤ (Finset.Iio p).card := by
          refine Finset.card_le_card fun q hq => ?_
          simp only [Finset.mem_filter, Finset.mem_univ, true_and] at hq
          rw [Finset.mem_Iio]
          by_contra hc
          rcases (not_lt.mp hc).eq_or_lt with h | h
          · rw [h] at hq; exact lt_irrefl _ hq
          · exact absurd hq (not_lt.mpr (hmono _ _ h))
      _ = p.val := Fin.card_Iio p
  · rw [himg fun i => key i ≤ key (σ p)]
    calc p.val < p.val + 1 := Nat.lt_succ_self _
      _ = (Finset.Iic p).card := (Fin.card_Iic p).symm
      _ ≤ _ := by
          refine Finset.card_le_card fun q hq => ?_
          rw [Finset.mem_Iic] at hq
          simp only [Finset.mem_filter, Finset.mem_univ, true_and]
          rcases hq.eq_or_lt with h | h
          · rw [h]
          · exact hmono _ _ h

/-- Sorted by segment and then by value, the entry at position (number of entries in earlier segments) + `k` is the `k`-th smallest
    of the segment. -/
theorem isRank_of_lex {ι : Type} [Fintype ι] {α : Type} [LinearOrder α] (seg : ι → ℤ) (x : ι → α) (b : ℤ) (k : ℕ)
    (hk : k < (Finset.univ.filter fun i => seg i = b).card) (i₀ : ι)
    (h : IsRank (Finset.univ : Finset ι) (fun i => toLex (seg i, x i)) ((Finset.univ.filter fun i => seg i < b).card + k) (toLex (seg i₀, x i₀))) :
    IsRank (Finset.univ.filter fun i => seg i = b) x k (x i₀) := by
  classical
  obtain ⟨h1, h2⟩ := h
  beta_reduce at h1 h2
  have hle : (Finset.univ.filter fun i => seg i ≤ b).card
      = (Finset.univ.filter fun i => seg i < b).card + (Finset.univ.filter fun i => seg i = b).card := by
    rw [← Finset.card_union_of_disjoint]
    · congr 1; ext i; simp [le_iff_lt_or_eq]
    · rw [Finset.disjoint_filter]; intro i _ h h'; omega
  have hb : seg i₀ = b := by
    rcases lt_trichotomy (seg i₀) b with hlt | he | hgt
    · exfalso
      have : (Finset.univ.filter fun i => toLex (seg i, x i) ≤ toLex (seg i₀, x i₀)).card
          ≤ (Finset.univ.filter fun i => seg i < b).card := by
        refine Finset.card_le_card fun i hi => ?_
        simp only [Finset.mem_filter, Finset.mem_univ, true_and, Prod.Lex.toLex_le_toLex] at hi ⊢
        rcases hi with hi | hi <;> omega
      omega
    · exact he
    · exfalso
      have : (Finset.univ.filter fun i => seg i ≤ b).card
          ≤ (Finset.univ.filter fun i => toLex (seg i, x i) < toLex (seg i₀, x i₀)).card := by
        refine Finset.card_le_card fun i hi => ?_
        simp only [Finset.mem_filter, Finset.mem_univ, true_and, Prod.Lex.toLex_lt_toLex] at hi ⊢
        left; omega
      omega
  constructor
  · have : (Finset.univ.filter fun i => toLex (seg i, x i) < toLex (seg i₀, x i₀)).card
        = (Finset.univ.filter fun i => seg i < b).card + ((Finset.univ.filter fun i => seg i = b).filter fun i => x i < x i₀).card := by
      rw [← Finset.card_union_of_disjoint]
      · congr 1; ext i
        simp only [Finset.mem_filter, Finset.mem_univ, true_and, Prod.Lex.toLex_lt_toLex, Finset.mem_union, hb]
      · rw [Finset.disjoint_left]; intro i h h'
        simp only [Finset.mem_filter, Finset.mem_univ, true_and] at h h'; omega
    omega
  · have : (Finset.univ.filter fun i => toLex (seg i, x i) ≤ toLex (seg i₀, x i₀)).card
        = (Finset.univ.filter fun i => seg i < b).card + ((Finset.univ.filter fun i => seg i = b).filter fun i => x i ≤ x i₀).card := by
      rw [← Finset.card_union_of_disjoint]
      · congr 1; ext i
        simp only [Finset.mem_filter, Finset.mem_univ, true_and, Prod.Lex.toLex_le_toLex, Finset.mem_union, hb]
      · rw [Finset.disjoint_left]; intro i h h'
        simp only [Finset.mem_filter, Finset.mem_univ, true_and] at h h'; omega
    omega

/-- With every entry outside `S` raised to the top, the `k`-th smallest of all is the `k`-th smallest of `S`. -/
theorem isRank_of_masked {ι : Type} [Fintype ι] {α : Type} [LinearOrder α] [OrderTop α] (P : ι → Prop) [DecidablePred P] (x : ι → α) (k : ℕ)
    (hk : k < (Finset.univ.filter P).card) (v : α)
    (h : IsRank (Finset.univ : Finset ι) (fun i => if P i then x i else ⊤) k v) :
    IsRank (Finset.univ.filter P) x k v := by
  obtain ⟨h1, h2⟩ := h
  constructor
  · refine le_trans (Finset.card_le_card fun i hi => ?_) h1
    simp only [Finset.mem_filter, Finset.mem_univ, true_and] at hi ⊢
    rw [if_pos hi.1]; exact hi.2
  · by_cases hv : v = ⊤
    · subst hv; simpa using hk
    · refine lt_of_lt_of_le h2 (Finset.card_le_card fun i hi => ?_)
      simp only [Finset.mem_filter, Finset.mem_univ, true_and] at hi ⊢
      by_cases hp : P i
      · rw [if_pos hp] at hi; exact ⟨hp, hi⟩
      · rw [if_neg hp] at hi; exact absurd (top_le_iff.mp hi) hv

/-- The largest member is the last one in rank. -/
theorem isRank_max {ι α : Type} [LinearOrder α] (S : Finset ι) (x : ι → α) (v : α) (hv : ∃ i ∈ S, x i = v)
    (hle : ∀ i ∈ S, x i ≤ v) : IsRank S x (S.card - 1) v := by
  obtain ⟨i, hi, rfl⟩ := hv
  have hp : 0 < S.card := Finset.card_pos.mpr ⟨i, hi⟩
  constructor
  · have : (S.filter fun j => x j < x i).card < S.card := Finset.card_lt_card (Finset.filter_ssubset.mpr ⟨i, hi, lt_irrefl _⟩)
    omega
  · rw [Finset.filter_true_of_mem hle]; omega

/-- The smallest member is the first one in rank. -/
theorem isRank_min {ι α : Type} [LinearOrder α] (S : Finset ι) (x : ι → α) (v : α) (hv : ∃ i ∈ S, x i = v)
    (hle : ∀ i ∈ S, v ≤ x i) : IsRank S x 0 v := by
  obtain ⟨i, hi, rfl⟩ := hv
  constructor
  · rw [Finset.filter_false_of_mem fun j hj => not_lt.mpr (hle j hj)]; simp
  · exact Finset.card_pos.mpr ⟨i, Finset.mem_filter.mpr ⟨hi, le_rfl⟩⟩

end Cert.Rank
-- ==== Proof.StatV.lean ====
/- The statistics of a segment, and that its sorted members determine them. -/
module

public import proofs.«01_k».proof.Proof.DataV
public import proofs.«01_k».proof.Proof.Rank

@[expose] public section

noncomputable section

namespace Cert.Spec

open Idealize.ShloMosaic Cert.Rank

/-- The nodes of a segment, -/
def Args.seg (a : Args) (j : Fin 64) : Finset (Fin 100000) := Finset.univ.filter fun i => a.b i = BitVec.ofNat 32 j.val

/-- their number, -/
def Args.n (a : Args) (j : Fin 64) : ℕ := (a.seg j).card

/-- and the number of the nodes of the segments before it. -/
def Args.below (a : Args) (j : Fin 64) : ℕ := (Finset.univ.filter fun i => (a.b i).toInt < (j.val : ℤ)).card

theorem sum_one {ι : Type} (s : Finset ι) : (∑ _i ∈ s, (1 : EReal)) = (((s.card : ℕ) : ℝ) : EReal) := by
  have := coe_sum s fun _ => (1 : ℝ)
  simp only [EReal.coe_one] at this
  rw [← this]
  simp

/-- The twelve statistics, from the sorted members `S`. -/
def Args.stats (a : Args) (j : Fin 64) (S : ℕ → EReal) : Fin 12 → EReal :=
  ![Ideal.div (∑ i ∈ a.seg j, a.node i) (max (((a.n j : ℕ) : ℝ) : EReal) 1), S (a.n j - 1), S 0,
    quantS (qv 0) (a.n j) S, quantS (qv 1) (a.n j) S, quantS (qv 2) (a.n j) S, quantS (qv 3) (a.n j) S, quantS (qv 4) (a.n j) S,
    quantS (qv 5) (a.n j) S, quantS (qv 6) (a.n j) S, quantS (qv 7) (a.n j) S, quantS (qv 8) (a.n j) S]

/-- The result at a segment. -/
def Args.result (a : Args) (j : Fin 64) (S : ℕ → EReal) : EReal := fin12 (a.stats j S) a.m1 a.c1 a.m2 a.c2

theorem result_congr (a : Args) (j : Fin 64) (hn : 1 ≤ a.n j) (S T : ℕ → EReal) (h : ∀ k, k < a.n j → S k = T k) : a.result j S = a.result j T := by
  unfold Args.result Args.stats
  rw [h _ (by omega), h 0 (by omega)]
  simp only [fun q => quantS_congr (qv q) (a.n j) (qv_le q) hn S T h]

theorem result_unique (a : Args) (j : Fin 64) (hn : 1 ≤ a.n j) (S T : ℕ → EReal) (hS : ∀ k, k < a.n j → IsRank (a.seg j) a.node k (S k))
    (hT : ∀ k, k < a.n j → IsRank (a.seg j) a.node k (T k)) : a.result j S = a.result j T :=
  result_congr a j hn S T fun k hk => (hS k hk).unique (hT k hk)

theorem toInt_ofNat64 (j : Fin 64) : (BitVec.ofNat 32 j.val).toInt = j.val := by
  revert j; decide

theorem id_eq (x : BitVec 32) (j : Fin 64) : x = BitVec.ofNat 32 j.val ↔ x.toInt = j.val := by
  rw [← toInt_ofNat64 j]
  exact BitVec.toInt_inj.symm

theorem ofNat64_inj (x y : Fin 64) : BitVec.ofNat 32 x.val = BitVec.ofNat 32 y.val ↔ x = y := by
  revert x y; decide

/-- The segments before `j` hold the nodes whose id is below `j`, when no id is negative. -/
theorem sum_below (a : Args) (hb : ∀ i, 0 ≤ (a.b i).toInt) (j : Fin 64) : (∑ x : Fin 64, if x.val < j.val then a.n x else 0) = a.below j := by
  have e : ∀ x : Fin 64, (if x.val < j.val then a.n x else 0) = ∑ i : Fin 100000, if x.val < j.val ∧ a.b i = BitVec.ofNat 32 x.val then 1 else 0 := by
    intro x
    by_cases h : x.val < j.val
    · simp only [h, if_true, true_and]
      unfold Args.n Args.seg
      rw [Finset.card_filter]
    · simp [h]
  simp only [e]
  rw [Finset.sum_comm]
  unfold Args.below
  rw [Finset.card_filter]
  refine Finset.sum_congr rfl fun i _ => ?_
  by_cases h : (a.b i).toInt < (j.val : ℤ)
  · rw [if_pos h]
    have h0 := hb i
    obtain ⟨v, hv⟩ : ∃ v : Fin 64, (a.b i).toInt = v.val := ⟨⟨(a.b i).toInt.toNat, by omega⟩, by simp [h0]⟩
    have hv' : a.b i = BitVec.ofNat 32 v.val := (id_eq _ _).2 hv
    rw [Finset.sum_eq_single v]
    · rw [if_pos ⟨by omega, hv'⟩]
    · intro w _ hw
      rw [if_neg]
      rintro ⟨-, h2⟩
      rw [hv'] at h2
      exact hw ((ofNat64_inj _ _).1 h2).symm
    · intro h; exact absurd (Finset.mem_univ _) h
  · rw [if_neg h]
    refine Finset.sum_eq_zero fun x _ => ?_
    rw [if_neg]
    rintro ⟨h1, h2⟩
    have := (id_eq _ _).1 h2
    omega

theorem below_add (a : Args) (j : Fin 64) : a.below j + a.n j ≤ 100000 := by
  unfold Args.below Args.n Args.seg
  rw [← Finset.card_union_of_disjoint]
  · exact (Finset.card_le_univ _).trans (by simp)
  · rw [Finset.disjoint_filter]
    intro i _ h1 h2
    have := (id_eq _ _).1 h2
    omega

/-- An order statistic, its family read through an injection. -/
theorem isRank_map {ι κ α : Type} [LinearOrder α] (e : κ ↪ ι) (S : Finset κ) (x : ι → α) (k : ℕ) (v : α) (h : IsRank (S.map e) x k v) : IsRank S (fun i => x (e i)) k v := by
  unfold IsRank at h ⊢
  rw [Finset.filter_map, Finset.card_map, Finset.filter_map, Finset.card_map] at h
  exact h

/-- The nodes among the padded rows. -/
def up : Fin 100000 ↪ Fin 100352 := ⟨fun i => ⟨i.val, by omega⟩, fun i j h => Fin.ext (Fin.mk.inj h)⟩

/-- The padded rows' ids and values. -/
def Args.idp (a : Args) (p : Fin 100352) : BitVec 32 := if h : p.val < 100000 then a.b ⟨p.val, h⟩ else 64#32
def Args.valp (a : Args) (p : Fin 100352) : EReal := if h : p.val < 100000 then a.node ⟨p.val, h⟩ else 0

theorem seg_map (a : Args) (j : Fin 64) : (Finset.univ.filter fun p => (a.idp p).toInt = (j.val : ℤ)) = (a.seg j).map up := by
  ext p
  simp only [Finset.mem_filter, Finset.mem_univ, true_and, Finset.mem_map, Args.seg]
  constructor
  · intro h
    unfold Args.idp at h
    split at h
    · rename_i hp
      exact ⟨⟨p.val, hp⟩, (id_eq _ _).2 h, rfl⟩
    · have : (64#32 : BitVec 32).toInt = 64 := by decide
      omega
  · rintro ⟨i, hi, rfl⟩
    unfold Args.idp
    rw [dif_pos (show (up i).val < 100000 from i.isLt)]
    exact (id_eq _ _).1 hi

theorem below_map (a : Args) (j : Fin 64) : (Finset.univ.filter fun p => (a.idp p).toInt < (j.val : ℤ)).card = a.below j := by
  have : (Finset.univ.filter fun p => (a.idp p).toInt < (j.val : ℤ)) = (Finset.univ.filter fun i => (a.b i).toInt < (j.val : ℤ)).map up := by
    ext p
    simp only [Finset.mem_filter, Finset.mem_univ, true_and, Finset.mem_map]
    constructor
    · intro h
      unfold Args.idp at h
      split at h
      · rename_i hp
        exact ⟨⟨p.val, hp⟩, h, rfl⟩
      · have : (64#32 : BitVec 32).toInt = 64 := by decide
        omega
    · rintro ⟨i, hi, rfl⟩
      unfold Args.idp
      rw [dif_pos (show (up i).val < 100000 from i.isLt)]
      exact hi
  rw [this, Finset.card_map]
  rfl

/-- The padded rows sorted by id, then by value: the sorted members of segment `j` stand behind those of the segments before it. -/
theorem sorted_rank (a : Args) (j : Fin 64) (k : ℕ) (hk : k < a.n j) (hp : a.below j + k < 100352) :
    IsRank (a.seg j) a.node k (a.valp (sortedFrom (fun p p' => decide (toLex ((a.idp p).toInt, a.valp p) < toLex ((a.idp p').toInt, a.valp p'))) ⟨a.below j + k, hp⟩)) := by
  have h := isRank_sortedFrom (fun p => toLex ((a.idp p).toInt, a.valp p)) ⟨a.below j + k, hp⟩
  have h2 := isRank_of_lex (fun p => (a.idp p).toInt) a.valp j.val k (by rw [seg_map, Finset.card_map]; exact hk) _ (by rw [below_map]; exact h)
  rw [seg_map] at h2
  have h3 := isRank_map up _ _ _ _ h2
  convert h3 using 1
  funext i
  unfold Args.valp
  rw [dif_pos (show (up i).val < 100000 from i.isLt)]
  rfl

/-- A sum over the padded rows of a segment is one over its nodes. -/
theorem sum_padded (a : Args) (j : Fin 64) (X1 : ℕ → BitVec 32) (f : ℕ → EReal) (g : Fin 100000 → EReal) (h1 : ∀ p : Fin 100352, X1 p.val = a.idp p)
    (hg : ∀ i : Fin 100000, f i.val = g i) : (∑ p ∈ Finset.range 100352, if X1 p = BitVec.ofNat 32 j.val then f p else 0) = ∑ i ∈ a.seg j, g i := by
  have hs : (∑ p ∈ Finset.range 100352, if X1 p = BitVec.ofNat 32 j.val then f p else 0) = ∑ p ∈ Finset.range 100000, if X1 p = BitVec.ofNat 32 j.val then f p else 0 := by
    symm
    refine Finset.sum_subset (fun x hx => Finset.mem_range.2 (by have := Finset.mem_range.1 hx; omega)) fun p hp hp' => ?_
    rw [if_neg]
    intro h
    have hp1 := Finset.mem_range.1 hp
    have hp2 : ¬ p < 100000 := fun h => hp' (Finset.mem_range.2 h)
    rw [h1 ⟨p, hp1⟩] at h
    unfold Args.idp at h
    rw [dif_neg hp2] at h
    have := (id_eq _ _).1 h
    have e : (64#32 : BitVec 32).toInt = 64 := by decide
    omega
  rw [hs, Finset.sum_range]
  unfold Args.seg
  rw [Finset.sum_filter]
  refine Finset.sum_congr rfl fun i _ => ?_
  have e : X1 i.val = a.b i := by
    rw [h1 ⟨i.val, by omega⟩]
    unfold Args.idp
    rw [dif_pos i.isLt]
  rw [e, hg]

end Cert.Spec
-- ==== Proof.PreV.lean ====
/- What the precondition says of the segment numbers: none is negative, and every segment has a node. -/
module

public import proofs.«01_k».proof.Pre_segments_filled
public import proofs.«01_k».proof.Proof.StatV
public import Idealize.ShloMosaic.Lib.Pointwise

@[expose] public section

set_option maxRecDepth 16384

noncomputable section

namespace Cert.PreV

open Idealize.ShloMosaic Idealize.ShloMosaic.Tactic Cert.Pre_segments_filled Cert.Spec

/-- The relations of the predicate's shapes. -/
instance facts : Cert.Pre_segments_filled.Facts where
  bcast_S100000_S1x100000_1 := by decide
  bcast_S64_S64x1_0 := by decide
  bcast_S1x100000_S64x100000_0_1 := by decide
  bcast_S64x1_S64x100000_0_1 := by decide
  bcast_S_S100000 := by decide
  reducesTo_S64x100000_S64_d1 := by decide
  h_S_ := by decide

theorem foldl_or {ι : Type} (f : ι → BitVec 1) : ∀ (l : List ι) (b : BitVec 1), l.foldl (fun r n => IntOp.ori r (f n)) b = 1#1 → b = 1#1 ∨ ∃ n ∈ l, f n = 1#1
  | [], b, h => Or.inl h
  | a :: l, b, h => by
    rcases foldl_or f l _ h with h | ⟨n, hn, h⟩
    · rcases BitVec.eq_zero_or_eq_one (f a) with ha | ha
      · refine Or.inl ?_
        dsimp only at h
        rw [ha] at h
        rcases BitVec.eq_zero_or_eq_one b with hb | hb
        · rw [hb] at h; exact absurd h (by decide)
        · exact hb
      · exact Or.inr ⟨a, List.mem_cons_self .., ha⟩
    · exact Or.inr ⟨n, List.mem_cons_of_mem _ hn, h⟩

/-- A reduce by `or` that is 1 at `j` had a 1 at an index that reduces into `j`. -/
theorem reduce_or {s t u : Shape} {axes : List (Fin s.rank)} (x : s.Idx → BitVec 1) (b : u.Idx → BitVec 1) (h : s.ReducesTo axes t) (hu : 0 < u.numel)
    (j : t.Idx) (hb : b (Shape.Idx.first hu) = 0#1) (e : Host.reduce IntOp.ori x b h hu j = 1#1) : ∃ i, h.drop i = j ∧ x i = 1#1 := by
  rw [Host.reduce_eq_foldl] at e
  rcases foldl_or x _ _ e with e | ⟨n, hn, e⟩
  · rw [hb] at e; exact absurd e (by decide)
  · exact ⟨n, by simpa using (List.mem_filter.1 hn).2, e⟩

/-- Along the rows of a rectangle. -/
theorem reduce_or_row {n k : ℕ} {u : Shape} (x : (⟨2, ![n, k]⟩ : Shape).Idx → BitVec 1) (h : (⟨2, ![n, k]⟩ : Shape).ReducesTo [1] ⟨1, ![n]⟩) (hu : 0 < u.numel)
    (j : Fin n) (e : Host.reduce IntOp.ori x (constantI u 1 0#1) h hu (ix1 j) = 1#1) : ∃ q : Fin k, x (ix2 j q) = 1#1 := by
  obtain ⟨i, hi, e'⟩ := reduce_or x (constantI u 1 0#1) h hu (ix1 j) rfl e
  obtain ⟨p, q, rfl⟩ : ∃ (p : Fin n) (q : Fin k), i = ix2 p q := ⟨i 0, i 1, eq_ix2 i⟩
  have hp : p = j := by
    have hv := Shape.ReducesTo.drop_apply_val h (ix2 p q) 0
    rw [hi] at hv
    exact Fin.ext hv.symm
  subst hp
  exact ⟨q, e'⟩

theorem bit_one (b : Bool) (h : BitVec.ofBool b = 1#1) : b = true := by
  cases b
  · exact absurd h (by decide)
  · rfl

section
variable (a0 : FVec Ideal S100000x128x1x4 .f32) (a1 : IVec S100000 32) (a2 : FVec Ideal S3x128 .f32) (a3 : FVec Ideal S3 .f32) (a4 : FVec Ideal S128x128 .f32)
  (a5 : FVec Ideal S128 .f32) (a6 : FVec Ideal S128 .f32) (a7 : FVec Ideal S_ .f32) (a8 : FVec Ideal S12x128 .f32) (a9 : FVec Ideal S128 .f32)
  (a10 : FVec Ideal S128 .f32) (a11 : FVec Ideal S_ .f32)

theorem nonneg (h : (fn a0 a1 a2 a3 a4 a5 a6 a7 a8 a9 a10 a11).1 = fun _ => 1#1) (i : Fin 100000) : 0 ≤ (a1 (ix1 i)).toInt := by
  have e : BitVec.ofBool ((0#32).sle (a1 (ix1 i))) = 1#1 := congrFun h (ix1 i)
  have e' := bit_one _ e
  rw [BitVec.sle, decide_eq_true_iff] at e'
  exact e'

theorem filled (h : (fn a0 a1 a2 a3 a4 a5 a6 a7 a8 a9 a10 a11).2 = fun _ => 1#1) (j : Fin 64) : ∃ i : Fin 100000, a1 (ix1 i) = BitVec.ofNat 32 j.val := by
  unfold fn at h
  dsimp only at h
  obtain ⟨q, e⟩ := reduce_or_row _ Facts.reducesTo_S64x100000_S64_d1 Facts.h_S_ j (congrFun h (ix1 j))
  refine ⟨q, ?_⟩
  revert e
  pointwise
  intro e
  exact beq_iff_eq.1 (bit_one _ e)

end

end Cert.PreV

end
-- ==== Proof.HostV.lean ====
/- The host's operations between the regions, read at an index. -/
module

public import proofs.«01_k».proof.Proof.RunI
public import proofs.«01_k».proof.Proof.DataV
public import Idealize.ShloMosaic.Lib.Routing.OpsSet
public import Idealize.ShloMosaic.Lib.Routing.OpsPair
public import Idealize.ShloMosaic.Lib.Pointwise
public import Idealize.ShloMosaic.Lib.StableHlo.ReadAt

@[expose] public section

set_option maxRecDepth 16384

noncomputable section

namespace Cert.KernelIdeal.Val

open Cert.KernelIdeal.Gen Cert.KernelIdeal.Run Cert.Spec
open Idealize.ShloMosaic Idealize.ShloMosaic.TcCoe Idealize.ShloMosaic.Tactic

open Idealize.ShloMosaic.Routing

variable (m : (ℓ : Loc nD τ sig) → Buf (Elt Ideal) ℓ) (o : (Out (F := Ideal))) (c : Dev nD)

/-- The arguments of a launch. -/
def args : Args where
  e i k q := (m ((c : Thread nD τ).loc main_arg0) : Vec Ideal S100000x128x1x4 .f32) (ix4 i k 0 q)
  b i := (m ((c : Thread nD τ).loc main_arg1) : Vec Ideal S100000 .i32) (ix1 i)
  lw q k := (m ((c : Thread nD τ).loc main_arg2) : Vec Ideal S3x128 .f32) (ix2 q k)
  lb q := (m ((c : Thread nD τ).loc main_arg3) : Vec Ideal S3 .f32) (ix1 q)
  w1 k h := (m ((c : Thread nD τ).loc main_arg4) : Vec Ideal S128x128 .f32) (ix2 k h)
  b1 h := (m ((c : Thread nD τ).loc main_arg5) : Vec Ideal S128 .f32) (ix1 h)
  w2 h := (m ((c : Thread nD τ).loc main_arg6) : Vec Ideal S128 .f32) (ix1 h)
  b2 := (m ((c : Thread nD τ).loc main_arg7) : Vec Ideal S_ .f32) ix0
  m1 k h := (m ((c : Thread nD τ).loc main_arg8) : Vec Ideal S12x128 .f32) (ix2 k h)
  c1 h := (m ((c : Thread nD τ).loc main_arg9) : Vec Ideal S128 .f32) (ix1 h)
  m2 h := (m ((c : Thread nD τ).loc main_arg10) : Vec Ideal S128 .f32) (ix1 h)
  c2 := (m ((c : Thread nD τ).loc main_arg11) : Vec Ideal S_ .f32) ix0

theorem v1_at (i : Fin 100000) (k : Fin 512) : (W1 m c (Proc.devRef .tc main_v1) : Vec Ideal S100000x512 .f32) (ix2 i k)
    = (args m c).e i ⟨k.val % 128, by omega⟩ ⟨k.val / 128, by omega⟩ := by
  unfold W1
  after_reads_at
  rfl

theorem v4_at (k : Fin 512) : (W1 m c (Proc.devRef .tc main_v4) : Vec Ideal S1x512 .f32) (ix2 0 k)
    = if h : k.val < 384 then (args m c).lw ⟨k.val / 128, by omega⟩ ⟨k.val % 128, by omega⟩ else 0 := by
  unfold W1
  after_reads_at
  rfl

theorem arg4_at (k h : Fin 128) : (W1 m c (Proc.devRef .tc main_arg4) : Vec Ideal S128x128 .f32) (ix2 k h) = (args m c).w1 k h := by
  rw [W1_args m c _ (by decide)]
  rfl

theorem v7_at : (W1 m c (Proc.devRef .tc main_v7) : Vec Ideal S1x1 .f32) (ix2 0 0) = ∑ x : Fin 3, (args m c).lb x + (args m c).b2 := by
  unfold W1
  after_reads_at
  rfl

theorem v8_at (k : Fin 128) : (W1 m c (Proc.devRef .tc main_v8) : Vec Ideal S1x128 .f32) (ix2 0 k) = (args m c).b1 k := by
  unfold W1
  after_reads_at
  rfl

theorem v9_at (k : Fin 128) : (W1 m c (Proc.devRef .tc main_v9) : Vec Ideal S1x128 .f32) (ix2 0 k) = (args m c).w2 k := by
  unfold W1
  after_reads_at
  rfl

theorem cst_at (k : Fin 9) : (W1 m c (Proc.devRef .tc main_cst) : Vec Ideal S9 .f32) (ix1 k) = Ideal.ofBits .f32 (lit0 k) := by
  unfold W1
  after_reads_at
  congr 2
  fin_cases k <;> rfl

theorem v15_at (k : Fin 100352) : (W4 m o c (Proc.devRef .tc main_v15) : Vec Ideal S100352 .f32) (ix1 k)
    = if k.val < 100000 then (o : Vec Ideal S49x1x2048 .f32) (ix3 ⟨k.val / 2048, by omega⟩ 0 ⟨k.val % 2048, by omega⟩) else 0 := by
  unfold W4 W3
  after_reads_at
  rw [W2_out]
  have e : IntOp.cmpi CmpIPredicate.slt (BitVec.ofNat 32 k.val) 100000#32 = BitVec.ofBool (decide (k.val < 100000)) := by
    show BitVec.ofBool (BitVec.slt _ _) = _
    rw [BitVec.slt_eq_decide]
    congr 1
    have ti : (BitVec.ofNat 32 k.val).toInt = k.val := by
      rw [BitVec.toInt_eq_toNat_cond, BitVec.toNat_ofNat]
      have : k.val % 2 ^ 32 = k.val := Nat.mod_eq_of_lt (by omega)
      rw [this]; split <;> omega
    rw [ti, show (100000#32 : BitVec 32).toInt = 100000 by decide]
    simp
  rw [e]
  by_cases h : k.val < 100000
  · simp [h, Scalar.select]
  · simp [h, Scalar.select]
    pointwise

theorem W2_arg (r : Ref sig .tc) (h : r ∈ argRefs) : W2 m o c (Proc.devRef .tc r) = m ((c : Thread nD τ).loc r) := by
  rw [W2_of_ne m o c r (by revert h; revert r; decide), W1_args m c r h]

theorem v17_at (k : Fin 100352) : (W5 m o c (Proc.devRef .tc main_v17) : Vec Ideal S100352 .i32) (ix1 k)
    = if h : k.val < 100000 then (args m c).b ⟨k.val, h⟩ else 64#32 := by
  unfold W5
  after_reads_at
  by_cases h : k.val < 100000
  · rw [dif_pos h, dif_pos h]
    exact congrFun (W2_arg m o c main_arg1 (by decide)) _
  · rw [dif_neg h, dif_neg h]

theorem v15_5 : W5 m o c (Proc.devRef .tc main_v15) = W4 m o c (Proc.devRef .tc main_v15) := W5_of m o c _ (by decide)

theorem v18_eq : (W5 m o c (Proc.devRef .tc main_v18_1) : Vec Ideal S100352 .f32)
    = (Host.sort2 S100352 0 (comparator_i32_f32_d0 (F := Ideal)) (W5 m o c (Proc.devRef .tc main_v17) : Vec Ideal S100352 .i32) (W4 m o c (Proc.devRef .tc main_v15) : Vec Ideal S100352 .f32)).2 := by
  unfold W5
  after_reads_simp

theorem v27_at (k : Fin 784) (l : Fin 128) : (W5 m o c (Proc.devRef .tc main_v27) : Vec Ideal S784x128 .f32) (ix2 k l)
    = (W4 m o c (Proc.devRef .tc main_v15) : Vec Ideal S100352 .f32) (ix1 ⟨k.val * 128 + l.val, by omega⟩) := by
  unfold W5
  after_reads_at

theorem v28_at (k : Fin 784) (l : Fin 128) : (W5 m o c (Proc.devRef .tc main_v28) : Vec Ideal S784x128 .i32) (ix2 k l)
    = (W5 m o c (Proc.devRef .tc main_v17) : Vec Ideal S100352 .i32) (ix1 ⟨k.val * 128 + l.val, by omega⟩) := by
  unfold W5
  after_reads_at
  by_cases h : k.val * 128 + l.val < 100000
  · rw [dif_pos h, dif_pos h]
    after_reads_at
  · rw [dif_neg h, dif_neg h]
    unfold StableHlo.upto
    after_reads_at

theorem v29_at (k : Fin 784) (l : Fin 128) : (W5 m o c (Proc.devRef .tc main_v29) : Vec Ideal S784x128 .f32) (ix2 k l)
    = (W5 m o c (Proc.devRef .tc main_v18_1) : Vec Ideal S100352 .f32) (ix1 ⟨k.val * 128 + l.val, by omega⟩) := by
  unfold W5
  after_reads_at

theorem v30_at (k : Fin 128) : (W5 m o c (Proc.devRef .tc main_v30) : Vec Ideal S1x128 .f32) (ix2 0 k) = (args m c).c1 k := by
  unfold W5
  after_reads_at
  rw [W2_arg m o c _ (by decide)]
  rfl

theorem v31_at (k : Fin 128) : (W5 m o c (Proc.devRef .tc main_v31) : Vec Ideal S1x128 .f32) (ix2 0 k) = (args m c).m2 k := by
  unfold W5
  after_reads_at
  rw [W2_arg m o c _ (by decide)]
  rfl

theorem v32_at : (W5 m o c (Proc.devRef .tc main_v32) : Vec Ideal S1x1 .f32) (ix2 0 0) = (args m c).c2 := by
  unfold W5
  after_reads_at
  rw [W2_arg m o c _ (by decide)]
  rfl

theorem v34_at (k : Fin 64) : (W7 m o c (Proc.devRef .tc main_v34) : Vec Ideal S64 .f32) (ix1 k)
    = (W6 m o c (Proc.devRef .tc main_v33) : Vec Ideal S1x64 .f32) (ix2 0 k) := by
  unfold W7
  after_reads_at

theorem start_zero {s si u : Shape} {w : Nat} (d : ScatterDims s si u) (j : u.Idx) (idx : IVec si w) (h : ∀ i, idx i = 0#w) (a : Fin s.rank) : d.start j idx a = 0 := by
  unfold ScatterDims.start
  split
  · rw [h]
    exact BitVec.toInt_zero
  · rfl

theorem v22_at (i : Fin 2) : (W5 m o c (Proc.devRef .tc main_v22) : Vec Ideal S2 .i32) (ix1 i) = 0#32 := by
  unfold W5
  fin_cases i <;> after_reads_at

theorem v25_at (i : Fin 1) : (W5 m o c (Proc.devRef .tc main_v25) : Vec Ideal S1 .i32) (ix1 i) = 0#32 := by
  unfold W5
  fin_cases i <;> after_reads_at

theorem v23_eq : (W5 m o c (Proc.devRef .tc main_v23) : Vec Ideal S1x128 .f32)
    = Host.scatter scatter_S1x128_S2_S9_0_0_01_0 (fun _ b => b) (W5 m o c (Proc.devRef .tc main_v19) : Vec Ideal S1x128 .f32) (W5 m o c (Proc.devRef .tc main_v22) : Vec Ideal S2 .i32) (W5 m o c (Proc.devRef .tc main_cst) : Vec Ideal S9 .f32) := by
  unfold W5
  after_reads_simp
  rfl

theorem v26_eq : (W5 m o c (Proc.devRef .tc main_v26) : Vec Ideal S16x128 .f32)
    = Host.scatter scatter_S16x128_S1_S12x128_01_n_0_0 (fun _ b => b) (W5 m o c (Proc.devRef .tc main_v24) : Vec Ideal S16x128 .f32) (W5 m o c (Proc.devRef .tc main_v25) : Vec Ideal S1 .i32) (W5 m o c (Proc.devRef .tc main_arg8) : Vec Ideal S12x128 .f32) := by
  unfold W5
  after_reads_simp
  rfl

theorem v23_at (k : Fin 9) : (W5 m o c (Proc.devRef .tc main_v23) : Vec Ideal S1x128 .f32) (ix2 0 ⟨k.val, by omega⟩) = Ideal.ofBits .f32 (lit0 k) := by
  have hz : ∀ i, (W5 m o c (Proc.devRef .tc main_v22) : Vec Ideal S2 .i32) i = 0#32 := fun i => by
    rw [show i = ix1 (i 0) from eq_ix1 i]; exact v22_at m o c _
  have hr : ∀ j : Fin 9, ∀ ι : S1x128.Idx, scatter_S1x128_S2_S9_0_0_01_0.resultIdx? (ix1 j) (W5 m o c (Proc.devRef .tc main_v22) : Vec Ideal S2 .i32) = some ι ↔ ι = ix2 0 ⟨j.val, by omega⟩ := by
    intro j ι
    rw [resultIdx?_eq_some]
    simp only [start_zero _ _ _ hz, Int.zero_add, Nat.cast_inj]
    have w0 : scatter_S1x128_S2_S9_0_0_01_0.window (ix1 j) 0 = 0 := rfl
    have w1 : scatter_S1x128_S2_S9_0_0_01_0.window (ix1 j) 1 = j.val := rfl
    constructor
    · intro h
      have h0 := h 0
      have h1 := h 1
      rw [w0] at h0
      rw [w1] at h1
      rw [eq_ix2 ι]
      congr 1 <;> apply Fin.ext <;> simp [← h0, ← h1]
    · rintro rfl a
      match a with
      | 0 => exact w0
      | 1 => exact w1
  rw [v23_eq]
  refine scatter_set_hit (α := EReal) scatter_S1x128_S2_S9_0_0_01_0 _ _ _ _ (Ideal.ofBits .f32 (lit0 k)) ?_ (ix1 k) ((hr k _).2 rfl)
  intro j hj
  rw [eq_ix1 j] at hj ⊢
  have e := (hr _ _).1 hj
  have e1 : k = j 0 := by
    have := congrArg (fun ι : S1x128.Idx => (ι 1).val) e
    exact Fin.ext this
  rw [W5_of m o c _ (by decide), W4_of m o c _ (by decide), W3_of m o c _ (by decide), W2_of_ne m o c _ (by decide)]
  subst e1
  exact cst_at m c _

theorem v26_at (l : Fin 12) (k : Fin 128) : (W5 m o c (Proc.devRef .tc main_v26) : Vec Ideal S16x128 .f32) (ix2 ⟨l.val, by omega⟩ k) = (args m c).m1 l k := by
  have hz : ∀ i, (W5 m o c (Proc.devRef .tc main_v25) : Vec Ideal S1 .i32) i = 0#32 := fun i => by
    rw [show i = ix1 (i 0) from eq_ix1 i]; exact v25_at m o c _
  have hr : ∀ (l : Fin 12) (k : Fin 128), ∀ ι : S16x128.Idx, scatter_S16x128_S1_S12x128_01_n_0_0.resultIdx? (ix2 l k) (W5 m o c (Proc.devRef .tc main_v25) : Vec Ideal S1 .i32) = some ι ↔ ι = ix2 ⟨l.val, by omega⟩ k := by
    intro l k ι
    rw [resultIdx?_eq_some]
    simp only [start_zero _ _ _ hz, Int.zero_add, Nat.cast_inj]
    have w0 : scatter_S16x128_S1_S12x128_01_n_0_0.window (ix2 l k) 0 = l.val := rfl
    have w1 : scatter_S16x128_S1_S12x128_01_n_0_0.window (ix2 l k) 1 = k.val := rfl
    constructor
    · intro h
      have h0 := h 0
      have h1 := h 1
      rw [w0] at h0
      rw [w1] at h1
      rw [eq_ix2 ι]
      congr 1 <;> apply Fin.ext <;> simp [← h0, ← h1]
    · rintro rfl a
      match a with
      | 0 => exact w0
      | 1 => exact w1
  rw [v26_eq]
  refine scatter_set_hit (α := EReal) scatter_S16x128_S1_S12x128_01_n_0_0 _ _ _ _ ((args m c).m1 l k) ?_ (ix2 l k) ((hr l k _).2 rfl)
  intro j hj
  rw [eq_ix2 j] at hj ⊢
  have e := (hr _ _ _).1 hj
  have e0 : l = j 0 := by
    have := congrArg (fun ι : S16x128.Idx => (ι 0).val) e
    exact Fin.ext this
  have e1 : k = j 1 := by
    have := congrArg (fun ι : S16x128.Idx => (ι 1).val) e
    exact Fin.ext this
  rw [W5_of m o c _ (by decide), W4_of m o c _ (by decide), W3_of m o c _ (by decide), W2_arg m o c _ (by decide), ← e0, ← e1]
  rfl

end Cert.KernelIdeal.Val
-- ==== Proof.ReadV.lean ====
/- The readout body as one expression: the twenty gathers from the sorted array are one operation `gath` at twenty index vectors. -/
module

public import proofs.«01_k».proof.Proof.Gen.KernelIdeal.Skeleton
public import proofs.«01_k».proof.Proof.ReadoutI
public import Idealize.ShloMosaic.Lib.Pointwise
public import Idealize.ShloMosaic.Lib.Pipeline.ValueKit

@[expose] public section

set_option maxRecDepth 16384

noncomputable section

namespace Cert.KernelIdeal.Val

open Cert.KernelIdeal.Gen Cert.KernelIdeal.Run
open Idealize.ShloMosaic Idealize.ShloMosaic.TcCoe Idealize.ShloMosaic.Tactic

variable {F : FTy → Type} [FloatOps F]

/-- The entries of the sorted array at the flat positions `gi`: the row number and the lane number as words, a product with the one-hot row
    and a masked sum along the lanes. -/
def gath (s : FVec F S784x128 .f32) (gi : IVec S64 32) : FVec F S64 .f32 :=
  have w5 : IVec S64 32 := broadcast S64 128#32
  have w6 : IVec S64 32 := divsi gi w5
  have w7 : IVec S64 32 := broadcast S64 0#32
  have w8 : IVec S64 1 := cmpi .sgt gi w7
  have w9 : IVec S64 32 := extui 32 w8 natLt_1_32
  have w10 : IVec S64 32 := broadcast S64 0#32
  have w11 : IVec S64 1 := cmpi .slt gi w10
  have w12 : IVec S64 32 := extui 32 w11 natLt_1_32
  have w13 : IVec S64 32 := subi w9 w12
  let w14 : BitVec 1 := Scalar.cmpi .sgt 128#32 0#32
  let w15 : BitVec 32 := Scalar.extui w14
  let w16 : BitVec 1 := Scalar.cmpi .slt 128#32 0#32
  let w17 : BitVec 32 := Scalar.extui w16
  let w18 : BitVec 32 := Scalar.subi w15 w17
  have w19 : IVec S64 32 := broadcast S64 w18
  have w20 : IVec S64 1 := cmpi .ne w13 w19
  have w21 : IVec S64 32 := broadcast S64 128#32
  have w22 : IVec S64 32 := remsi gi w21
  have w23 : IVec S64 32 := broadcast S64 0#32
  have w24 : IVec S64 1 := cmpi .ne w22 w23
  have w25 : IVec S64 1 := andi w20 w24
  have w26 : IVec S64 32 := broadcast S64 1#32
  have w27 : IVec S64 32 := subi w6 w26
  have w28 : IVec S64 32 := select w25 w27 w6
  have w29 : IVec S64 32 := broadcast S64 128#32
  have w30 : IVec S64 32 := muli w28 w29
  have w31 : IVec S64 32 := subi gi w30
  have w32 : IVec S64x1 32 := shapeCast S64x1 w28 shapeCasts_S64_S64x1
  have w33 : IVec S64x784 32 := broadcastTo S64x784 w32 broadcasts_S64x1_S64x784
  have w34 : IVec S64x784 1 := cmpi .eq (iota .tc S64x784 32 [1] iota_S64x784_d1_w32) w33
  have cst_233 : F .f32 := Scalar.ofBits .f32 0x3F800000#32
  have cst_234 : F .f32 := Scalar.ofBits .f32 0x00000000#32
  have w35 : FVec F S64x784 .f32 := broadcast S64x784 cst_233
  have w36 : FVec F S64x784 .f32 := broadcast S64x784 cst_234
  have w37 : FVec F S64x784 .f32 := select w34 w35 w36
  have cst_235 : FVec F S64x128 .f32 := constant S64x128 .f32 0x00000000#32
  have w38 : FVec F S64x128 .f32 := matmul dot_S64x784_S784x128_S64x128_1_0_0_1_n_n none w37 s cst_235
  have w39 : IVec S64x1 32 := shapeCast S64x1 w31 shapeCasts_S64_S64x1
  have w40 : IVec S64x128 32 := broadcastTo S64x128 w39 broadcasts_S64x1_S64x128
  have w41 : IVec S64x128 1 := cmpi .eq (iota .tc S64x128 32 [1] iota_S64x128_d1_w32) w40
  have cst_236 : F .f32 := Scalar.ofBits .f32 0x00000000#32
  have w42 : FVec F S64x128 .f32 := broadcast S64x128 cst_236
  have w43 : FVec F S64x128 .f32 := select w41 w38 w42
  have w44 : FVec F S64 .f32 := multiReduction .add [1] S64 w43 0x00000000#32 reduces_S64x128_S64 (.inl rfl) rfl
  w44

/-- Column `o` of a per-quantile array. -/
def col (o : ℕ) (h : S64x128.Slices ![0, o] S64x1) (v : FVec F S64x128 .f32) : FVec F S64 .f32 :=
  shapeCast S64 (extractStridedSlice S64x1 ![0, o] v h) shapeCasts_S64x1_S64

/-- The interpolated quantile of column `o`. -/
def quant (o : ℕ) (h : S64x128.Slices ![0, o] S64x1) (s : FVec F S784x128 .f32) (off : FVec F S64 .f32) (lo hi fr : FVec F S64x128 .f32) : FVec F S64 .f32 :=
  addf (mulf (gath s (fptosi 32 (addf off (col o h lo)))) (subf (broadcast S64 (Scalar.ofBits .f32 0x3F800000#32)) (col o h fr)))
    (mulf (gath s (fptosi 32 (addf off (col o h hi)))) (col o h fr))

theorem mx_eq (cnt : FVec F S64 .f32) (s : Vec F S784x128 .f32) (qs : Vec F S1x128 .f32) :
    (k1_pay14 (k1_pay9 s) (iota .tc S64x784 32 [1] iota_S64x784_d1_w32) (iota .tc S64x128 32 [1] iota_S64x128_d1_w32) (k1_pay11 cnt) (128#32) (k1_pay12 cnt) (k1_pay13 cnt) (Scalar.extui (Scalar.cmpi .sgt 128#32 0#32)) (Scalar.extui (Scalar.cmpi .slt 128#32 0#32)))
      = gath (k1_pay9 s) (k1_pay11 cnt) := rfl

theorem mn_eq (cnt : FVec F S64 .f32) (s : Vec F S784x128 .f32) (qs : Vec F S1x128 .f32) :
    (k1_pay19 (k1_pay9 s) (iota .tc S64x784 32 [1] iota_S64x784_d1_w32) (iota .tc S64x128 32 [1] iota_S64x128_d1_w32) (k1_pay10 cnt) (k1_pay15 (k1_pay10 cnt)) (k1_pay16 (k1_pay10 cnt)) (k1_pay17 (k1_pay10 cnt)) (k1_pay18))
      = gath (k1_pay9 s) (k1_pay10 cnt) := rfl

theorem q0_eq (cnt : FVec F S64 .f32) (s : Vec F S784x128 .f32) (qs : Vec F S1x128 .f32) :
    (k1_pay32 (k1_pay9 s) (iota .tc S64x784 32 [1] iota_S64x784_d1_w32) (iota .tc S64x128 32 [1] iota_S64x128_d1_w32) (k1_pay23 cnt qs) (k1_pay25 cnt (k1_pay8 cnt) qs) (k1_pay29 (k1_pay9 s) (iota .tc S64x784 32 [1] iota_S64x784_d1_w32) (iota .tc S64x128 32 [1] iota_S64x128_d1_w32) (k1_pay24 cnt (k1_pay8 cnt) qs) (128#32) (k1_pay26 cnt (k1_pay8 cnt) qs) (k1_pay27 cnt (k1_pay8 cnt) qs) (k1_pay28)) (128#32) (k1_pay30 (k1_pay25 cnt (k1_pay8 cnt) qs)) (k1_pay31 (k1_pay25 cnt (k1_pay8 cnt) qs)) (Scalar.extui (Scalar.cmpi .sgt 128#32 0#32)) (0#32))
      = quant 0 slices_S64x128_o0_0_S64x1 (k1_pay9 s) (k1_pay8 cnt) (k1_pay21 cnt qs) (k1_pay22 cnt qs) (k1_pay23 cnt qs) := rfl

theorem q1_eq (cnt : FVec F S64 .f32) (s : Vec F S784x128 .f32) (qs : Vec F S1x128 .f32) :
    (k1_pay40 (k1_pay9 s) (iota .tc S64x784 32 [1] iota_S64x784_d1_w32) (iota .tc S64x128 32 [1] iota_S64x128_d1_w32) (k1_pay23 cnt qs) (k1_pay34 (k1_pay8 cnt) (k1_pay22 cnt qs)) (k1_pay37 (k1_pay9 s) (iota .tc S64x784 32 [1] iota_S64x784_d1_w32) (iota .tc S64x128 32 [1] iota_S64x128_d1_w32) (k1_pay33 (k1_pay8 cnt) (k1_pay21 cnt qs)) (128#32) (k1_pay35 (k1_pay8 cnt) (k1_pay21 cnt qs)) (k1_pay36 (k1_pay8 cnt) (k1_pay21 cnt qs))) (128#32) (k1_pay38 (k1_pay34 (k1_pay8 cnt) (k1_pay22 cnt qs))) (k1_pay39 (k1_pay34 (k1_pay8 cnt) (k1_pay22 cnt qs))) (Scalar.cmpi .sgt 128#32 0#32))
      = quant 1 slices_S64x128_o0_1_S64x1 (k1_pay9 s) (k1_pay8 cnt) (k1_pay21 cnt qs) (k1_pay22 cnt qs) (k1_pay23 cnt qs) := rfl

theorem q2_eq (cnt : FVec F S64 .f32) (s : Vec F S784x128 .f32) (qs : Vec F S1x128 .f32) :
    (k1_pay48 (k1_pay9 s) (iota .tc S64x784 32 [1] iota_S64x784_d1_w32) (iota .tc S64x128 32 [1] iota_S64x128_d1_w32) (k1_pay23 cnt qs) (k1_pay42 (k1_pay8 cnt) (k1_pay22 cnt qs)) (k1_pay45 (k1_pay9 s) (iota .tc S64x784 32 [1] iota_S64x784_d1_w32) (iota .tc S64x128 32 [1] iota_S64x128_d1_w32) (k1_pay41 (k1_pay8 cnt) (k1_pay21 cnt qs)) (128#32) (k1_pay43 (k1_pay8 cnt) (k1_pay21 cnt qs)) (k1_pay44)) (128#32) (k1_pay46 (k1_pay42 (k1_pay8 cnt) (k1_pay22 cnt qs))) (k1_pay47 (k1_pay42 (k1_pay8 cnt) (k1_pay22 cnt qs))))
      = quant 2 slices_S64x128_o0_2_S64x1 (k1_pay9 s) (k1_pay8 cnt) (k1_pay21 cnt qs) (k1_pay22 cnt qs) (k1_pay23 cnt qs) := rfl

theorem q3_eq (cnt : FVec F S64 .f32) (s : Vec F S784x128 .f32) (qs : Vec F S1x128 .f32) :
    (k1_pay56 (k1_pay9 s) (iota .tc S64x784 32 [1] iota_S64x784_d1_w32) (iota .tc S64x128 32 [1] iota_S64x128_d1_w32) (k1_pay23 cnt qs) (k1_pay50 (k1_pay8 cnt) (k1_pay22 cnt qs)) (k1_pay52 (k1_pay9 s) (iota .tc S64x784 32 [1] iota_S64x784_d1_w32) (iota .tc S64x128 32 [1] iota_S64x128_d1_w32) (k1_pay49 (k1_pay8 cnt) (k1_pay21 cnt qs)) (128#32) (k1_pay51 (k1_pay8 cnt) (k1_pay21 cnt qs))) (128#32) (k1_pay53 (k1_pay50 (k1_pay8 cnt) (k1_pay22 cnt qs))) (k1_pay54 (k1_pay50 (k1_pay8 cnt) (k1_pay22 cnt qs))) (k1_pay55 (k1_pay50 (k1_pay8 cnt) (k1_pay22 cnt qs))))
      = quant 3 slices_S64x128_o0_3_S64x1 (k1_pay9 s) (k1_pay8 cnt) (k1_pay21 cnt qs) (k1_pay22 cnt qs) (k1_pay23 cnt qs) := rfl

theorem q4_eq (cnt : FVec F S64 .f32) (s : Vec F S784x128 .f32) (qs : Vec F S1x128 .f32) :
    (k1_pay62 (k1_pay9 s) (iota .tc S64x784 32 [1] iota_S64x784_d1_w32) (iota .tc S64x128 32 [1] iota_S64x128_d1_w32) (k1_pay23 cnt qs) (k1_pay58 (k1_pay8 cnt) (k1_pay22 cnt qs)) (k1_pay59 (k1_pay9 s) (iota .tc S64x784 32 [1] iota_S64x784_d1_w32) (iota .tc S64x128 32 [1] iota_S64x128_d1_w32) (k1_pay57 (k1_pay8 cnt) (k1_pay21 cnt qs)) (128#32)) (128#32) (k1_pay60 (k1_pay58 (k1_pay8 cnt) (k1_pay22 cnt qs))) (k1_pay61 (k1_pay58 (k1_pay8 cnt) (k1_pay22 cnt qs))) (0#32))
      = quant 4 slices_S64x128_o0_4_S64x1 (k1_pay9 s) (k1_pay8 cnt) (k1_pay21 cnt qs) (k1_pay22 cnt qs) (k1_pay23 cnt qs) := rfl

theorem q5_eq (cnt : FVec F S64 .f32) (s : Vec F S784x128 .f32) (qs : Vec F S1x128 .f32) :
    (k1_pay69 (k1_pay9 s) (iota .tc S64x784 32 [1] iota_S64x784_d1_w32) (iota .tc S64x128 32 [1] iota_S64x128_d1_w32) (k1_pay23 cnt qs) (k1_pay65 (k1_pay64 (k1_pay8 cnt) (k1_pay22 cnt qs))) (k1_pay66 (k1_pay9 s) (iota .tc S64x784 32 [1] iota_S64x784_d1_w32) (iota .tc S64x128 32 [1] iota_S64x128_d1_w32) (k1_pay63 (k1_pay8 cnt) (k1_pay21 cnt qs))) (128#32) (k1_pay67 (k1_pay64 (k1_pay8 cnt) (k1_pay22 cnt qs))) (k1_pay68 (k1_pay64 (k1_pay8 cnt) (k1_pay22 cnt qs))))
      = quant 5 slices_S64x128_o0_5_S64x1 (k1_pay9 s) (k1_pay8 cnt) (k1_pay21 cnt qs) (k1_pay22 cnt qs) (k1_pay23 cnt qs) := rfl

theorem q6_eq (cnt : FVec F S64 .f32) (s : Vec F S784x128 .f32) (qs : Vec F S1x128 .f32) :
    (k1_pay75 (k1_pay9 s) (iota .tc S64x784 32 [1] iota_S64x784_d1_w32) (iota .tc S64x128 32 [1] iota_S64x128_d1_w32) (k1_pay23 cnt qs) (k1_pay72 (k1_pay8 cnt) (k1_pay71 (k1_pay22 cnt qs))) (k1_pay73 (k1_pay9 s) (iota .tc S64x784 32 [1] iota_S64x784_d1_w32) (iota .tc S64x128 32 [1] iota_S64x128_d1_w32) (k1_pay70 (k1_pay8 cnt) (k1_pay21 cnt qs))) (128#32) (k1_pay74 (k1_pay8 cnt) (k1_pay71 (k1_pay22 cnt qs))) (0#32))
      = quant 6 slices_S64x128_o0_6_S64x1 (k1_pay9 s) (k1_pay8 cnt) (k1_pay21 cnt qs) (k1_pay22 cnt qs) (k1_pay23 cnt qs) := rfl

theorem q7_eq (cnt : FVec F S64 .f32) (s : Vec F S784x128 .f32) (qs : Vec F S1x128 .f32) :
    (k1_pay80 (k1_pay9 s) (iota .tc S64x784 32 [1] iota_S64x784_d1_w32) (iota .tc S64x128 32 [1] iota_S64x128_d1_w32) (k1_pay23 cnt qs) (k1_pay77 (k1_pay8 cnt) (k1_pay22 cnt qs)) (k1_pay78 (k1_pay9 s) (iota .tc S64x784 32 [1] iota_S64x784_d1_w32) (iota .tc S64x128 32 [1] iota_S64x128_d1_w32) (k1_pay76 (k1_pay8 cnt) (k1_pay21 cnt qs))) (128#32) (k1_pay79))
      = quant 7 slices_S64x128_o0_7_S64x1 (k1_pay9 s) (k1_pay8 cnt) (k1_pay21 cnt qs) (k1_pay22 cnt qs) (k1_pay23 cnt qs) := rfl

theorem q8_eq (cnt : FVec F S64 .f32) (s : Vec F S784x128 .f32) (qs : Vec F S1x128 .f32) :
    addf ((k1_pay85 (k1_pay23 cnt qs) (k1_pay83 (k1_pay8 cnt) (k1_pay9 s) (iota .tc S64x784 32 [1] iota_S64x784_d1_w32) (iota .tc S64x128 32 [1] iota_S64x128_d1_w32) (k1_pay81 (k1_pay21 cnt qs))))) ((k1_pay86 (k1_pay9 s) (iota .tc S64x784 32 [1] iota_S64x784_d1_w32) (iota .tc S64x128 32 [1] iota_S64x128_d1_w32) (k1_pay23 cnt qs) (k1_pay82 (k1_pay8 cnt) (k1_pay22 cnt qs))))
      = quant 8 slices_S64x128_o0_8_S64x1 (k1_pay9 s) (k1_pay8 cnt) (k1_pay21 cnt qs) (k1_pay22 cnt qs) (k1_pay23 cnt qs) := rfl

/-- The hidden layer over the twelve columns and four zero columns. -/
def hidden (a0 a1 a2 a3 a4 a5 a6 a7 a8 a9 a10 a11 : FVec F S64 .f32) (w1 : Vec F S16x128 .f32) (b1 : Vec F S1x128 .f32) : FVec F S64x128 .f32 :=
  have cst_279 : F .f32 := Scalar.ofBits .f32 0x00000000#32
  have w5 : FVec F S64 .f32 := broadcast S64 cst_279
  have w6 : FVec F S64x1 .f32 := shapeCast S64x1 a0 shapeCasts_S64_S64x1
  have w7 : FVec F S64x1 .f32 := shapeCast S64x1 a1 shapeCasts_S64_S64x1
  have w8 : FVec F S64x1 .f32 := shapeCast S64x1 a2 shapeCasts_S64_S64x1
  have w9 : FVec F S64x1 .f32 := shapeCast S64x1 a3 shapeCasts_S64_S64x1
  have w10 : FVec F S64x1 .f32 := shapeCast S64x1 a4 shapeCasts_S64_S64x1
  have w11 : FVec F S64x1 .f32 := shapeCast S64x1 a5 shapeCasts_S64_S64x1
  have w12 : FVec F S64x1 .f32 := shapeCast S64x1 a6 shapeCasts_S64_S64x1
  have w13 : FVec F S64x1 .f32 := shapeCast S64x1 a7 shapeCasts_S64_S64x1
  have w14 : FVec F S64x1 .f32 := shapeCast S64x1 a8 shapeCasts_S64_S64x1
  have w15 : FVec F S64x1 .f32 := shapeCast S64x1 a9 shapeCasts_S64_S64x1
  have w16 : FVec F S64x1 .f32 := shapeCast S64x1 a10 shapeCasts_S64_S64x1
  have w17 : FVec F S64x1 .f32 := shapeCast S64x1 a11 shapeCasts_S64_S64x1
  have w18 : FVec F S64x1 .f32 := shapeCast S64x1 w5 shapeCasts_S64_S64x1
  have w19 : FVec F S64x1 .f32 := shapeCast S64x1 w5 shapeCasts_S64_S64x1
  have w20 : FVec F S64x1 .f32 := shapeCast S64x1 w5 shapeCasts_S64_S64x1
  have w21 : FVec F S64x1 .f32 := shapeCast S64x1 w5 shapeCasts_S64_S64x1
  have w22 : FVec F S64x16 .f32 := concatenate S64x16 1 [⟨S64x1, w6⟩, ⟨S64x1, w7⟩, ⟨S64x1, w8⟩, ⟨S64x1, w9⟩, ⟨S64x1, w10⟩, ⟨S64x1, w11⟩, ⟨S64x1, w12⟩, ⟨S64x1, w13⟩, ⟨S64x1, w14⟩, ⟨S64x1, w15⟩, ⟨S64x1, w16⟩, ⟨S64x1, w17⟩, ⟨S64x1, w18⟩, ⟨S64x1, w19⟩, ⟨S64x1, w20⟩, ⟨S64x1, w21⟩] concatenates_S64x1_S64x1_S64x1_S64x1_S64x1_S64x1_S64x1_S64x1_S64x1_S64x1_S64x1_S64x1_S64x1_S64x1_S64x1_S64x1_S64x16_d1
  have w24 : FVec F S16x128 .f32 := shapeCast S16x128 w1 shapeCasts_S16x128_S16x128
  have cst_282 : FVec F S64x128 .f32 := constant S64x128 .f32 0x00000000#32
  have w25 : FVec F S64x128 .f32 := matmul dot_S64x16_S16x128_S64x128_1_0_0_1_n_n none w22 w24 cst_282
  have w27 : FVec F S1x128 .f32 := shapeCast S1x128 b1 shapeCasts_S1x128_S1x128
  have w28 : FVec F S64x128 .f32 := broadcastTo S64x128 w27 broadcasts_S1x128_S64x128
  have w29 : FVec F S64x128 .f32 := addf w25 w28
  have w30 : FVec F S64x128 .f32 := logistic w29
  have w31 : FVec F S64x128 .f32 := mulf w29 w30
  w31

/-- The readout over the counts, the sums and the sorted array. -/
def readout (cnt sm : FVec F S64 .f32) (s : Vec F S784x128 .f32) (qs : Vec F S1x128 .f32) (w1 : Vec F S16x128 .f32) (b1 w2 : Vec F S1x128 .f32) (b2 : Vec F S1x1 .f32) : FVec F S1x64 .f32 :=
  k1_pay1 (hidden (k1_pay7 cnt sm) (gath (k1_pay9 s) (k1_pay11 cnt)) (gath (k1_pay9 s) (k1_pay10 cnt))
    (quant 0 slices_S64x128_o0_0_S64x1 (k1_pay9 s) (k1_pay8 cnt) (k1_pay21 cnt qs) (k1_pay22 cnt qs) (k1_pay23 cnt qs))
    (quant 1 slices_S64x128_o0_1_S64x1 (k1_pay9 s) (k1_pay8 cnt) (k1_pay21 cnt qs) (k1_pay22 cnt qs) (k1_pay23 cnt qs))
    (quant 2 slices_S64x128_o0_2_S64x1 (k1_pay9 s) (k1_pay8 cnt) (k1_pay21 cnt qs) (k1_pay22 cnt qs) (k1_pay23 cnt qs))
    (quant 3 slices_S64x128_o0_3_S64x1 (k1_pay9 s) (k1_pay8 cnt) (k1_pay21 cnt qs) (k1_pay22 cnt qs) (k1_pay23 cnt qs))
    (quant 4 slices_S64x128_o0_4_S64x1 (k1_pay9 s) (k1_pay8 cnt) (k1_pay21 cnt qs) (k1_pay22 cnt qs) (k1_pay23 cnt qs))
    (quant 5 slices_S64x128_o0_5_S64x1 (k1_pay9 s) (k1_pay8 cnt) (k1_pay21 cnt qs) (k1_pay22 cnt qs) (k1_pay23 cnt qs))
    (quant 6 slices_S64x128_o0_6_S64x1 (k1_pay9 s) (k1_pay8 cnt) (k1_pay21 cnt qs) (k1_pay22 cnt qs) (k1_pay23 cnt qs))
    (quant 7 slices_S64x128_o0_7_S64x1 (k1_pay9 s) (k1_pay8 cnt) (k1_pay21 cnt qs) (k1_pay22 cnt qs) (k1_pay23 cnt qs))
    (quant 8 slices_S64x128_o0_8_S64x1 (k1_pay9 s) (k1_pay8 cnt) (k1_pay21 cnt qs) (k1_pay22 cnt qs) (k1_pay23 cnt qs))
    w1 b1) (k1_pay88 w2) b2

/-- The body's own expression, as its parts pass it on. -/
def body (cnt sm : FVec F S64 .f32) (s : Vec F S784x128 .f32) (qs : Vec F S1x128 .f32) (v993 : Vec F S16x128 .f32) (v996 v1002 : Vec F S1x128 .f32) (v1007 : Vec F S1x1 .f32) : FVec F S1x64 .f32 :=
  k1_pay1 (k1_pay87 (k1_pay7 cnt sm) (k1_pay14 (k1_pay9 s) (iota .tc S64x784 32 [1] iota_S64x784_d1_w32) (iota .tc S64x128 32 [1] iota_S64x128_d1_w32) (k1_pay11 cnt) (128#32) (k1_pay12 cnt) (k1_pay13 cnt) (Scalar.extui (Scalar.cmpi .sgt 128#32 0#32)) (Scalar.extui (Scalar.cmpi .slt 128#32 0#32))) (k1_pay19 (k1_pay9 s) (iota .tc S64x784 32 [1] iota_S64x784_d1_w32) (iota .tc S64x128 32 [1] iota_S64x128_d1_w32) (k1_pay10 cnt) (k1_pay15 (k1_pay10 cnt)) (k1_pay16 (k1_pay10 cnt)) (k1_pay17 (k1_pay10 cnt)) (k1_pay18)) (k1_pay32 (k1_pay9 s) (iota .tc S64x784 32 [1] iota_S64x784_d1_w32) (iota .tc S64x128 32 [1] iota_S64x128_d1_w32) (k1_pay23 cnt qs) (k1_pay25 cnt (k1_pay8 cnt) qs) (k1_pay29 (k1_pay9 s) (iota .tc S64x784 32 [1] iota_S64x784_d1_w32) (iota .tc S64x128 32 [1] iota_S64x128_d1_w32) (k1_pay24 cnt (k1_pay8 cnt) qs) (128#32) (k1_pay26 cnt (k1_pay8 cnt) qs) (k1_pay27 cnt (k1_pay8 cnt) qs) (k1_pay28)) (128#32) (k1_pay30 (k1_pay25 cnt (k1_pay8 cnt) qs)) (k1_pay31 (k1_pay25 cnt (k1_pay8 cnt) qs)) (Scalar.extui (Scalar.cmpi .sgt 128#32 0#32)) (0#32)) (k1_pay40 (k1_pay9 s) (iota .tc S64x784 32 [1] iota_S64x784_d1_w32) (iota .tc S64x128 32 [1] iota_S64x128_d1_w32) (k1_pay23 cnt qs) (k1_pay34 (k1_pay8 cnt) (k1_pay22 cnt qs)) (k1_pay37 (k1_pay9 s) (iota .tc S64x784 32 [1] iota_S64x784_d1_w32) (iota .tc S64x128 32 [1] iota_S64x128_d1_w32) (k1_pay33 (k1_pay8 cnt) (k1_pay21 cnt qs)) (128#32) (k1_pay35 (k1_pay8 cnt) (k1_pay21 cnt qs)) (k1_pay36 (k1_pay8 cnt) (k1_pay21 cnt qs))) (128#32) (k1_pay38 (k1_pay34 (k1_pay8 cnt) (k1_pay22 cnt qs))) (k1_pay39 (k1_pay34 (k1_pay8 cnt) (k1_pay22 cnt qs))) (Scalar.cmpi .sgt 128#32 0#32)) (k1_pay48 (k1_pay9 s) (iota .tc S64x784 32 [1] iota_S64x784_d1_w32) (iota .tc S64x128 32 [1] iota_S64x128_d1_w32) (k1_pay23 cnt qs) (k1_pay42 (k1_pay8 cnt) (k1_pay22 cnt qs)) (k1_pay45 (k1_pay9 s) (iota .tc S64x784 32 [1] iota_S64x784_d1_w32) (iota .tc S64x128 32 [1] iota_S64x128_d1_w32) (k1_pay41 (k1_pay8 cnt) (k1_pay21 cnt qs)) (128#32) (k1_pay43 (k1_pay8 cnt) (k1_pay21 cnt qs)) (k1_pay44)) (128#32) (k1_pay46 (k1_pay42 (k1_pay8 cnt) (k1_pay22 cnt qs))) (k1_pay47 (k1_pay42 (k1_pay8 cnt) (k1_pay22 cnt qs)))) (k1_pay56 (k1_pay9 s) (iota .tc S64x784 32 [1] iota_S64x784_d1_w32) (iota .tc S64x128 32 [1] iota_S64x128_d1_w32) (k1_pay23 cnt qs) (k1_pay50 (k1_pay8 cnt) (k1_pay22 cnt qs)) (k1_pay52 (k1_pay9 s) (iota .tc S64x784 32 [1] iota_S64x784_d1_w32) (iota .tc S64x128 32 [1] iota_S64x128_d1_w32) (k1_pay49 (k1_pay8 cnt) (k1_pay21 cnt qs)) (128#32) (k1_pay51 (k1_pay8 cnt) (k1_pay21 cnt qs))) (128#32) (k1_pay53 (k1_pay50 (k1_pay8 cnt) (k1_pay22 cnt qs))) (k1_pay54 (k1_pay50 (k1_pay8 cnt) (k1_pay22 cnt qs))) (k1_pay55 (k1_pay50 (k1_pay8 cnt) (k1_pay22 cnt qs)))) (k1_pay62 (k1_pay9 s) (iota .tc S64x784 32 [1] iota_S64x784_d1_w32) (iota .tc S64x128 32 [1] iota_S64x128_d1_w32) (k1_pay23 cnt qs) (k1_pay58 (k1_pay8 cnt) (k1_pay22 cnt qs)) (k1_pay59 (k1_pay9 s) (iota .tc S64x784 32 [1] iota_S64x784_d1_w32) (iota .tc S64x128 32 [1] iota_S64x128_d1_w32) (k1_pay57 (k1_pay8 cnt) (k1_pay21 cnt qs)) (128#32)) (128#32) (k1_pay60 (k1_pay58 (k1_pay8 cnt) (k1_pay22 cnt qs))) (k1_pay61 (k1_pay58 (k1_pay8 cnt) (k1_pay22 cnt qs))) (0#32)) (k1_pay69 (k1_pay9 s) (iota .tc S64x784 32 [1] iota_S64x784_d1_w32) (iota .tc S64x128 32 [1] iota_S64x128_d1_w32) (k1_pay23 cnt qs) (k1_pay65 (k1_pay64 (k1_pay8 cnt) (k1_pay22 cnt qs))) (k1_pay66 (k1_pay9 s) (iota .tc S64x784 32 [1] iota_S64x784_d1_w32) (iota .tc S64x128 32 [1] iota_S64x128_d1_w32) (k1_pay63 (k1_pay8 cnt) (k1_pay21 cnt qs))) (128#32) (k1_pay67 (k1_pay64 (k1_pay8 cnt) (k1_pay22 cnt qs))) (k1_pay68 (k1_pay64 (k1_pay8 cnt) (k1_pay22 cnt qs)))) (k1_pay75 (k1_pay9 s) (iota .tc S64x784 32 [1] iota_S64x784_d1_w32) (iota .tc S64x128 32 [1] iota_S64x128_d1_w32) (k1_pay23 cnt qs) (k1_pay72 (k1_pay8 cnt) (k1_pay71 (k1_pay22 cnt qs))) (k1_pay73 (k1_pay9 s) (iota .tc S64x784 32 [1] iota_S64x784_d1_w32) (iota .tc S64x128 32 [1] iota_S64x128_d1_w32) (k1_pay70 (k1_pay8 cnt) (k1_pay21 cnt qs))) (128#32) (k1_pay74 (k1_pay8 cnt) (k1_pay71 (k1_pay22 cnt qs))) (0#32)) (k1_pay80 (k1_pay9 s) (iota .tc S64x784 32 [1] iota_S64x784_d1_w32) (iota .tc S64x128 32 [1] iota_S64x128_d1_w32) (k1_pay23 cnt qs) (k1_pay77 (k1_pay8 cnt) (k1_pay22 cnt qs)) (k1_pay78 (k1_pay9 s) (iota .tc S64x784 32 [1] iota_S64x784_d1_w32) (iota .tc S64x128 32 [1] iota_S64x128_d1_w32) (k1_pay76 (k1_pay8 cnt) (k1_pay21 cnt qs))) (128#32) (k1_pay79)) (k1_pay85 (k1_pay23 cnt qs) (k1_pay83 (k1_pay8 cnt) (k1_pay9 s) (iota .tc S64x784 32 [1] iota_S64x784_d1_w32) (iota .tc S64x128 32 [1] iota_S64x128_d1_w32) (k1_pay81 (k1_pay21 cnt qs)))) (k1_pay86 (k1_pay9 s) (iota .tc S64x784 32 [1] iota_S64x784_d1_w32) (iota .tc S64x128 32 [1] iota_S64x128_d1_w32) (k1_pay23 cnt qs) (k1_pay82 (k1_pay8 cnt) (k1_pay22 cnt qs))) v993 v996) (k1_pay88 v1002) v1007

theorem body_eq (cnt sm : FVec F S64 .f32) (s : Vec F S784x128 .f32) (qs : Vec F S1x128 .f32) (v993 : Vec F S16x128 .f32) (v996 v1002 : Vec F S1x128 .f32) (v1007 : Vec F S1x1 .f32) : body cnt sm s qs v993 v996 v1002 v1007 = readout cnt sm s qs v993 v996 v1002 v1007 := by
  unfold body
  simp only [mx_eq, mn_eq, q0_eq, q1_eq, q2_eq, q3_eq, q4_eq, q5_eq, q6_eq, q7_eq]
  rfl

theorem out1_eq (c : Dev nD) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)
    (x0 : Vec F S784x128 .f32) (x1 : Vec F S784x128 .i32) (x2 : Vec F S784x128 .f32) (x3 : Vec F S1x128 .f32) (x4 : Vec F S16x128 .f32) (x5 : Vec F S1x128 .f32) (x6 : Vec F S1x128 .f32) (x7 : Vec F S1x1 .f32) :
    out1_A_8 c i arg1 harg1 arg2 harg2 arg3 harg3 arg4 harg4 arg5 harg5 arg6 harg6 arg7 harg7 arg8 harg8 arg9 harg9 x0 x1 x2 x3 x4 x5 x6 x7 = body (st (F := F) Variants.none c none i arg1 harg1 arg2 harg2 arg3 harg3 arg4 harg4 arg5 harg5 arg6 harg6 arg7 harg7 arg8 harg8 arg9 harg9 (harg1.unread x0) (harg2.unread x1) (k1_pay2 (F := F), k1_pay3 (F := F)) 98).1
      (st (F := F) Variants.none c none i arg1 harg1 arg2 harg2 arg3 harg3 arg4 harg4 arg5 harg5 arg6 harg6 arg7 harg7 arg8 harg8 arg9 harg9 (harg1.unread x0) (harg2.unread x1) (k1_pay2 (F := F), k1_pay3 (F := F)) 98).2 x2 x3 x4 x5 x6 x7 := by
  unfold out1_A_8
  frame_out
  have h98 : Scf.trips (0#32) (Scalar.addi 0#32 98#32) 1#32 = 98 := by decide
  rw [h98]
  rfl

theorem trip_eq (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)  (x0 : Vec F S784x128 .f32) (x1 : Vec F S784x128 .i32) (k : Fin k1_t1_loop.trips) (acc : FVec F S64 .f32 × FVec F S64 .f32) :
    tripR (F := F) 𝒱 c bd i arg1 harg1 arg2 harg2 arg3 harg3 arg4 harg4 arg5 harg5 arg6 harg6 arg7 harg7 arg8 harg8 arg9 harg9 (harg1.unread x0) (harg2.unread x1) k acc
      = (k1_pay5 acc.1 (View.ld x1 (Rect.unit (s := S784x128) (k1_off1 k) S8x128.size (k1_off1_inb k))),
         k1_pay6 acc.2 (View.ld x1 (Rect.unit (s := S784x128) (k1_off1 k) S8x128.size (k1_off1_inb k))) (View.ld x0 (Rect.unit (s := S784x128) (k1_off1 k) S8x128.size (k1_off1_inb k)))) := by
  unfold tripR trip
  frame_out

end Cert.KernelIdeal.Val
-- ==== Proof.PayI.lean ====
/- What the two regions' bodies compute, read at an index over the extended reals. -/
module

public import proofs.«01_k».proof.Proof.Gen.KernelIdeal.Skeleton
public import proofs.«01_k».proof.Proof.ReadV
public import proofs.«01_k».proof.Proof.DataV
public import Idealize.ShloMosaic.Lib.Pointwise

@[expose] public section

set_option maxRecDepth 16384

noncomputable section

namespace Cert.KernelIdeal.Val

open Cert.KernelIdeal.Gen Cert.Spec
open Idealize.ShloMosaic Idealize.ShloMosaic.TcCoe Idealize.ShloMosaic.Tactic

theorem pay_node (x : Vec Ideal S2048x512 .f32) (wcf : Vec Ideal S1x512 .f32) (w1 : Vec Ideal S128x128 .f32) (b1 w2 : Vec Ideal S1x128 .f32)
    (c0 : Vec Ideal S1x1 .f32) (y0 y1 : Fin 1) (y2 : Fin 2048) :
    k0_pay1 (F := Ideal) x wcf w1 b1 w2 c0 (ix3 y0 y1 y2) = ∑ k : Fin 512, x (ix2 y2 k) * wcf (ix2 0 k)
      + ∑ h : Fin 128, silu (∑ k : Fin 128, x (ix2 y2 ⟨384 + k.val, by omega⟩) * w1 (ix2 k h) + b1 (ix2 0 h)) * w2 (ix2 0 h) + c0 (ix2 0 0) := by
  pointwise [k0_pay1]
  rfl

theorem pay_off (a : FVec Ideal S64 .f32) (j : Fin 64) :
    k1_pay8 (F := Ideal) a (ix1 j) = ∑ x : Fin 64, if x.val < j.val then a (ix1 x) else 0 := by
  pointwise [k1_pay8]
  refine Finset.sum_congr rfl fun x _ => ?_
  have : IntOp.cmpi CmpIPredicate.slt (BitVec.ofNat 32 ↑x) (BitVec.ofNat 32 ↑j) = BitVec.ofBool (decide (x.val < j.val)) := by
    revert x j; decide +kernel
  rw [this]
  by_cases h : x.val < j.val <;> simp [h, Scalar.select]

theorem fiber3 (j : Fin 64) (i : S8x128x64.Idx) : reduces_S8x128x64_S64.drop i = ix1 j ↔ ∃ k : Fin 8 × Fin 128, ix3 k.1 k.2 j = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem sum3 (f : S8x128x64.Idx → EReal) (j : Fin 64) :
    Ideal.reduceAdd reduces_S8x128x64_S64 f (ix1 j) = ∑ a : Fin 8, ∑ b : Fin 128, f (ix3 a b j) := by
  refine (Finset.sum_filter_eq_sum_of_fiber _ (fun k : Fin 8 × Fin 128 => ix3 k.1 k.2 j)
    (fun _ _ e => Prod.ext (congrFun e 0) (congrFun e 1)) (fiber3 j) f).trans ?_
  simp only [Fintype.sum_prod_type]

theorem cmpi_eq (a b : BitVec 32) : IntOp.cmpi CmpIPredicate.eq a b = BitVec.ofBool (decide (a = b)) := by
  show BitVec.ofBool (a == b) = _
  congr 1

theorem select_dec {α : Type} (p : Prop) [Decidable p] (x y : α) : Scalar.select (BitVec.ofBool (decide p)) x y = if p then x else y := by
  by_cases h : p <;> simp [Scalar.select, h]

theorem pay_cnt (a : FVec Ideal S64 .f32) (bt : Vec Ideal S8x128 .i32) (j : Fin 64) :
    k1_pay5 (F := Ideal) a bt (ix1 j) = a (ix1 j) + ∑ r : Fin 8, ∑ l : Fin 128, if bt (ix2 r l) = BitVec.ofNat 32 j.val then 1 else 0 := by
  pointwise [k1_pay5, k1_pay4]
  rw [sum3]
  congr 1
  refine Finset.sum_congr rfl fun r _ => Finset.sum_congr rfl fun l _ => ?_
  pointwise
  rw [cmpi_eq, select_dec]

theorem pay_sum (a : FVec Ideal S64 .f32) (bt : Vec Ideal S8x128 .i32) (v : Vec Ideal S8x128 .f32) (j : Fin 64) :
    k1_pay6 (F := Ideal) a bt v (ix1 j) = a (ix1 j) + ∑ r : Fin 8, ∑ l : Fin 128, if bt (ix2 r l) = BitVec.ofNat 32 j.val then v (ix2 r l) else 0 := by
  pointwise [k1_pay6, k1_pay4]
  rw [sum3]
  congr 1
  refine Finset.sum_congr rfl fun r _ => Finset.sum_congr rfl fun l _ => ?_
  pointwise
  rw [cmpi_eq, select_dec]

end Cert.KernelIdeal.Val
-- ==== Proof.NodeV.lean ====
/- The first region's result at the rows of the nodes. -/
module

public import proofs.«01_k».proof.Proof.HostV
public import proofs.«01_k».proof.Proof.PayI
public import Idealize.ShloMosaic.Lib.Pipeline.ArrRel

@[expose] public section

set_option maxRecDepth 16384

noncomputable section

namespace Cert.KernelIdeal.Val

open Cert.KernelIdeal.Gen Cert.KernelIdeal.Run Cert.Spec
open Idealize.ShloMosaic Idealize.ShloMosaic.TcCoe Idealize.ShloMosaic.Tactic
open Idealize.SL Idealize.SL.RA Idealize.SL.Sem
open Idealize.ShloMosaic.Pipeline (Dat Cfg Window RDat)

variable (m : (ℓ : Loc nD τ sig) → Buf (Elt Ideal) ℓ) (o : Out (F := Ideal)) (c : Dev nD)

instance : ∀ e, Nonempty (Elt Ideal e) := fun e => by cases e <;> exact ⟨0⟩

/-- What the first region computes of a row: one product over the four features side by side, the network on the last of them, the constants added last. -/
def knode (a : Args) (i : Fin 100000) : EReal :=
  ∑ k : Fin 512, a.e i ⟨k.val % 128, by omega⟩ ⟨k.val / 128, by omega⟩ * (if h : k.val < 384 then a.lw ⟨k.val / 128, by omega⟩ ⟨k.val % 128, by omega⟩ else 0)
    + ∑ h : Fin 128, a.hid i h * a.w2 h + (∑ x : Fin 3, a.lb x + a.b2)

theorem idx6 (t : Fin cfg0.N) : win0_6.index t 0 = t.val ∧ win0_6.index t 1 = 0 ∧ win0_6.index t 2 = 0 := by
  revert t; decide +kernel

theorem idx0 (t : Fin cfg0.N) : win0_0.index t 0 = t.val ∧ win0_0.index t 1 = 0 := by
  revert t; decide +kernel

theorem xs0 (t : Fin cfg0.N) : (cfg0.win 0).xsize (cfg0.grid.coords t) 0 = min 2048 (100000 - t.val * 2048) ∧ (cfg0.win 0).xsize (cfg0.grid.coords t) 1 = 512 := by
  revert t; decide +kernel

theorem blk_row (t : Fin cfg0.N) (d) (r : Fin 2048) (k : Fin 512) (h : t.val * 2048 + r.val < 100000) :
    blk0 (V1 m) c t d (ix2 r k) = (W1 m c (Proc.devRef .tc main_v1) : Vec Ideal S100000x512 .f32) (ix2 ⟨t.val * 2048 + r.val, h⟩ k) := by
  unfold blk0 Window.fill
  have hm : (cfg0.win 0).moved (cfg0.grid.coords t) (ix2 r k) = true := by
    rw [Window.moved_iff]
    intro a
    match a with
    | 0 =>
      refine lt_of_lt_of_eq ?_ (xs0 t).1.symm
      show r.val < _
      omega
    | 1 => exact lt_of_lt_of_eq k.isLt (xs0 t).2.symm
  rw [dif_pos hm]
  unfold iblk0
  show (W1 m c (Proc.devRef .tc main_v1) : Vec Ideal S100000x512 .f32) _ = _
  congr 1
  funext a
  apply Fin.ext
  match a with
  | 0 =>
    show win0_0.index t 0 * 2048 + 1 * r.val = t.val * 2048 + r.val
    rw [(idx0 t).1]; omega
  | 1 =>
    show win0_0.index t 1 * 512 + 1 * k.val = k.val
    rw [(idx0 t).2]; omega

theorem b1_at (t : Fin cfg0.N) : (iblk0 (V1 m) c 1 t : Vec Ideal S1x512 .f32) = (W1 m c (Proc.devRef .tc main_v4) : Vec Ideal S1x512 .f32) := by
  have hi : win0_1.index t 0 = 0 ∧ win0_1.index t 1 = 0 := by revert t; decide +kernel
  unfold iblk0
  funext j
  show (W1 m c (Proc.devRef .tc main_v4) : Vec Ideal S1x512 .f32) _ = _
  congr 1
  funext a
  apply Fin.ext
  match a with
  | 0 =>
    show win0_1.index t 0 * 1 + 1 * (j 0).val = (j 0).val
    rw [hi.1]; omega
  | 1 =>
    show win0_1.index t 1 * 512 + 1 * (j 1).val = (j 1).val
    rw [hi.2]; omega

theorem b2_at (t : Fin cfg0.N) : (iblk0 (V1 m) c 2 t : Vec Ideal S128x128 .f32) = (W1 m c (Proc.devRef .tc main_arg4) : Vec Ideal S128x128 .f32) := by
  have hi : win0_2.index t 0 = 0 ∧ win0_2.index t 1 = 0 := by revert t; decide +kernel
  unfold iblk0
  funext j
  show (W1 m c (Proc.devRef .tc main_arg4) : Vec Ideal S128x128 .f32) _ = _
  congr 1
  funext a
  apply Fin.ext
  match a with
  | 0 =>
    show win0_2.index t 0 * 128 + 1 * (j 0).val = (j 0).val
    rw [hi.1]; omega
  | 1 =>
    show win0_2.index t 1 * 128 + 1 * (j 1).val = (j 1).val
    rw [hi.2]; omega

theorem b3_at (t : Fin cfg0.N) : (iblk0 (V1 m) c 3 t : Vec Ideal S1x128 .f32) = (W1 m c (Proc.devRef .tc main_v8) : Vec Ideal S1x128 .f32) := by
  have hi : win0_3.index t 0 = 0 ∧ win0_3.index t 1 = 0 := by revert t; decide +kernel
  unfold iblk0
  funext j
  show (W1 m c (Proc.devRef .tc main_v8) : Vec Ideal S1x128 .f32) _ = _
  congr 1
  funext a
  apply Fin.ext
  match a with
  | 0 =>
    show win0_3.index t 0 * 1 + 1 * (j 0).val = (j 0).val
    rw [hi.1]; omega
  | 1 =>
    show win0_3.index t 1 * 128 + 1 * (j 1).val = (j 1).val
    rw [hi.2]; omega

theorem b4_at (t : Fin cfg0.N) : (iblk0 (V1 m) c 4 t : Vec Ideal S1x128 .f32) = (W1 m c (Proc.devRef .tc main_v9) : Vec Ideal S1x128 .f32) := by
  have hi : win0_4.index t 0 = 0 ∧ win0_4.index t 1 = 0 := by revert t; decide +kernel
  unfold iblk0
  funext j
  show (W1 m c (Proc.devRef .tc main_v9) : Vec Ideal S1x128 .f32) _ = _
  congr 1
  funext a
  apply Fin.ext
  match a with
  | 0 =>
    show win0_4.index t 0 * 1 + 1 * (j 0).val = (j 0).val
    rw [hi.1]; omega
  | 1 =>
    show win0_4.index t 1 * 128 + 1 * (j 1).val = (j 1).val
    rw [hi.2]; omega

theorem b5_at (t : Fin cfg0.N) : (iblk0 (V1 m) c 5 t : Vec Ideal S1x1 .f32) = (W1 m c (Proc.devRef .tc main_v7) : Vec Ideal S1x1 .f32) := by
  have hi : win0_5.index t 0 = 0 ∧ win0_5.index t 1 = 0 := by revert t; decide +kernel
  unfold iblk0
  funext j
  show (W1 m c (Proc.devRef .tc main_v7) : Vec Ideal S1x1 .f32) _ = _
  congr 1
  funext a
  apply Fin.ext
  match a with
  | 0 =>
    show win0_5.index t 0 * 1 + 1 * (j 0).val = (j 0).val
    rw [hi.1]; omega
  | 1 =>
    show win0_5.index t 1 * 1 + 1 * (j 1).val = (j 1).val
    rw [hi.2]; omega

theorem out_eq (x0 : Vec Ideal S2048x512 .f32) (x1 : Vec Ideal S1x512 .f32) (x2 : Vec Ideal S128x128 .f32) (x3 x4 : Vec Ideal S1x128 .f32) (x5 : Vec Ideal S1x1 .f32) : out0_6 x0 x1 x2 x3 x4 x5 = k0_pay1 x0 x1 x2 x3 x4 x5 := by
  unfold out0_6
  frame_out

theorem sec_eq (k : Fin 128) : (384 + k.val) % 128 = k.val ∧ (384 + k.val) / 128 = 3 := by omega

theorem pay_row (t : Fin cfg0.N) (d) (y : S1x1x2048.Idx) (h : t.val * 2048 + (y 2).val < 100000) :
    out0_6 (blk0 (V1 m) c t d) (iblk0 (V1 m) c 1 t) (iblk0 (V1 m) c 2 t) (iblk0 (V1 m) c 3 t) (iblk0 (V1 m) c 4 t) (iblk0 (V1 m) c 5 t) y
      = knode (args m c) ⟨t.val * 2048 + (y 2).val, h⟩ := by
  obtain ⟨y0, y1, y2, rfl⟩ : ∃ (y0 y1 : Fin 1) (y2 : Fin 2048), y = ix3 y0 y1 y2 := ⟨y 0, y 1, y 2, eq_ix3 y⟩
  rw [out_eq, b1_at, b2_at, b3_at, b4_at, b5_at, pay_node, v7_at]
  unfold knode Args.hid
  congr 1
  · congr 1
    · refine Finset.sum_congr rfl fun k _ => ?_
      rw [blk_row m c t d y2 k h, v1_at, v4_at]
      rfl
    · refine Finset.sum_congr rfl fun k _ => ?_
      rw [v9_at, v8_at]
      congr 2
      congr 1
      refine Finset.sum_congr rfl fun x _ => ?_
      rw [blk_row m c t d y2 _ h, v1_at, arg4_at]
      congr 2 <;> apply Fin.ext
      · exact (sec_eq x).1
      · exact (sec_eq x).2

/-- What the first region may leave at a point, row by row. -/
theorem leaf_row (t : Fin cfg0.N) (X : Vec Ideal S1x1x2048 .f32) (hX : Rl0 (V1 m) c 6 t X) (y : S1x1x2048.Idx) (h : t.val * 2048 + (y 2).val < 100000) :
    X y = knode (args m c) ⟨t.val * 2048 + (y 2).val, h⟩ := by
  obtain ⟨d, rfl⟩ := hX
  exact pay_row m c t d y h

def Row (j : S49x1x2048.Idx) (v : EReal) : Prop :=
  ∀ hj : (j 0).val * 2048 + (j 2).val < 100000, v = knode (args m c) ⟨(j 0).val * 2048 + (j 2).val, hj⟩

theorem row_of (t : Fin cfg0.N) (X : Vec Ideal S1x1x2048 .f32) (hX : Rl0 (V1 m) c 6 t X) (y : S1x1x2048.Idx) (j : S49x1x2048.Idx)
    (h0 : (j 0).val = win0_6.index t 0 * 1 + 1 * (y 0).val) (h2 : (j 2).val = win0_6.index t 2 * 2048 + 1 * (y 2).val) : Row m c j (X y) := by
  intro hj
  obtain ⟨i0, -, i2⟩ := idx6 t
  have y0 : (y 0).val = 0 := by have := (y 0).isLt; change (y 0).val < 1 at this; omega
  rw [i0, y0] at h0
  rw [i2] at h2
  have e : (j 0).val * 2048 + (j 2).val = t.val * 2048 + (y 2).val := by omega
  rw [leaf_row m c t X hX y (by omega)]
  congr 1
  exact Fin.ext e.symm

theorem o_at (h : rel m o c) (i : Fin 100000) : (o : Vec Ideal S49x1x2048 .f32) (ix3 ⟨i.val / 2048, by omega⟩ 0 ⟨i.val % 2048, by omega⟩) = knode (args m c) i := by
  obtain ⟨X, hX, hA⟩ := RDat.ArrAt.exists_exact h
  obtain ⟨after, h6⟩ : ∃ after : (w' : Fin cfg0.W) → Fin cfg0.N → (cfg0.win w').block.Idx → Elt Ideal (cfg0.win w').elt, after 6 = X :=
    ⟨Function.update (fun _ _ _ => Classical.arbitrary _) 6 X, Function.update_self ..⟩
  have e := hA after fun u _ _ => by rw [h6]
  have key := Dat.arrAt_forall_of_covers (dat := (rdat0 (V1 m) c).withAfter after) 6
    (fun j v => Row m c j v) (by decide +kernel) (fun t hf y => ?_) (ix3 ⟨i.val / 2048, by omega⟩ 0 ⟨i.val % 2048, by omega⟩)
  · rw [e]
    refine (key (show i.val / 2048 * 2048 + i.val % 2048 < 100000 by omega)).trans ?_
    congr 1
    apply Fin.ext
    show i.val / 2048 * 2048 + i.val % 2048 = i.val
    omega
  · have hl := Dat.toRRel_leaves (dat0 (V1 m) c) (w := 6) rfl (hX t t.isLt hf)
    rw [RDat.withAfter_after, h6]
    exact row_of m c t (X t) hl y _ rfl rfl

end Cert.KernelIdeal.Val
-- ==== Proof.AlgV.lean ====
/- The node value as the first region computes it is the node value of the problem: sums regrouped, zeros dropped. -/
module

public import proofs.«01_k».proof.Proof.NodeV
public import Mathlib.Algebra.BigOperators.Fin

@[expose] public section

noncomputable section

namespace Cert.KernelIdeal.Val

open Cert.Spec
open Idealize.ShloMosaic

/-- A sum over 512 columns, 128 at a time. -/
theorem sum512 (G : Fin 4 → Fin 128 → EReal) (f : Fin 512 → EReal) (h : ∀ (q : Fin 4) (k : Fin 128), f ⟨q.val * 128 + k.val, by omega⟩ = G q k) :
    ∑ x : Fin 512, f x = ∑ q : Fin 4, ∑ k : Fin 128, G q k := by
  rw [← Fintype.sum_prod_type']
  refine (Fintype.sum_equiv (finProdFinEquiv (m := 4) (n := 128)) _ _ fun p => ?_).symm
  rw [← h p.1 p.2]
  congr 1
  apply Fin.ext
  show p.1.val * 128 + p.2.val = p.2.val + 128 * p.1.val
  omega

theorem knode_eq (a : Args) (i : Fin 100000) : knode a i = a.node i := by
  unfold knode Args.node
  have key := sum512 (fun q k => a.e i k q * (if h : q.val < 3 then a.lw ⟨q.val, h⟩ k else 0))
    (fun k : Fin 512 => a.e i ⟨k.val % 128, by omega⟩ ⟨k.val / 128, by omega⟩ * (if h : k.val < 384 then a.lw ⟨k.val / 128, by omega⟩ ⟨k.val % 128, by omega⟩ else 0)) (by
      intro q k
      have e1 : (q.val * 128 + k.val) % 128 = k.val := by omega
      have e2 : (q.val * 128 + k.val) / 128 = q.val := by omega
      have e3 : (q.val * 128 + k.val < 384) = (q.val < 3) := by apply propext; omega
      simp only [e1, e2, e3])
  rw [key, Fin.sum_univ_four, Fin.sum_univ_three]
  have z : (∑ k : Fin 128, a.e i k 3 * (if h : (3 : Fin 4).val < 3 then a.lw ⟨(3 : Fin 4).val, h⟩ k else 0)) = 0 := by
    refine Finset.sum_eq_zero fun k _ => ?_
    rw [dif_neg (by decide), mul_zero]
  rw [z]
  simp only [add_zero, zero_add]
  have c0 : (∑ k : Fin 128, a.e i k 0 * (if h : (0 : Fin 4).val < 3 then a.lw ⟨(0 : Fin 4).val, h⟩ k else 0)) = ∑ k : Fin 128, a.e i k 0 * a.lw 0 k := rfl
  have c1 : (∑ k : Fin 128, a.e i k 1 * (if h : (1 : Fin 4).val < 3 then a.lw ⟨(1 : Fin 4).val, h⟩ k else 0)) = ∑ k : Fin 128, a.e i k 1 * a.lw 1 k := rfl
  have c2 : (∑ k : Fin 128, a.e i k 2 * (if h : (2 : Fin 4).val < 3 then a.lw ⟨(2 : Fin 4).val, h⟩ k else 0)) = ∑ k : Fin 128, a.e i k 2 * a.lw 2 k := rfl
  rw [c0, c1, c2]
  abel

end Cert.KernelIdeal.Val
-- ==== Proof.LoopV.lean ====
/- The loop over the rows of the padded arrays, as sums over the flat positions. -/
module

public import proofs.«01_k».proof.Proof.PayI

@[expose] public section

set_option maxRecDepth 16384

noncomputable section

namespace Cert.KernelIdeal.Val

open Cert.KernelIdeal.Gen Cert.KernelIdeal.Run
open Idealize.ShloMosaic Idealize.ShloMosaic.TcCoe Idealize.ShloMosaic.Tactic

/-- A sum over rows and lanes is the sum over the flat positions. -/
theorem sum_rows (m : ℕ) (G : ℕ → EReal) (n : ℕ) : ∑ r : Fin n, ∑ l : Fin m, G (r.val * m + l.val) = ∑ p ∈ Finset.range (n * m), G p := by
  induction n with
  | zero => simp
  | succ n ih =>
    rw [Fin.sum_univ_castSucc, Nat.succ_mul, Finset.sum_range_add]
    simp only [Fin.val_castSucc, Fin.val_last]
    rw [ih, Finset.sum_range (fun x => G (n * m + x))]

theorem trips98 : k1_t1_loop.trips = 98 := by decide

theorem ld_row {e : EltTy} (x : Vec Ideal S784x128 e) (k : Fin k1_t1_loop.trips) (r : Fin 8) (l : Fin 128) :
    View.ld x (Rect.unit (s := S784x128) (k1_off1 k) S8x128.size (k1_off1_inb k)) (ix2 r l)
      = x (ix2 ⟨8 * k.val + r.val, by have := lt_of_lt_of_eq k.isLt trips98; omega⟩ l) := by
  refine View.ld_unit_apply_of _ _ _ _ _ _ fun a => ?_
  have e := congrFun (k1_off1_eq k) a
  match a, e with
  | ⟨0, _⟩, e => exact (congrArg (· + r.val) e).symm
  | ⟨1, _⟩, e => exact ((congrArg (· + l.val) e).trans (Nat.zero_add _)).symm

theorem loop_eval  (𝒱 : Variants) (c : Dev nD) (bd : Option 𝒱.V) (i : grid1.Coords) (arg1 : Memref sig .tc .vmem S784x128 .f32) (harg1 : arg1.IsWhole) (arg2 : Memref sig .tc .vmem S784x128 .i32) (harg2 : arg2.IsWhole) (arg3 : Memref sig .tc .vmem S784x128 .f32) (harg3 : arg3.IsWhole) (arg4 : Memref sig .tc .vmem S1x128 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1x1 .f32) (harg8 : arg8.IsWhole) (arg9 : Memref sig .tc .vmem S1x64 .f32) (harg9 : arg9.IsWhole)  (x0 : Vec Ideal S784x128 .f32) (x1 : Vec Ideal S784x128 .i32) (X0 : ℕ → EReal) (X1 : ℕ → BitVec 32)
    (h0 : ∀ (r : Fin 784) (l : Fin 128), x0 (ix2 r l) = X0 (r.val * 128 + l.val)) (h1 : ∀ (r : Fin 784) (l : Fin 128), x1 (ix2 r l) = X1 (r.val * 128 + l.val))
    (k : ℕ) (hk : k ≤ 98) (j : Fin 64) :
    (st (F := Ideal) 𝒱 c bd i arg1 harg1 arg2 harg2 arg3 harg3 arg4 harg4 arg5 harg5 arg6 harg6 arg7 harg7 arg8 harg8 arg9 harg9 (harg1.unread x0) (harg2.unread x1) (k1_pay2 (F := Ideal), k1_pay3 (F := Ideal)) k).1 (ix1 j)
        = ∑ p ∈ Finset.range (k * 8 * 128), (if X1 p = BitVec.ofNat 32 j.val then 1 else 0)
      ∧ (st (F := Ideal) 𝒱 c bd i arg1 harg1 arg2 harg2 arg3 harg3 arg4 harg4 arg5 harg5 arg6 harg6 arg7 harg7 arg8 harg8 arg9 harg9 (harg1.unread x0) (harg2.unread x1) (k1_pay2 (F := Ideal), k1_pay3 (F := Ideal)) k).2 (ix1 j)
        = ∑ p ∈ Finset.range (k * 8 * 128), (if X1 p = BitVec.ofNat 32 j.val then X0 p else 0) := by
  induction k with
  | zero =>
    rw [st_zero]
    constructor
    · simp; pointwise [k1_pay2]
    · simp; pointwise [k1_pay3]
  | succ k ih =>
    have hk' : k < k1_t1_loop.trips := by rw [trips98]; omega
    have e := st_succ (F := Ideal) 𝒱 c bd i arg1 harg1 arg2 harg2 arg3 harg3 arg4 harg4 arg5 harg5 arg6 harg6 arg7 harg7 arg8 harg8 arg9 harg9 (harg1.unread x0) (harg2.unread x1) (k1_pay2 (F := Ideal), k1_pay3 (F := Ideal)) ⟨k, hk'⟩
    simp only [Fin.val_mk] at e
    obtain ⟨ia, ib⟩ := ih (by omega)
    have hs : ∀ G : ℕ → EReal, ∑ p ∈ Finset.range ((k + 1) * 8 * 128), G p
        = ∑ p ∈ Finset.range (k * 8 * 128), G p + ∑ r : Fin 8, ∑ l : Fin 128, G ((8 * k + r.val) * 128 + l.val) := by
      intro G
      rw [show (k + 1) * 8 * 128 = k * 8 * 128 + 8 * 128 by ring, Finset.sum_range_add]
      congr 1
      rw [← sum_rows 128 (fun p => G (k * 8 * 128 + p)) 8]
      refine Finset.sum_congr rfl fun r _ => Finset.sum_congr rfl fun l _ => ?_
      congr 1; ring
    rw [e, trip_eq]
    constructor
    · dsimp only
      rw [pay_cnt, ia, hs]
      congr 1
      refine Finset.sum_congr rfl fun r _ => Finset.sum_congr rfl fun l _ => ?_
      rw [ld_row, h1]
    · dsimp only
      rw [pay_sum, ib, hs]
      congr 1
      refine Finset.sum_congr rfl fun r _ => Finset.sum_congr rfl fun l _ => ?_
      rw [ld_row, ld_row, h1, h0]

end Cert.KernelIdeal.Val
-- ==== Proof.GathV.lean ====
/- One gather operation of the readout body, at flat positions given as natural numbers. -/
module

public import proofs.«01_k».proof.Proof.PayI

@[expose] public section

set_option maxRecDepth 16384

noncomputable section

namespace Cert.KernelIdeal.Val

open Cert.KernelIdeal.Gen
open Idealize.ShloMosaic Idealize.ShloMosaic.TcCoe Idealize.ShloMosaic.Tactic

theorem divsi_nat (u : ArithUnit) (p : ℕ) (hp : p < 2 ^ 31) : IntOp.divsi u (BitVec.ofNat 32 p) 128#32 = BitVec.ofNat 32 (p / 128) := by
  unfold IntOp.divsi
  rw [if_neg (by simp [IntOp.SDivCorner])]
  have hm : (BitVec.ofNat 32 p).msb = false := by
    rw [BitVec.msb_eq_false_iff_two_mul_lt, BitVec.toNat_ofNat]; omega
  rw [BitVec.sdiv_eq, hm, show (128#32 : BitVec 32).msb = false by decide]
  apply BitVec.eq_of_toNat_eq
  show (BitVec.ofNat 32 p / 128#32).toNat = _
  rw [BitVec.toNat_udiv, BitVec.toNat_ofNat, BitVec.toNat_ofNat, BitVec.toNat_ofNat, Nat.mod_eq_of_lt (a := p) (by omega), Nat.mod_eq_of_lt (a := p / 128) (by omega)]

/-- The quotient by 128 as it is written out on words that may be negative, on a natural number. -/
theorem floordiv_nat (p : ℕ) (hp : p < 2 ^ 31) :
    Scalar.select
        (IntOp.andi
          (IntOp.cmpi CmpIPredicate.ne
            (IntOp.subi (BitVec.setWidth 32 (IntOp.cmpi CmpIPredicate.sgt (BitVec.ofNat 32 p) 0#32))
              (BitVec.setWidth 32 (IntOp.cmpi CmpIPredicate.slt (BitVec.ofNat 32 p) 0#32)))
            (Scalar.subi (Scalar.extui (Scalar.cmpi CmpIPredicate.sgt 128#32 0#32))
              (Scalar.extui (Scalar.cmpi CmpIPredicate.slt 128#32 0#32))))
          (IntOp.cmpi CmpIPredicate.ne (IntOp.remsi ArithUnit.vector (BitVec.ofNat 32 p) 128#32) 0#32))
        (IntOp.subi (IntOp.divsi ArithUnit.vector (BitVec.ofNat 32 p) 128#32) 1#32)
        (IntOp.divsi ArithUnit.vector (BitVec.ofNat 32 p) 128#32) = BitVec.ofNat 32 (p / 128) := by
  rw [divsi_nat _ p hp]
  by_cases h0 : p = 0
  · subst h0
    have : IntOp.remsi ArithUnit.vector (BitVec.ofNat 32 0) 128#32 = 0#32 := by
      unfold IntOp.remsi; rw [if_neg (by simp [IntOp.SDivCorner])]; decide
    rw [this]
    decide
  · have ti : (BitVec.ofNat 32 p).toInt = p := by
      rw [BitVec.toInt_eq_toNat_cond, BitVec.toNat_ofNat]
      have : p % 2 ^ 32 = p := Nat.mod_eq_of_lt (by omega)
      rw [this]; split <;> omega
    have e1 : IntOp.cmpi CmpIPredicate.sgt (BitVec.ofNat 32 p) 0#32 = 1#1 := by
      show BitVec.ofBool (BitVec.slt 0#32 (BitVec.ofNat 32 p)) = 1#1
      rw [BitVec.slt_eq_decide, ti]
      have : ((0#32 : BitVec 32).toInt < (p : ℤ)) := by
        rw [show (0#32 : BitVec 32).toInt = 0 by decide]; omega
      rw [decide_eq_true this]; rfl
    have e2 : IntOp.cmpi CmpIPredicate.slt (BitVec.ofNat 32 p) 0#32 = 0#1 := by
      show BitVec.ofBool (BitVec.slt (BitVec.ofNat 32 p) 0#32) = 0#1
      rw [BitVec.slt_eq_decide, ti]
      have : ¬ ((p : ℤ) < (0#32 : BitVec 32).toInt) := by
        rw [show (0#32 : BitVec 32).toInt = 0 by decide]; omega
      rw [decide_eq_false this]; rfl
    rw [e1, e2]
    have e3 : IntOp.cmpi CmpIPredicate.ne
            (IntOp.subi (BitVec.setWidth 32 1#1) (BitVec.setWidth 32 0#1))
            (Scalar.subi (Scalar.extui (Scalar.cmpi CmpIPredicate.sgt 128#32 0#32))
              (Scalar.extui (Scalar.cmpi CmpIPredicate.slt 128#32 0#32))) = 0#1 := by decide
    rw [e3]
    unfold Scalar.select IntOp.andi
    rw [BitVec.zero_and, if_neg (by decide)]

theorem ofNat_inj {a b : ℕ} (ha : a < 2 ^ 32) (hb : b < 2 ^ 32) : BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · rintro rfl; rfl

theorem gath_apply (s : FVec Ideal S784x128 .f32) (gi : IVec S64 32) (j : Fin 64) (p : ℕ) (hp : p < 100352) (h : gi (ix1 j) = BitVec.ofNat 32 p) :
    gath (F := Ideal) s gi (ix1 j) = s (ix2 ⟨p / 128, by omega⟩ ⟨p % 128, by omega⟩) := by
  pointwise [gath]
  rw [h]
  simp only [floordiv_nat p (by omega)]
  have e : IntOp.subi (BitVec.ofNat 32 p) (IntOp.muli (BitVec.ofNat 32 (p / 128)) 128#32) = BitVec.ofNat 32 (p % 128) := by
    unfold IntOp.subi IntOp.muli
    rw [show (128#32 : BitVec 32) = BitVec.ofNat 32 128 from rfl, ← BitVec.ofNat_mul, BitVec.ofNat_sub_ofNat_of_le _ _ (by omega) (by omega)]
    congr 1; omega
  rw [e]
  simp only [cmpi_eq, select_dec]
  rw [Finset.sum_eq_single (⟨p % 128, by omega⟩ : Fin 128)]
  · rw [if_pos rfl, Finset.sum_eq_single (⟨p / 128, by omega⟩ : Fin 784)]
    · rw [if_pos rfl]
    · intro b _ hb
      rw [if_neg]
      intro hh
      exact hb (Fin.ext ((ofNat_inj (by omega) (by omega)).1 hh))
    · intro hh; exact absurd (Finset.mem_univ _) hh
  · intro b _ hb
    rw [if_neg]
    intro hh
    exact hb (Fin.ext ((ofNat_inj (by omega) (by omega)).1 hh))
  · intro hh; exact absurd (Finset.mem_univ _) hh

end Cert.KernelIdeal.Val
-- ==== Proof.SpecV.lean ====
/- The readout over the extended reals as a function of the segments' counts, sums and sorted entries. -/
module

public import proofs.«01_k».proof.Proof.LoopV
public import proofs.«01_k».proof.Proof.GathV

@[expose] public section

set_option maxRecDepth 16384

noncomputable section

namespace Cert.KernelIdeal.Val

open Cert.KernelIdeal.Gen Cert.Spec
open Idealize.ShloMosaic Idealize.ShloMosaic.TcCoe Idealize.ShloMosaic.Tactic

theorem pos_apply (cnt : FVec Ideal S64 .f32) (qs : Vec Ideal S1x128 .f32) (j : Fin 64) (q : Fin 128) (c : ℝ) (n : ℕ)
    (hc : qs (ix2 0 q) = (c : EReal)) (hn : cnt (ix1 j) = ((n : ℝ) : EReal)) : k1_pay20 cnt qs (ix2 j q) = ((qpos c n : ℝ) : EReal) := by
  pointwise [k1_pay20]
  rw [hc, hn]
  unfold qpos
  rfl

section
variable (cnt : FVec Ideal S64 .f32) (qs : Vec Ideal S1x128 .f32) (j : Fin 64) (q : Fin 128) (c : ℝ) (n : ℕ)
    (hc : qs (ix2 0 q) = (c : EReal)) (hn : cnt (ix1 j) = ((n : ℝ) : EReal)) (h0 : 0 ≤ c) (h1 : c ≤ 1) (hpos : 1 ≤ n)
include hc hn h0 h1 hpos

theorem lo_apply : k1_pay21 cnt qs (ix2 j q) = ((⌊qpos c n⌋₊ : ℝ) : EReal) := by
  pointwise [k1_pay21]
  rw [pos_apply cnt qs j q c n hc hn, liftFloor _ (qpos_nonneg c n h0 hpos)]

theorem hi_apply : k1_pay22 cnt qs (ix2 j q) = ((⌈qpos c n⌉₊ : ℝ) : EReal) := by
  pointwise [k1_pay22]
  rw [pos_apply cnt qs j q c n hc hn, liftCeil _ (qpos_nonneg c n h0 hpos)]

theorem fr_apply : k1_pay23 cnt qs (ix2 j q) = ((qpos c n : ℝ) : EReal) - ((⌊qpos c n⌋₊ : ℝ) : EReal) := by
  pointwise [k1_pay23]
  rw [pos_apply cnt qs j q c n hc hn, lo_apply cnt qs j q c n hc hn h0 h1 hpos]
end

theorem quant_apply (o : ℕ) (ho : o < 9) (h : S64x128.Slices ![0, o] S64x1) (s : FVec Ideal S784x128 .f32) (off : FVec Ideal S64 .f32) (cnt : FVec Ideal S64 .f32) (qs : Vec Ideal S1x128 .f32) (j : Fin 64)
    (S : ℕ → EReal) (hs : ∀ (r : Fin 784) (l : Fin 128), s (ix2 r l) = S (r.val * 128 + l.val)) (c : ℝ) (n m : ℕ)
    (hc : qs (ix2 0 ⟨o, by omega⟩) = (c : EReal)) (hn : cnt (ix1 j) = ((n : ℝ) : EReal)) (hm : off (ix1 j) = ((m : ℝ) : EReal))
    (h0 : 0 ≤ c) (h1 : c ≤ 1) (hpos : 1 ≤ n) (hmn : m + n ≤ 100352) :
    quant (F := Ideal) o h s off (k1_pay21 cnt qs) (k1_pay22 cnt qs) (k1_pay23 cnt qs) (ix1 j) = quantS c n (fun k => S (m + k)) := by
  have hg : ∀ (p : ℕ), p < n → ∀ gi : IVec S64 32, gi (ix1 j) = BitVec.ofNat 32 (m + p) → gath (F := Ideal) s gi (ix1 j) = S (m + p) := by
    intro p hp gi hgi
    rw [gath_apply s gi j (m + p) (by omega) hgi, hs]
    congr 1
    show (m + p) / 128 * 128 + (m + p) % 128 = m + p
    omega
  have hadd : ∀ p : ℕ, ((m : ℝ) : EReal) + ((p : ℝ) : EReal) = (((m + p : ℕ) : ℝ) : EReal) := by
    intro p; push_cast; rfl
  pointwise [quant, col]
  rw [fr_apply cnt qs j ⟨o, by omega⟩ c n hc hn h0 h1 hpos]
  rw [hg ⌊qpos c n⌋₊ (floor_lt c n h1 hpos), hg ⌈qpos c n⌉₊ (ceil_lt c n h1 hpos)]
  · rfl
  · pointwise
    rw [hi_apply cnt qs j ⟨o, by omega⟩ c n hc hn h0 h1 hpos, hm, hadd]
    exact toInt_nat _ (by have := ceil_lt c n h1 hpos; omega)
  · pointwise
    rw [lo_apply cnt qs j ⟨o, by omega⟩ c n hc hn h0 h1 hpos, hm, hadd]
    exact toInt_nat _ (by have := floor_lt c n h1 hpos; omega)

theorem out_apply (v1001 : FVec Ideal S64x128 .f32) (v1004 : Vec Ideal S1x128 .f32) (v1007 : Vec Ideal S1x1 .f32) (j : Fin 64) :
    k1_pay1 v1001 (k1_pay88 v1004) v1007 (ix2 0 j) = ∑ x : Fin 128, v1001 (ix2 j x) * v1004 (ix2 0 x) + v1007 (ix2 0 0) := by
  pointwise [k1_pay1, k1_pay88]

theorem hidden_apply (a0 a1 a2 a3 a4 a5 a6 a7 a8 a9 a10 a11 : FVec Ideal S64 .f32) (w1 : Vec Ideal S16x128 .f32) (b1 : Vec Ideal S1x128 .f32) (j : Fin 64) (h : Fin 128) :
   hidden (F := Ideal) a0 a1 a2 a3 a4 a5 a6 a7 a8 a9 a10 a11 w1 b1 (ix2 j h)
     = silu (∑ k : Fin 12, (![a0 (ix1 j), a1 (ix1 j), a2 (ix1 j), a3 (ix1 j), a4 (ix1 j), a5 (ix1 j), a6 (ix1 j), a7 (ix1 j), a8 (ix1 j), a9 (ix1 j), a10 (ix1 j), a11 (ix1 j)] : Fin 12 → EReal) k * w1 (ix2 ⟨k.val, by omega⟩ h) + b1 (ix2 0 h)) := by
  pointwise [hidden]
  unfold silu
  have e : ∀ G : Fin 16 → EReal, (∀ k : Fin 16, 12 ≤ k.val → G k = 0) → ∑ k : Fin 16, G k = ∑ k : Fin 12, G ⟨k.val, by omega⟩ := by
    intro G hG
    rw [show (∑ k : Fin 16, G k) = ∑ k : Fin (12 + 4), G k from rfl, Fin.sum_univ_add]
    rw [Finset.sum_eq_zero (s := (Finset.univ : Finset (Fin 4))) (fun k _ => hG _ (by simp)), add_zero]
    rfl
  rw [e]
  · have e2 : ∀ (X Y B : EReal), X = Y → (X + B) * Ideal.logistic (X + B) = (Y + B) * Ideal.logistic (Y + B) := by rintro X Y B rfl; rfl
    apply e2
    simp only [Fin.sum_univ_succ, Fin.sum_univ_zero]
    norm_num
    rfl
  · intro k hk
    iterate 12 rw [dif_neg (by omega)]
    split_ifs <;> exact zero_mul _

theorem off_apply (cnt : FVec Ideal S64 .f32) (n : Fin 64 → ℕ) (hn : ∀ j, cnt (ix1 j) = ((n j : ℝ) : EReal)) (j : Fin 64) :
    k1_pay8 (F := Ideal) cnt (ix1 j) = (((∑ x : Fin 64, if x.val < j.val then n x else 0 : ℕ) : ℝ) : EReal) := by
  rw [pay_off, Nat.cast_sum, coe_sum]
  refine Finset.sum_congr rfl fun x _ => ?_
  by_cases h : x.val < j.val
  · rw [if_pos h, if_pos h, hn]
  · rw [if_neg h, if_neg h]; simp

theorem pay9 (s : Vec Ideal S784x128 .f32) : k1_pay9 (F := Ideal) s = s := by
  unfold k1_pay9
  exact shapeCast_self _ _

theorem readout_apply (cnt sm : FVec Ideal S64 .f32) (s : Vec Ideal S784x128 .f32) (qs : Vec Ideal S1x128 .f32) (w1 : Vec Ideal S16x128 .f32) (b1 w2 : Vec Ideal S1x128 .f32) (b2 : Vec Ideal S1x1 .f32)
    (S : ℕ → EReal) (hs : ∀ (r : Fin 784) (l : Fin 128), s (ix2 r l) = S (r.val * 128 + l.val))
    (n : Fin 64 → ℕ) (hn : ∀ j, cnt (ix1 j) = ((n j : ℝ) : EReal)) (hpos : ∀ j, 1 ≤ n j) (m : Fin 64 → ℕ)
    (hm : ∀ j, (∑ x : Fin 64, if x.val < j.val then n x else 0) = m j) (hmn : ∀ j, m j + n j ≤ 100352)
    (c : Fin 9 → ℝ) (hc : ∀ q : Fin 9, qs (ix2 0 ⟨q.val, by omega⟩) = (c q : EReal)) (h0 : ∀ q, 0 ≤ c q) (h1 : ∀ q, c q ≤ 1) (j : Fin 64) :
    readout cnt sm s qs w1 b1 w2 b2 (ix2 0 j)
      = fin12 ![Ideal.div (sm (ix1 j)) (max (cnt (ix1 j)) 1), S (m j + (n j - 1)), S (m j),
          quantS (c 0) (n j) (fun k => S (m j + k)), quantS (c 1) (n j) (fun k => S (m j + k)), quantS (c 2) (n j) (fun k => S (m j + k)),
          quantS (c 3) (n j) (fun k => S (m j + k)), quantS (c 4) (n j) (fun k => S (m j + k)), quantS (c 5) (n j) (fun k => S (m j + k)),
          quantS (c 6) (n j) (fun k => S (m j + k)), quantS (c 7) (n j) (fun k => S (m j + k)), quantS (c 8) (n j) (fun k => S (m j + k))]
        (fun k h => w1 (ix2 ⟨k.val, by omega⟩ h)) (fun h => b1 (ix2 0 h)) (fun h => w2 (ix2 0 h)) (b2 (ix2 0 0)) := by
  have hoff : k1_pay8 (F := Ideal) cnt (ix1 j) = ((m j : ℝ) : EReal) := by rw [off_apply cnt n hn j, hm j]
  have hp := hpos j
  have hj := hmn j
  have hg : ∀ (p : ℕ), p < n j → ∀ gi : IVec S64 32, gi (ix1 j) = BitVec.ofNat 32 (m j + p) → gath (F := Ideal) s gi (ix1 j) = S (m j + p) := by
    intro p hp gi hgi
    rw [gath_apply s gi j (m j + p) (by omega) hgi, hs]
    congr 1
    show (m j + p) / 128 * 128 + (m j + p) % 128 = m j + p
    omega
  have h10 : k1_pay10 (F := Ideal) cnt (ix1 j) = BitVec.ofNat 32 (m j) := by
    pointwise [k1_pay10]
    rw [hoff]
    exact toInt_nat _ (by omega)
  have h11 : k1_pay11 (F := Ideal) cnt (ix1 j) = BitVec.ofNat 32 (m j + (n j - 1)) := by
    pointwise [k1_pay11]
    rw [h10, hn]
    show IntOp.addi _ (IntOp.maxsi (IntOp.subi (Ideal.fptosi 32 ((n j : ℝ) : EReal)) _) _) = _
    rw [toInt_nat _ (by omega)]
    have e1 : IntOp.subi (BitVec.ofNat 32 (n j)) 1#32 = BitVec.ofNat 32 (n j - 1) := by
      unfold IntOp.subi
      rw [show (1#32 : BitVec 32) = BitVec.ofNat 32 1 from rfl, BitVec.ofNat_sub_ofNat_of_le _ _ (by omega) (by omega)]
    have e2 : IntOp.maxsi (BitVec.ofNat 32 (n j - 1)) 0#32 = BitVec.ofNat 32 (n j - 1) := by
      have ti : (BitVec.ofNat 32 (n j - 1)).toInt = (n j - 1 : ℕ) := by
        rw [BitVec.toInt_eq_toNat_cond, BitVec.toNat_ofNat]
        have : (n j - 1) % 2 ^ 32 = n j - 1 := Nat.mod_eq_of_lt (by omega)
        rw [this]; split <;> omega
      unfold IntOp.maxsi
      rw [BitVec.slt_eq_decide, ti]
      have : (0#32 : BitVec 32).toInt = 0 := by decide
      rw [this]
      split_ifs with hh
      · rfl
      · have : n j - 1 = 0 := by simp at hh; omega
        rw [this]
    rw [e1, e2]
    unfold IntOp.addi
    rw [← BitVec.ofNat_add]
  have hmean : k1_pay7 (F := Ideal) cnt sm (ix1 j) = Ideal.div (sm (ix1 j)) (max (cnt (ix1 j)) 1) := by
    pointwise [k1_pay7]
  have hq : ∀ (o : ℕ) (ho : o < 9) (h : S64x128.Slices ![0, o] S64x1),
      quant (F := Ideal) o h s (k1_pay8 cnt) (k1_pay21 cnt qs) (k1_pay22 cnt qs) (k1_pay23 cnt qs) (ix1 j) = quantS (c ⟨o, ho⟩) (n j) (fun k => S (m j + k)) :=
    fun o ho h => quant_apply o ho h s _ cnt qs j S hs (c ⟨o, ho⟩) (n j) (m j) (hc ⟨o, ho⟩) (hn j) hoff (h0 _) (h1 _) hp hj
  unfold readout
  rw [out_apply]
  unfold fin12
  congr 1
  refine Finset.sum_congr rfl fun h _ => ?_
  rw [hidden_apply]
  rw [pay9, hmean, hg (n j - 1) (by omega) _ h11, hg 0 (by omega) _ h10]
  rw [hq 0 (by decide), hq 1 (by decide), hq 2 (by decide), hq 3 (by decide), hq 4 (by decide), hq 5 (by decide), hq 6 (by decide), hq 7 (by decide), hq 8 (by decide)]
  rfl

end Cert.KernelIdeal.Val
-- ==== Proof.SortV.lean ====
/- The kernel's sort of the padded rows, and its result over the twelve statistics. -/
module

public import proofs.«01_k».proof.Proof.AlgV
public import proofs.«01_k».proof.Proof.StatV
public import proofs.«01_k».proof.Proof.SpecV

@[expose] public section

set_option maxRecDepth 16384

noncomputable section

namespace Cert.KernelIdeal.Val

open Cert.KernelIdeal.Gen Cert.KernelIdeal.Run Cert.Spec Cert.Rank
open Idealize.ShloMosaic Idealize.ShloMosaic.TcCoe Idealize.ShloMosaic.Tactic
open Idealize.SL Idealize.SL.RA Idealize.SL.Sem
open Idealize.ShloMosaic.Pipeline (Dat Cfg Window RDat)

theorem select_ofBool {α : Type} (b : Bool) (x y : α) : Scalar.select (BitVec.ofBool b) x y = if b then x else y := by
  cases b <;> rfl

/-- A value put in a canonical form first is the value. -/
theorem canon_eq (x z n : EReal) : Scalar.select (FloatOps.cmpf (F := Ideal) (φ := .f32) .une x x) n (Scalar.select (FloatOps.cmpf (F := Ideal) (φ := .f32) .oeq x z) z x) = x := by
  show Scalar.select (BitVec.ofBool (decide (x ≠ x))) n (Scalar.select (BitVec.ofBool (decide (x = z))) z x) = x
  rw [select_ofBool, select_ofBool]
  by_cases h : x = z
  · subst h; simp
  · simp [h]

theorem cmp_lex (l r : BitVec 32 × EReal) : comparator_i32_f32_d0 (F := Ideal) l r = BitVec.ofBool (decide (toLex (l.1.toInt, l.2) < toLex (r.1.toInt, r.2))) := by
  unfold comparator_i32_f32_d0
  dsimp only
  rw [canon_eq, canon_eq]
  show IntOp.ori (BitVec.ofBool (BitVec.slt l.1 r.1)) (IntOp.andi (BitVec.ofBool (l.1 == r.1)) (BitVec.ofBool (decide (l.2 < r.2)))) = _
  have e : ∀ a b c : Bool, IntOp.ori (BitVec.ofBool a) (IntOp.andi (BitVec.ofBool b) (BitVec.ofBool c)) = BitVec.ofBool (a || (b && c)) := by decide
  rw [e]
  congr 1
  rw [Bool.eq_iff_iff]
  simp only [Bool.or_eq_true, Bool.and_eq_true, decide_eq_true_eq, BitVec.slt_eq_decide, beq_iff_eq, Prod.Lex.toLex_lt_toLex, BitVec.toInt_inj]

theorem sort2_at {n : ℕ} {α β : Type} (cmp : α × β → α × β → BitVec 1) (x : (⟨1, ![n]⟩ : Shape).Idx → α) (y : (⟨1, ![n]⟩ : Shape).Idx → β) (p : Fin n) :
    (Host.sort2 ⟨1, ![n]⟩ 0 cmp x y).2 (ix1 p) = y (ix1 (sortedFrom (fun k k' => cmp (x (ix1 k), y (ix1 k)) (x (ix1 k'), y (ix1 k')) == 1#1) p)) := by
  have e : ∀ k : Fin n, Shape.Idx.ofFin k = ix1 k := fun k => by
    funext a
    match a with
    | 0 => rfl
  unfold Host.sort2
  simp [e]

variable (m : (ℓ : Loc nD τ sig) → Buf (Elt Ideal) ℓ) (o : Out (F := Ideal)) (c : Dev nD)

theorem id_at (p : Fin 100352) : (W5 m o c (Proc.devRef .tc main_v17) : Vec Ideal S100352 .i32) (ix1 p) = (args m c).idp p := v17_at m o c p

theorem val_at (h : rel m o c) (p : Fin 100352) : (W4 m o c (Proc.devRef .tc main_v15) : Vec Ideal S100352 .f32) (ix1 p) = (args m c).valp p := by
  rw [v15_at]
  unfold Args.valp
  by_cases hp : p.val < 100000
  · rw [if_pos hp, dif_pos hp, ← knode_eq]
    exact o_at m o c h ⟨p.val, hp⟩
  · rw [if_neg hp, dif_neg hp]

/-- The rows sorted: at each place the value that stands there. -/
theorem sorted_at (h : rel m o c) (p : Fin 100352) : (W5 m o c (Proc.devRef .tc main_v18_1) : Vec Ideal S100352 .f32) (ix1 p)
    = (args m c).valp (sortedFrom (fun p p' => decide (toLex (((args m c).idp p).toInt, (args m c).valp p) < toLex (((args m c).idp p').toInt, (args m c).valp p'))) p) := by
  rw [v18_eq]
  refine (sort2_at _ _ _ p).trans ?_
  rw [val_at m o c h]
  congr 2
  funext k k'
  rw [cmp_lex, val_at m o c h, val_at m o c h, id_at, id_at]
  have e : ∀ b : Bool, (BitVec.ofBool b == 1#1) = b := by decide
  exact e _

/-- The region's operands. -/
theorem vals27 (h : rel m o c) (r : Fin 784) (l : Fin 128) : (W5 m o c (Proc.devRef .tc main_v27) : Vec Ideal S784x128 .f32) (ix2 r l) = (args m c).valp ⟨r.val * 128 + l.val, by omega⟩ := by
  rw [v27_at, val_at m o c h]

theorem ids28 (r : Fin 784) (l : Fin 128) : (W5 m o c (Proc.devRef .tc main_v28) : Vec Ideal S784x128 .i32) (ix2 r l) = (args m c).idp ⟨r.val * 128 + l.val, by omega⟩ := by
  rw [v28_at, id_at]

/-- The sorted rows, by position. -/
def Srt (p : ℕ) : EReal := if hp : p < 100352 then (W5 m o c (Proc.devRef .tc main_v18_1) : Vec Ideal S100352 .f32) (ix1 ⟨p, hp⟩) else 0

theorem srt29 (r : Fin 784) (l : Fin 128) : (W5 m o c (Proc.devRef .tc main_v29) : Vec Ideal S784x128 .f32) (ix2 r l) = Srt m o c (r.val * 128 + l.val) := by
  rw [v29_at]
  unfold Srt
  rw [dif_pos (by omega : r.val * 128 + l.val < 100352)]

theorem srt_rank (h : rel m o c) (j : Fin 64) (k : ℕ) (hk : k < (args m c).n j) :
    IsRank ((args m c).seg j) (args m c).node k (Srt m o c ((args m c).below j + k)) := by
  have hb := below_add (args m c) j
  have hp : (args m c).below j + k < 100352 := by omega
  unfold Srt
  rw [dif_pos hp, sorted_at m o c h]
  exact sorted_rank (args m c) j k hk hp

/-- The readout on the region's operands, given the two running sums. -/
theorem readout_eq (h : rel m o c) (hb : ∀ i, 0 ≤ ((args m c).b i).toInt) (hpos : ∀ j, 1 ≤ (args m c).n j) (cnt sm : FVec Ideal S64 .f32)
    (hcnt : ∀ j : Fin 64, cnt (ix1 j) = ∑ i ∈ (args m c).seg j, 1) (hsm : ∀ j : Fin 64, sm (ix1 j) = ∑ i ∈ (args m c).seg j, (args m c).node i) (j : Fin 64) :
    readout cnt sm (W5 m o c (Proc.devRef .tc main_v29) : Vec Ideal S784x128 .f32) (W5 m o c (Proc.devRef .tc main_v23) : Vec Ideal S1x128 .f32)
        (W5 m o c (Proc.devRef .tc main_v26) : Vec Ideal S16x128 .f32) (W5 m o c (Proc.devRef .tc main_v30) : Vec Ideal S1x128 .f32)
        (W5 m o c (Proc.devRef .tc main_v31) : Vec Ideal S1x128 .f32) (W5 m o c (Proc.devRef .tc main_v32) : Vec Ideal S1x1 .f32) (ix2 0 j)
      = (args m c).result j (fun k => Srt m o c ((args m c).below j + k)) := by
  have hn : ∀ j : Fin 64, cnt (ix1 j) = ((((args m c).n j : ℕ) : ℝ) : EReal) := fun j => by
    rw [hcnt]
    exact sum_one _
  rw [readout_apply cnt sm _ _ _ _ _ _ (Srt m o c) (srt29 m o c) (args m c).n hn hpos (args m c).below (sum_below _ hb)
    (fun j => (below_add _ j).trans (by decide)) qv (fun q => (v23_at m o c q).trans ((congrArg _ (by fin_cases q <;> rfl)).trans (qv_bits q))) qv_nonneg qv_le j]
  unfold Args.result Args.stats
  have e1 : (fun (k : Fin 12) (h : Fin 128) => (W5 m o c (Proc.devRef .tc main_v26) : Vec Ideal S16x128 .f32) (ix2 ⟨k.val, by omega⟩ h)) = (args m c).m1 := by
    funext k h; exact v26_at m o c k h
  have e2 : (fun (h : Fin 128) => (W5 m o c (Proc.devRef .tc main_v30) : Vec Ideal S1x128 .f32) (ix2 0 h)) = (args m c).c1 := by
    funext h; exact v30_at m o c h
  have e3 : (fun (h : Fin 128) => (W5 m o c (Proc.devRef .tc main_v31) : Vec Ideal S1x128 .f32) (ix2 0 h)) = (args m c).m2 := by
    funext h; exact v31_at m o c h
  rw [hn, hsm, v32_at, e1, e2, e3]
  dsimp only
  rw [Nat.add_zero]

end Cert.KernelIdeal.Val
-- ==== Proof.KernV.lean ====
/- What the kernel returns: the second region on its whole operands. -/
module

public import proofs.«01_k».proof.Proof.SortV

@[expose] public section

set_option maxRecDepth 16384

noncomputable section

namespace Cert.KernelIdeal.Val

open Cert.KernelIdeal.Gen Cert.KernelIdeal.Run Cert.Spec Cert.Rank
open Idealize.ShloMosaic Idealize.ShloMosaic.TcCoe Idealize.ShloMosaic.Tactic
open Idealize.SL Idealize.SL.RA Idealize.SL.Sem
open Idealize.ShloMosaic.Pipeline (Dat Cfg Window RDat)

variable (m : (ℓ : Loc nD τ sig) → Buf (Elt Ideal) ℓ) (o : Out (F := Ideal)) (c : Dev nD)

theorem p0_at (V : (c : Dev nD) → (b : Ref sig .tc) → Buf (Elt Ideal) ((c : Thread nD τ).loc b)) (t : Fin cfg1.N) : (iblk1 V c 0 t : Vec Ideal S784x128 .f32) = (V c main_v27 : Vec Ideal S784x128 .f32) := by
  have hi : win1_0.index t 0 = 0 ∧ win1_0.index t 1 = 0 := by revert t; decide +kernel
  unfold iblk1
  funext j
  show (V c main_v27 : Vec Ideal S784x128 .f32) _ = _
  congr 1
  funext a
  apply Fin.ext
  match a with
  | 0 =>
    show win1_0.index t 0 * 784 + 1 * (j 0).val = (j 0).val
    rw [hi.1]; omega
  | 1 =>
    show win1_0.index t 1 * 128 + 1 * (j 1).val = (j 1).val
    rw [hi.2]; omega

theorem p1_at (V : (c : Dev nD) → (b : Ref sig .tc) → Buf (Elt Ideal) ((c : Thread nD τ).loc b)) (t : Fin cfg1.N) : (iblk1 V c 1 t : Vec Ideal S784x128 .i32) = (V c main_v28 : Vec Ideal S784x128 .i32) := by
  have hi : win1_1.index t 0 = 0 ∧ win1_1.index t 1 = 0 := by revert t; decide +kernel
  unfold iblk1
  funext j
  show (V c main_v28 : Vec Ideal S784x128 .i32) _ = _
  congr 1
  funext a
  apply Fin.ext
  match a with
  | 0 =>
    show win1_1.index t 0 * 784 + 1 * (j 0).val = (j 0).val
    rw [hi.1]; omega
  | 1 =>
    show win1_1.index t 1 * 128 + 1 * (j 1).val = (j 1).val
    rw [hi.2]; omega

theorem p2_at (V : (c : Dev nD) → (b : Ref sig .tc) → Buf (Elt Ideal) ((c : Thread nD τ).loc b)) (t : Fin cfg1.N) : (iblk1 V c 2 t : Vec Ideal S784x128 .f32) = (V c main_v29 : Vec Ideal S784x128 .f32) := by
  have hi : win1_2.index t 0 = 0 ∧ win1_2.index t 1 = 0 := by revert t; decide +kernel
  unfold iblk1
  funext j
  show (V c main_v29 : Vec Ideal S784x128 .f32) _ = _
  congr 1
  funext a
  apply Fin.ext
  match a with
  | 0 =>
    show win1_2.index t 0 * 784 + 1 * (j 0).val = (j 0).val
    rw [hi.1]; omega
  | 1 =>
    show win1_2.index t 1 * 128 + 1 * (j 1).val = (j 1).val
    rw [hi.2]; omega

theorem p3_at (V : (c : Dev nD) → (b : Ref sig .tc) → Buf (Elt Ideal) ((c : Thread nD τ).loc b)) (t : Fin cfg1.N) : (iblk1 V c 3 t : Vec Ideal S1x128 .f32) = (V c main_v23 : Vec Ideal S1x128 .f32) := by
  have hi : win1_3.index t 0 = 0 ∧ win1_3.index t 1 = 0 := by revert t; decide +kernel
  unfold iblk1
  funext j
  show (V c main_v23 : Vec Ideal S1x128 .f32) _ = _
  congr 1
  funext a
  apply Fin.ext
  match a with
  | 0 =>
    show win1_3.index t 0 * 1 + 1 * (j 0).val = (j 0).val
    rw [hi.1]; omega
  | 1 =>
    show win1_3.index t 1 * 128 + 1 * (j 1).val = (j 1).val
    rw [hi.2]; omega

theorem p4_at (V : (c : Dev nD) → (b : Ref sig .tc) → Buf (Elt Ideal) ((c : Thread nD τ).loc b)) (t : Fin cfg1.N) : (iblk1 V c 4 t : Vec Ideal S16x128 .f32) = (V c main_v26 : Vec Ideal S16x128 .f32) := by
  have hi : win1_4.index t 0 = 0 ∧ win1_4.index t 1 = 0 := by revert t; decide +kernel
  unfold iblk1
  funext j
  show (V c main_v26 : Vec Ideal S16x128 .f32) _ = _
  congr 1
  funext a
  apply Fin.ext
  match a with
  | 0 =>
    show win1_4.index t 0 * 16 + 1 * (j 0).val = (j 0).val
    rw [hi.1]; omega
  | 1 =>
    show win1_4.index t 1 * 128 + 1 * (j 1).val = (j 1).val
    rw [hi.2]; omega

theorem p5_at (V : (c : Dev nD) → (b : Ref sig .tc) → Buf (Elt Ideal) ((c : Thread nD τ).loc b)) (t : Fin cfg1.N) : (iblk1 V c 5 t : Vec Ideal S1x128 .f32) = (V c main_v30 : Vec Ideal S1x128 .f32) := by
  have hi : win1_5.index t 0 = 0 ∧ win1_5.index t 1 = 0 := by revert t; decide +kernel
  unfold iblk1
  funext j
  show (V c main_v30 : Vec Ideal S1x128 .f32) _ = _
  congr 1
  funext a
  apply Fin.ext
  match a with
  | 0 =>
    show win1_5.index t 0 * 1 + 1 * (j 0).val = (j 0).val
    rw [hi.1]; omega
  | 1 =>
    show win1_5.index t 1 * 128 + 1 * (j 1).val = (j 1).val
    rw [hi.2]; omega

theorem p6_at (V : (c : Dev nD) → (b : Ref sig .tc) → Buf (Elt Ideal) ((c : Thread nD τ).loc b)) (t : Fin cfg1.N) : (iblk1 V c 6 t : Vec Ideal S1x128 .f32) = (V c main_v31 : Vec Ideal S1x128 .f32) := by
  have hi : win1_6.index t 0 = 0 ∧ win1_6.index t 1 = 0 := by revert t; decide +kernel
  unfold iblk1
  funext j
  show (V c main_v31 : Vec Ideal S1x128 .f32) _ = _
  congr 1
  funext a
  apply Fin.ext
  match a with
  | 0 =>
    show win1_6.index t 0 * 1 + 1 * (j 0).val = (j 0).val
    rw [hi.1]; omega
  | 1 =>
    show win1_6.index t 1 * 128 + 1 * (j 1).val = (j 1).val
    rw [hi.2]; omega

theorem p7_at (V : (c : Dev nD) → (b : Ref sig .tc) → Buf (Elt Ideal) ((c : Thread nD τ).loc b)) (t : Fin cfg1.N) : (iblk1 V c 7 t : Vec Ideal S1x1 .f32) = (V c main_v32 : Vec Ideal S1x1 .f32) := by
  have hi : win1_7.index t 0 = 0 ∧ win1_7.index t 1 = 0 := by revert t; decide +kernel
  unfold iblk1
  funext j
  show (V c main_v32 : Vec Ideal S1x1 .f32) _ = _
  congr 1
  funext a
  apply Fin.ext
  match a with
  | 0 =>
    show win1_7.index t 0 * 1 + 1 * (j 0).val = (j 0).val
    rw [hi.1]; omega
  | 1 =>
    show win1_7.index t 1 * 1 + 1 * (j 1).val = (j 1).val
    rw [hi.2]; omega

/-- The padded rows' ids and values, by position. -/
def X0 (p : ℕ) : EReal := if hp : p < 100352 then (args m c).valp ⟨p, hp⟩ else 0
def X1 (p : ℕ) : BitVec 32 := if hp : p < 100352 then (args m c).idp ⟨p, hp⟩ else 0

theorem outs_at (h : rel m o c) (hb : ∀ i, 0 ≤ ((args m c).b i).toInt) (hpos : ∀ j, 1 ≤ (args m c).n j) (t : Fin cfg1.N) (j : Fin 64) :
    outsAt1 (V5 m o) c t (ix2 0 j) = (args m c).result j (fun k => Srt m o c ((args m c).below j + k)) := by
  unfold outsAt1
  rw [out1_eq, body_eq, p2_at, p3_at, p4_at, p5_at, p6_at, p7_at]
  have h0 : ∀ (r : Fin 784) (l : Fin 128), (iblk1 (V5 m o) c 0 t : Vec Ideal S784x128 .f32) (ix2 r l) = X0 m c (r.val * 128 + l.val) := fun r l => by
    rw [p0_at]
    refine (vals27 m o c h r l).trans ?_
    unfold X0
    rw [dif_pos (by omega : r.val * 128 + l.val < 100352)]
  have h1 : ∀ (r : Fin 784) (l : Fin 128), (iblk1 (V5 m o) c 1 t : Vec Ideal S784x128 .i32) (ix2 r l) = X1 m c (r.val * 128 + l.val) := fun r l => by
    rw [p1_at]
    refine (ids28 m o c r l).trans ?_
    unfold X1
    rw [dif_pos (by omega : r.val * 128 + l.val < 100352)]
  have hx : ∀ p : Fin 100352, X1 m c p.val = (args m c).idp p := fun p => by
    unfold X1
    rw [dif_pos p.isLt]
  refine readout_eq m o c h hb hpos _ _ (fun j => ?_) (fun j => ?_) j
  · refine (loop_eval _ c _ _ _ _ _ _ _ _ _ _ _ _ _ _ _ _ _ _ _ _ _ _ (X0 m c) (X1 m c) h0 h1 98 le_rfl j).1.trans ?_
    exact sum_padded (args m c) j (X1 m c) (fun _ => 1) (fun _ => 1) hx (fun _ => rfl)
  · refine (loop_eval _ c _ _ _ _ _ _ _ _ _ _ _ _ _ _ _ _ _ _ _ _ _ _ (X0 m c) (X1 m c) h0 h1 98 le_rfl j).2.trans ?_
    refine sum_padded (args m c) j (X1 m c) (X0 m c) (args m c).node hx (fun i => ?_)
    unfold X0 Args.valp
    rw [dif_pos (show i.val < 100352 by omega), dif_pos i.isLt]

theorem kernel_at (h : rel m o c) (hb : ∀ i, 0 ≤ ((args m c).b i).toInt) (hpos : ∀ j, 1 ≤ (args m c).n j) (j : Fin 64) :
    (W7 m o c (Proc.devRef .tc main_v34) : Vec Ideal S64 .f32) (ix1 j) = (args m c).result j (fun k => Srt m o c ((args m c).below j + k)) := by
  rw [v34_at]
  have e : (W6 m o c (Proc.devRef .tc main_v33) : Vec Ideal S1x64 .f32) = fun i => (args m c).result (i 1) (fun k => Srt m o c ((args m c).below (i 1) + k)) := by
    refine (W6_arr m o c 8).trans ?_
    refine Dat.arrAt_eq_of_after_last (dat1 (V5 m o) c) 8 (⟨0, by decide⟩ : Fin cfg1.N) (by decide +kernel) _ fun j => ?_
    blk_simp
    refine (congrFun (after1_8 (V5 m o) c ⟨0, by decide⟩) _).trans ?_
    obtain ⟨j0, j1, rfl⟩ : ∃ (j0 : Fin 1) (j1 : Fin 64), j = ix2 j0 j1 := ⟨j 0, j 1, eq_ix2 j⟩
    have : j0 = 0 := Subsingleton.elim _ _
    subst this
    exact outs_at m o c h hb hpos _ j1
  rw [e]
  rfl

end Cert.KernelIdeal.Val
-- ==== Proof.RefV0.lean ====
/- The reference's indexing operations at an index: the segment sum, the row sort, the take along a row, and the masked extremes. -/
module

public import proofs.«01_k».proof.Proof.Gen.ReferenceIdeal
public import proofs.«01_k».proof.Proof.StatV
public import Idealize.ShloMosaic.Lib.Routing.OpsSet
public import Idealize.ShloMosaic.Lib.Routing.OpsPair
public import Idealize.ShloMosaic.Lib.Pointwise

@[expose] public section

set_option maxRecDepth 16384

noncomputable section

namespace Cert.ReferenceIdeal.Val

open Cert.ReferenceIdeal.Gen Cert.Spec Cert.Rank
open Idealize.ShloMosaic Idealize.ShloMosaic.TcCoe Idealize.ShloMosaic.Tactic
open Idealize.ShloMosaic.Routing

theorem scat_lands (idx : IVec S100000x1 32) (i : Fin 100000) (j : Fin 64) :
    scatter_S64_S100000x1_S100000_n_0_0_1.resultIdx? (ix1 i) idx = some (ix1 j) ↔ (idx (ix2 i 0)).toInt = (j.val : ℤ) := by
  refine (resultIdx?_ix1 _ _ _ _).trans ?_
  have hs : scatter_S64_S100000x1_S100000_n_0_0_1.start (ix1 i) idx 0 = (idx (ix2 i 0)).toInt := by
    unfold ScatterDims.start
    rw [dif_pos (by decide)]
    congr 2
    funext b
    match b with
    | ⟨0, _⟩ => rfl
    | ⟨1, _⟩ => rfl
  have hw : scatter_S64_S100000x1_S100000_n_0_0_1.window (ix1 i) 0 = 0 := by
    unfold ScatterDims.window
    rw [dif_neg (by decide)]
  rw [hs, hw]
  simp

theorem sum_filter1 {n : ℕ} (P : (⟨1, ![n]⟩ : Shape).Idx → Prop) [DecidablePred P] (Q : Fin n → Prop) [DecidablePred Q] (h : ∀ i : Fin n, P (ix1 i) ↔ Q i)
    (u : (⟨1, ![n]⟩ : Shape).Idx → EReal) : ∑ j ∈ Finset.univ.filter P, u j = ∑ i ∈ Finset.univ.filter Q, u (ix1 i) := by
  rw [Finset.sum_filter, Finset.sum_filter, sum_idx1]
  refine Finset.sum_congr rfl fun i _ => ?_
  simp only [h]

theorem scat_at (x : FVec Ideal S64 .f32) (idx : IVec S100000x1 32) (u : FVec Ideal S100000 .f32) (j : Fin 64) :
    Host.scatterAdd scatter_S64_S100000x1_S100000_n_0_0_1 x idx u (ix1 j)
      = x (ix1 j) + ∑ i ∈ Finset.univ.filter (fun i : Fin 100000 => idx (ix2 i 0) = BitVec.ofNat 32 j.val), u (ix1 i) := by
  show Ideal.hostScatterAdd scatter_S64_S100000x1_S100000_n_0_0_1 x idx u (ix1 j) = _
  unfold Ideal.hostScatterAdd
  refine congrArg (x (ix1 j) + ·) (sum_filter1 _ _ (fun i => ?_) u)
  rw [scat_lands, Cert.Spec.id_eq]

theorem take_at (x : FVec Ideal S64x100000 .f32) (idx : IVec S64x9x1 32) (j : Fin 64) (q : Fin 9) (p : ℕ) (hp : p < 100000)
    (h : idx (ix3 j q 0) = BitVec.ofNat 32 p) :
    Host.gather gather_S64x100000_S64x9x1_S64x9_n_1_0_0_1_2_11 x idx (ix2 j q) = x (ix2 j ⟨p, hp⟩) := by
  unfold Host.gather
  refine congrArg x (funext fun a => Fin.ext ?_)
  match a with
  | ⟨0, _⟩ =>
    show GatherDims.start _ _ _ 0 + GatherDims.batchCoord _ _ 0 + GatherDims.offCoord _ _ 0 = j.val
    rw [GatherDims.start_batching _ _ _ _ (by decide), GatherDims.offCoord_eq_zero _ _ _ (by decide)]
    unfold GatherDims.batchCoord
    rw [dif_pos (by decide)]
    show 0 + j.val + 0 = j.val
    omega
  | ⟨1, _⟩ =>
    show GatherDims.start _ _ _ 1 + GatherDims.batchCoord _ _ 1 + GatherDims.offCoord _ _ 1 = p
    rw [GatherDims.batchCoord_eq_zero _ _ _ (by decide), GatherDims.offCoord_eq_zero _ _ _ (by decide)]
    unfold GatherDims.start
    rw [dif_pos (by decide)]
    have e : ∀ c, GatherDims.siIdx gather_S64x100000_S64x9x1_S64x9_n_1_0_0_1_2_11 (ix2 j q) c = ix3 j q 0 := by
      intro c
      funext b
      match b with
      | ⟨0, _⟩ => rfl
      | ⟨1, _⟩ => rfl
      | ⟨2, _⟩ => exact Subsingleton.elim (α := Fin 1) _ _
    rw [e, h]
    have ti : (BitVec.ofNat 32 p).toInt = p := by
      rw [BitVec.toInt_eq_toNat_cond, BitVec.toNat_ofNat]
      have : p % 2 ^ 32 = p := Nat.mod_eq_of_lt (by omega)
      rw [this]; split <;> omega
    rw [ti]
    show min p (100000 - 1) + 0 + 0 = p
    omega

theorem sort_at (cmp : EReal → EReal → BitVec 1) (x : FVec Ideal S64x100000 .f32) (j : Fin 64) (p : Fin 100000) :
    Host.sort S64x100000 1 cmp x (ix2 j p) = x (ix2 j (sortedFrom (fun k k' => cmp (x (ix2 j k)) (x (ix2 j k')) == 1#1) p)) := by
  have e : ∀ k : Fin 100000, Shape.Idx.along (s := S64x100000) (ix2 j p) 1 k = ix2 j k := fun k => by
    funext a
    match a with
    | ⟨0, _⟩ => rfl
    | ⟨1, _⟩ => rfl
  unfold Host.sort
  rw [dif_pos (by decide)]
  refine (congrArg x (e _)).trans ?_
  refine congrArg (fun g => x (ix2 j (sortedFrom g p))) (funext fun k => funext fun k' => ?_)
  exact congrArg₂ (fun a b => cmp (x a) (x b) == 1#1) (e k) (e k')

theorem select_ofBool {α : Type} (b : Bool) (x y : α) : Scalar.select (BitVec.ofBool b) x y = if b then x else y := by
  cases b <;> rfl

theorem canon_eq (x z n : EReal) : Scalar.select (FloatOps.cmpf (F := Ideal) (φ := .f32) .une x x) n (Scalar.select (FloatOps.cmpf (F := Ideal) (φ := .f32) .oeq x z) z x) = x := by
  show Scalar.select (BitVec.ofBool _) n (Scalar.select (BitVec.ofBool _) z x) = x
  rw [select_ofBool, select_ofBool]
  by_cases h : x = z
  · subst h; simp
  · simp [h]

theorem cmp_lt (l r : EReal) : comparator_f32_d1 (F := Ideal) l r = BitVec.ofBool (decide (l < r)) := by
  unfold comparator_f32_d1
  dsimp only
  rw [canon_eq, canon_eq]
  rfl

theorem sort_rank (x : FVec Ideal S64x100000 .f32) (P : Fin 64 → Fin 100000 → Prop) [∀ j, DecidablePred (P j)] (y : Fin 100000 → EReal)
    (hx : ∀ j i, x (ix2 j i) = if P j i then y i else ⊤) (j : Fin 64) (p : Fin 100000) (hp : p.val < (Finset.univ.filter (P j)).card) :
    IsRank (Finset.univ.filter (P j)) y p.val (Host.sort S64x100000 1 (comparator_f32_d1 (F := Ideal)) x (ix2 j p)) := by
  refine isRank_of_masked (P j) y p.val hp _ ?_
  rw [sort_at]
  simp only [hx, cmp_lt]
  have e : ∀ a b : EReal, (BitVec.ofBool (decide (a < b)) == 1#1) = decide (a < b) := by
    intro a b
    by_cases h : a < b <;> simp [h]
  simp only [e]
  exact isRank_sortedFrom (fun i => if P j i then y i else ⊤) p

theorem fold_max_rank {ι : Type} [Fintype ι] (P : ι → Prop) [DecidablePred P] (x : ι → EReal) (hne : ∃ i, P i) :
    IsRank (Finset.univ.filter P) x ((Finset.univ.filter P).card - 1) (Finset.univ.fold max ⊥ fun i => if P i then x i else ⊥) := by
  set v := Finset.univ.fold max ⊥ fun i => if P i then x i else ⊥ with hv
  have hle : ∀ i, (if P i then x i else ⊥) ≤ v := fun i => ((Finset.fold_max_le (s := Finset.univ) (b := ⊥) v).1 (le_of_eq hv.symm)).2 i (Finset.mem_univ i)
  have hle' : ∀ i, P i → x i ≤ v := fun i hi => by have := hle i; rwa [if_pos hi] at this
  have hbot : v ≤ ⊥ → ∃ i ∈ Finset.univ.filter P, x i = v := fun hb => by
    obtain ⟨i, hi⟩ := hne
    exact ⟨i, by simp [hi], le_antisymm (hle' i hi) (hb.trans bot_le)⟩
  refine isRank_max _ _ _ ?_ fun i hi => hle' i (Finset.mem_filter.1 hi).2
  rcases (Finset.le_fold_max (s := Finset.univ) (b := ⊥) (f := fun i => if P i then x i else ⊥) v).1 (le_of_eq hv) with h | ⟨i, _, h⟩
  · exact hbot h
  · by_cases hi : P i
    · rw [if_pos hi] at h
      exact ⟨i, by simp [hi], le_antisymm (hle' i hi) h⟩
    · rw [if_neg hi] at h
      exact hbot h

theorem fold_min_rank {ι : Type} [Fintype ι] (P : ι → Prop) [DecidablePred P] (x : ι → EReal) (hne : ∃ i, P i) :
    IsRank (Finset.univ.filter P) x 0 (Finset.univ.fold min ⊤ fun i => if P i then x i else ⊤) := by
  set v := Finset.univ.fold min ⊤ fun i => if P i then x i else ⊤ with hv
  have hle : ∀ i, v ≤ (if P i then x i else ⊤) := fun i => ((Finset.le_fold_min (s := Finset.univ) (b := ⊤) v).1 (le_of_eq hv)).2 i (Finset.mem_univ i)
  have hle' : ∀ i, P i → v ≤ x i := fun i hi => by have := hle i; rwa [if_pos hi] at this
  have htop : ⊤ ≤ v → ∃ i ∈ Finset.univ.filter P, x i = v := fun hb => by
    obtain ⟨i, hi⟩ := hne
    exact ⟨i, by simp [hi], le_antisymm (le_top.trans hb) (hle' i hi)⟩
  refine isRank_min _ _ _ ?_ fun i hi => hle' i (Finset.mem_filter.1 hi).2
  rcases (Finset.fold_min_le (s := Finset.univ) (b := ⊤) (f := fun i => if P i then x i else ⊤) v).1 (le_of_eq hv.symm) with h | ⟨i, _, h⟩
  · exact htop h
  · by_cases hi : P i
    · rw [if_pos hi] at h
      exact ⟨i, by simp [hi], le_antisymm h (hle' i hi)⟩
    · rw [if_neg hi] at h
      exact htop h

theorem count_card {n : ℕ} (P : Fin n → Prop) [DecidablePred P] (Q : ℕ → Prop) [DecidablePred Q] (h : ∀ i : Fin n, P i ↔ Q i.val) :
    Nat.count Q n = (Finset.univ.filter P).card := by
  rw [Nat.count_eq_card_filter_range, ← Finset.card_map Fin.valEmbedding]
  congr 1
  ext k
  simp only [Finset.mem_filter, Finset.mem_range, Finset.mem_map, Finset.mem_univ, true_and, Fin.valEmbedding_apply]
  constructor
  · rintro ⟨hk, hq⟩
    exact ⟨⟨k, hk⟩, (h ⟨k, hk⟩).2 hq, rfl⟩
  · rintro ⟨i, hi, rfl⟩
    exact ⟨i.isLt, (h i).1 hi⟩

theorem row_count (msk : IVec S64x100000 1) (P : Fin 64 → Fin 100000 → Prop) [∀ j, DecidablePred (P j)] (hP : ∀ j i, msk (ix2 j i) = 1#1 ↔ P j i) (j : Fin 64) :
    Host.reduce IntOp.addi (extui 32 msk natLt_1_32) (constantI S_ 32 0#32) reducesTo_S64x100000_S64_d1 h_S_ (ix1 j)
      = BitVec.ofNat 32 (Finset.univ.filter (P j)).card := by
  classical
  let Q : ℕ → Prop := fun q => ∃ h : q < 100000, P j ⟨q, h⟩
  have hQ : ∀ i : Fin 100000, P j i ↔ Q i.val := fun i => ⟨fun h => ⟨i.isLt, h⟩, fun ⟨_, h⟩ => h⟩
  rw [← count_card (P j) Q hQ]
  exact reduce_count (n := 64) (m := 100000) (by norm_num) msk natLt_1_32 reducesTo_S64x100000_S64_d1 h_S_ j Q fun q => (hP j q).trans (hQ q)

end Cert.ReferenceIdeal.Val
-- ==== Proof.RefV1.lean ====
/- The reference's node values, read at an index. -/
module

public import proofs.«01_k».proof.Proof.RefI
public import proofs.«01_k».proof.Proof.RefV0
public import Idealize.ShloMosaic.Lib.Routing.OpsSet
public import Idealize.ShloMosaic.Lib.Routing.OpsPair
public import Idealize.ShloMosaic.Lib.Pointwise
public import Idealize.ShloMosaic.Lib.StableHlo.ReadAt

@[expose] public section

set_option maxRecDepth 16384

noncomputable section

namespace Cert.ReferenceIdeal.Val

open Cert.ReferenceIdeal.Gen Cert.ReferenceIdeal.Run Cert.Spec Cert.Rank
open Idealize.ShloMosaic Idealize.ShloMosaic.TcCoe Idealize.ShloMosaic.Tactic

open Idealize.ShloMosaic.Routing

variable (m : (ℓ : Loc nD τ sig) → Buf (Elt Ideal) ℓ) (c : Dev nD)

/-- The arguments of a run. -/
def args : Args where
  e i k q := (m ((c : Thread nD τ).loc main_arg0) : Vec Ideal S100000x128x1x4 .f32) (ix4 i k 0 q)
  b i := (m ((c : Thread nD τ).loc main_arg1) : Vec Ideal S100000 .i32) (ix1 i)
  lw q k := (m ((c : Thread nD τ).loc main_arg2) : Vec Ideal S3x128 .f32) (ix2 q k)
  lb q := (m ((c : Thread nD τ).loc main_arg3) : Vec Ideal S3 .f32) (ix1 q)
  w1 k h := (m ((c : Thread nD τ).loc main_arg4) : Vec Ideal S128x128 .f32) (ix2 k h)
  b1 h := (m ((c : Thread nD τ).loc main_arg5) : Vec Ideal S128 .f32) (ix1 h)
  w2 h := (m ((c : Thread nD τ).loc main_arg6) : Vec Ideal S128 .f32) (ix1 h)
  b2 := (m ((c : Thread nD τ).loc main_arg7) : Vec Ideal S_ .f32) ix0
  m1 k h := (m ((c : Thread nD τ).loc main_arg8) : Vec Ideal S12x128 .f32) (ix2 k h)
  c1 h := (m ((c : Thread nD τ).loc main_arg9) : Vec Ideal S128 .f32) (ix1 h)
  m2 h := (m ((c : Thread nD τ).loc main_arg10) : Vec Ideal S128 .f32) (ix1 h)
  c2 := (m ((c : Thread nD τ).loc main_arg11) : Vec Ideal S_ .f32) ix0

theorem V0_arg (r : Ref sig .tc) : V0 m c (Proc.devRef .tc r) = m ((c : Thread nD τ).loc r) := rfl
theorem V1_arg (r : Ref sig .tc) (h : r ∈ argRefs) : V1 m c (Proc.devRef .tc r) = m ((c : Thread nD τ).loc r) := (V1_of m c (ops0_args r h)).trans (V0_arg m c r)
theorem V2_arg (r : Ref sig .tc) (h : r ∈ argRefs) : V2 m c (Proc.devRef .tc r) = m ((c : Thread nD τ).loc r) := (V2_of m c (ops1_args r h)).trans (V1_arg m c r h)
theorem V3_arg (r : Ref sig .tc) (h : r ∈ argRefs) : V3 m c (Proc.devRef .tc r) = m ((c : Thread nD τ).loc r) := (V3_of m c (ops2_args r h)).trans (V2_arg m c r h)
theorem V4_arg (r : Ref sig .tc) (h : r ∈ argRefs) : V4 m c (Proc.devRef .tc r) = m ((c : Thread nD τ).loc r) := (V4_of m c (ops3_args r h)).trans (V3_arg m c r h)
theorem V5_arg (r : Ref sig .tc) (h : r ∈ argRefs) : V5 m c (Proc.devRef .tc r) = m ((c : Thread nD τ).loc r) := (V5_of m c (ops4_args r h)).trans (V4_arg m c r h)
theorem V6_arg (r : Ref sig .tc) (h : r ∈ argRefs) : V6 m c (Proc.devRef .tc r) = m ((c : Thread nD τ).loc r) := (V6_of m c (ops5_args r h)).trans (V5_arg m c r h)
theorem V7_arg (r : Ref sig .tc) (h : r ∈ argRefs) : V7 m c (Proc.devRef .tc r) = m ((c : Thread nD τ).loc r) := (V7_of m c (ops6_args r h)).trans (V6_arg m c r h)
theorem V8_arg (r : Ref sig .tc) (h : r ∈ argRefs) : V8 m c (Proc.devRef .tc r) = m ((c : Thread nD τ).loc r) := (V8_of m c (ops7_args r h)).trans (V7_arg m c r h)
theorem V9_arg (r : Ref sig .tc) (h : r ∈ argRefs) : V9 m c (Proc.devRef .tc r) = m ((c : Thread nD τ).loc r) := (V9_of m c (ops8_args r h)).trans (V8_arg m c r h)
theorem V10_arg (r : Ref sig .tc) (h : r ∈ argRefs) : V10 m c (Proc.devRef .tc r) = m ((c : Thread nD τ).loc r) := (V10_of m c (ops9_args r h)).trans (V9_arg m c r h)
theorem V11_arg (r : Ref sig .tc) (h : r ∈ argRefs) : V11 m c (Proc.devRef .tc r) = m ((c : Thread nD τ).loc r) := (V11_of m c (ops10_args r h)).trans (V10_arg m c r h)
theorem V12_arg (r : Ref sig .tc) (h : r ∈ argRefs) : V12 m c (Proc.devRef .tc r) = m ((c : Thread nD τ).loc r) := (V12_of m c (ops11_args r h)).trans (V11_arg m c r h)
theorem V13_arg (r : Ref sig .tc) (h : r ∈ argRefs) : V13 m c (Proc.devRef .tc r) = m ((c : Thread nD τ).loc r) := (V13_of m c (ops12_args r h)).trans (V12_arg m c r h)
theorem V14_arg (r : Ref sig .tc) (h : r ∈ argRefs) : V14 m c (Proc.devRef .tc r) = m ((c : Thread nD τ).loc r) := (V14_of m c (ops13_args r h)).trans (V13_arg m c r h)
theorem V15_arg (r : Ref sig .tc) (h : r ∈ argRefs) : V15 m c (Proc.devRef .tc r) = m ((c : Thread nD τ).loc r) := (V15_of m c (ops14_args r h)).trans (V14_arg m c r h)
theorem V16_arg (r : Ref sig .tc) (h : r ∈ argRefs) : V16 m c (Proc.devRef .tc r) = m ((c : Thread nD τ).loc r) := (V16_of m c (ops15_args r h)).trans (V15_arg m c r h)
theorem V17_arg (r : Ref sig .tc) (h : r ∈ argRefs) : V17 m c (Proc.devRef .tc r) = m ((c : Thread nD τ).loc r) := (V17_of m c (ops16_args r h)).trans (V16_arg m c r h)
theorem V18_arg (r : Ref sig .tc) (h : r ∈ argRefs) : V18 m c (Proc.devRef .tc r) = m ((c : Thread nD τ).loc r) := (V18_of m c (ops17_args r h)).trans (V17_arg m c r h)
theorem V19_arg (r : Ref sig .tc) (h : r ∈ argRefs) : V19 m c (Proc.devRef .tc r) = m ((c : Thread nD τ).loc r) := (V19_of m c (ops18_args r h)).trans (V18_arg m c r h)
theorem V20_arg (r : Ref sig .tc) (h : r ∈ argRefs) : V20 m c (Proc.devRef .tc r) = m ((c : Thread nD τ).loc r) := (V20_of m c (ops19_args r h)).trans (V19_arg m c r h)
theorem V21_arg (r : Ref sig .tc) (h : r ∈ argRefs) : V21 m c (Proc.devRef .tc r) = m ((c : Thread nD τ).loc r) := (V21_of m c (ops20_args r h)).trans (V20_arg m c r h)
theorem V22_arg (r : Ref sig .tc) (h : r ∈ argRefs) : V22 m c (Proc.devRef .tc r) = m ((c : Thread nD τ).loc r) := (V22_of m c (ops21_args r h)).trans (V21_arg m c r h)
theorem V23_arg (r : Ref sig .tc) (h : r ∈ argRefs) : V23 m c (Proc.devRef .tc r) = m ((c : Thread nD τ).loc r) := (V23_of m c (ops22_args r h)).trans (V22_arg m c r h)

theorem v31_at (i : Fin 100000) : (V1 m c (Proc.devRef .tc main_v31) : Vec Ideal S100000 .f32) (ix1 i)
    = 0 + ∑ k : Fin 128, (args m c).e i k 0 * (args m c).lw 0 k + (args m c).lb 0 + ∑ k : Fin 128, (args m c).e i k 1 * (args m c).lw 1 k + (args m c).lb 1
      + ∑ k : Fin 128, (args m c).e i k 2 * (args m c).lw 2 k + (args m c).lb 2 := by
  unfold V1
  after_reads_at
  rfl

theorem v37_at (i : Fin 100000) (h : Fin 128) : (V1 m c (Proc.devRef .tc main_v37) : Vec Ideal S100000x128 .f32) (ix2 i h)
    = ∑ k : Fin 128, (args m c).e i k 3 * (args m c).w1 k h + (args m c).b1 h := by
  unfold V1
  after_reads_at
  rfl

theorem v38_at (i : Fin 100000) (h : Fin 128) : (V2 m c (Proc.devRef .tc main_v38) : Vec Ideal S100000x128 .f32) (ix2 i h) = (args m c).hid i h := by
  unfold V2
  after_reads_at
  rw [v37_at]
  rfl

theorem v42_at (i : Fin 100000) : (V3 m c (Proc.devRef .tc main_v42) : Vec Ideal S100000 .f32) (ix1 i) = (args m c).node i := by
  unfold V3
  after_reads_at
  rw [show V2 m c (Proc.devRef .tc main_v31) = V1 m c (Proc.devRef .tc main_v31) from V2_of m c (by decide), V2_arg m c main_arg6 (by decide), V2_arg m c main_arg7 (by decide)]
  unfold Args.node
  refine congrArg₂ (· + ·) (congrArg₂ (· + ·) (v31_at m c i) (Finset.sum_congr rfl fun h _ => ?_)) rfl
  exact congrArg (· * (args m c).w2 h) (v38_at m c i h)

theorem v46_at (j : Fin 64) : (V4 m c (Proc.devRef .tc main_v46) : Vec Ideal S64 .f32) (ix1 j) = ((((args m c).n j : ℕ) : ℝ) : EReal) := by
  unfold V4
  after_reads_simp
  rw [V3_arg m c _ (by decide)]
  refine (scat_at _ _ _ j).trans ?_
  pointwise
  exact sum_one _

theorem v49_at (j : Fin 64) : (V4 m c (Proc.devRef .tc main_v49) : Vec Ideal S64 .f32) (ix1 j) = ∑ i ∈ (args m c).seg j, (args m c).node i := by
  unfold V4
  after_reads_simp
  rw [V3_arg m c _ (by decide)]
  refine (scat_at _ _ _ j).trans ?_
  pointwise
  exact Finset.sum_congr rfl fun i _ => v42_at m c i

theorem v52_at (j : Fin 64) : (V4 m c (Proc.devRef .tc main_v52) : Vec Ideal S64 .f32) (ix1 j)
    = Ideal.div (∑ i ∈ (args m c).seg j, (args m c).node i) (max ((((args m c).n j : ℕ) : ℝ) : EReal) 1) := by
  have e : (V4 m c (Proc.devRef .tc main_v52) : Vec Ideal S64 .f32) (ix1 j)
      = Ideal.div ((V4 m c (Proc.devRef .tc main_v49) : Vec Ideal S64 .f32) (ix1 j)) (max ((V4 m c (Proc.devRef .tc main_v46) : Vec Ideal S64 .f32) (ix1 j)) 1) := by
    unfold V4
    after_reads_at
  rw [e, v49_at, v46_at]

theorem v42_4_3 : V4 m c (Proc.devRef .tc main_v42) = V3 m c (Proc.devRef .tc main_v42) := by
  rw [V4_of m c (by decide)]

theorem v42_9_3 : V9 m c (Proc.devRef .tc main_v42) = V3 m c (Proc.devRef .tc main_v42) := by
  rw [V9_of m c (by decide), V8_of m c (by decide), V7_of m c (by decide), V6_of m c (by decide), V5_of m c (by decide), V4_of m c (by decide)]

theorem v42_13_3 : V13 m c (Proc.devRef .tc main_v42) = V3 m c (Proc.devRef .tc main_v42) := by
  rw [V13_of m c (by decide), V12_of m c (by decide), V11_of m c (by decide), V10_of m c (by decide), V9_of m c (by decide), V8_of m c (by decide), V7_of m c (by decide), V6_of m c (by decide), V5_of m c (by decide), V4_of m c (by decide)]

theorem ninf : Ideal.ofBits .f32 0xFF800000#32 = ⊥ := by simp [Ideal.ofBits, Ideal.ieee]

theorem pinf : Ideal.ofBits .f32 0x7F800000#32 = ⊤ := by simp [Ideal.ofBits, Ideal.ieee]

theorem eq_bit {w : ℕ} (x y : BitVec w) : IntOp.cmpi CmpIPredicate.eq x y = BitVec.ofBool (decide (x = y)) := by
  show BitVec.ofBool (x == y) = _
  congr 1

theorem v58_at (j : Fin 64) (i : Fin 100000) : (V6 m c (Proc.devRef .tc main_v58) : Vec Ideal S64x100000 .i1) (ix2 j i) = BitVec.ofBool (decide ((args m c).b i = BitVec.ofNat 32 j.val)) := by
  unfold V6 V5
  after_reads_at
  rw [V4_arg m c _ (by decide), eq_bit]
  rfl

theorem v60_at (j : Fin 64) (i : Fin 100000) : (V8 m c (Proc.devRef .tc main_v60) : Vec Ideal S64x100000 .f32) (ix2 j i)
    = if (args m c).b i = BitVec.ofNat 32 j.val then (args m c).node i else ⊥ := by
  unfold V8 V7 V6 V5
  after_reads_at
  rw [V4_arg m c _ (by decide), v42_4_3, eq_bit, select_ofBool]
  have e := v42_at m c i
  have e2 : (id (constant (F := Ideal) S_ FTy.f32 4286578688#32) ix0 : EReal) = ⊥ := ninf
  simp only [decide_eq_true_eq]
  exact if_congr Iff.rfl e e2

theorem v61_at (j : Fin 64) : (V9 m c (Proc.devRef .tc main_v61) : Vec Ideal S64 .f32) (ix1 j)
    = Finset.univ.fold max ⊥ fun i => if (args m c).b i = BitVec.ofNat 32 j.val then (args m c).node i else ⊥ := by
  unfold V9
  after_reads_at
  refine congrArg₂ (fun b f => Finset.fold max b f Finset.univ) ?_ (funext fun i => v60_at m c j i)
  exact ninf

theorem v58_9_6 : V9 m c (Proc.devRef .tc main_v58) = V6 m c (Proc.devRef .tc main_v58) := by
  rw [V9_of m c (by decide), V8_of m c (by decide), V7_of m c (by decide)]

theorem v63_at (j : Fin 64) (i : Fin 100000) : (V11 m c (Proc.devRef .tc main_v63) : Vec Ideal S64x100000 .f32) (ix2 j i)
    = if (args m c).b i = BitVec.ofNat 32 j.val then (args m c).node i else ⊤ := by
  unfold V11 V10
  after_reads_at
  rw [v42_9_3, v58_9_6]
  have e := v42_at m c i
  have e2 : (id (constant (F := Ideal) S_ FTy.f32 2139095040#32) ix0 : EReal) = ⊤ := pinf
  refine (congrArg (fun t => Scalar.select t _ _) (v58_at m c j i)).trans ?_
  rw [select_ofBool]
  simp only [decide_eq_true_eq]
  exact if_congr Iff.rfl e e2

theorem v64_at (j : Fin 64) : (V12 m c (Proc.devRef .tc main_v64) : Vec Ideal S64 .f32) (ix1 j)
    = Finset.univ.fold min ⊤ fun i => if (args m c).b i = BitVec.ofNat 32 j.val then (args m c).node i else ⊤ := by
  unfold V12
  after_reads_at
  refine congrArg₂ (fun b f => Finset.fold min b f Finset.univ) ?_ (funext fun i => v63_at m c j i)
  exact pinf

theorem v70_at (j : Fin 64) (i : Fin 100000) : (V13 m c (Proc.devRef .tc main_v70) : Vec Ideal S64x100000 .i1) (ix2 j i) = BitVec.ofBool (decide ((args m c).b i = BitVec.ofNat 32 j.val)) := by
  unfold V13
  after_reads_at
  rw [V12_arg m c _ (by decide), eq_bit]
  rfl

theorem v72_at (j : Fin 64) : (V13 m c (Proc.devRef .tc main_v72) : Vec Ideal S64 .i32) (ix1 j) = BitVec.ofNat 32 ((args m c).n j) := by
  have e : (V13 m c (Proc.devRef .tc main_v72) : Vec Ideal S64 .i32)
      = Host.reduce IntOp.addi (extui 32 (V13 m c (Proc.devRef .tc main_v70) : Vec Ideal S64x100000 .i1) natLt_1_32) (constantI S_ 32 0#32) reducesTo_S64x100000_S64_d1 h_S_ := by
    unfold V13
    after_reads_simp
  rw [e]
  refine row_count _ (fun j i => (args m c).b i = BitVec.ofNat 32 j.val) (fun j i => ?_) j
  rw [v70_at]
  by_cases h : (args m c).b i = BitVec.ofNat 32 j.val <;> simp [h]

theorem v70_14_13 : V14 m c (Proc.devRef .tc main_v70) = V13 m c (Proc.devRef .tc main_v70) := by
  rw [V14_of m c (by decide)]

theorem v42_14_3 : V14 m c (Proc.devRef .tc main_v42) = V3 m c (Proc.devRef .tc main_v42) := by
  rw [V14_of m c (by decide), V13_of m c (by decide), V12_of m c (by decide), V11_of m c (by decide), V10_of m c (by decide), V9_of m c (by decide), V8_of m c (by decide), V7_of m c (by decide), V6_of m c (by decide), V5_of m c (by decide), V4_of m c (by decide)]

theorem v73_at (j : Fin 64) (i : Fin 100000) : (V15 m c (Proc.devRef .tc main_v73) : Vec Ideal S64x100000 .f32) (ix2 j i)
    = if (args m c).b i = BitVec.ofNat 32 j.val then (args m c).node i else ⊤ := by
  unfold V15 V14
  after_reads_at
  rw [v42_13_3]
  have e := v42_at m c i
  have e2 : (id (constant (F := Ideal) S_ FTy.f32 2139095040#32) ix0 : EReal) = ⊤ := pinf
  refine (congrArg (fun t => Scalar.select t _ _) (v70_at m c j i)).trans ?_
  rw [select_ofBool]
  simp only [decide_eq_true_eq]
  exact if_congr Iff.rfl e e2

/-- The sorted rows of the reference, by position. -/
def T (j : Fin 64) (k : ℕ) : EReal := if hk : k < 100000 then (V16 m c (Proc.devRef .tc main_v74) : Vec Ideal S64x100000 .f32) (ix2 j ⟨k, hk⟩) else 0

theorem n_le (j : Fin 64) : (args m c).n j ≤ 100000 := (Finset.card_le_univ _).trans (by simp)

theorem T_rank (j : Fin 64) (k : ℕ) (hk : k < (args m c).n j) : IsRank ((args m c).seg j) (args m c).node k (T m c j k) := by
  have hn := n_le m c j
  have hk' : k < 100000 := by omega
  have e : (V16 m c (Proc.devRef .tc main_v74) : Vec Ideal S64x100000 .f32)
      = Host.sort S64x100000 1 (comparator_f32_d1 (F := Ideal)) (V15 m c (Proc.devRef .tc main_v73) : Vec Ideal S64x100000 .f32) := by
    unfold V16
    after_reads_simp
    rfl
  unfold T
  rw [dif_pos hk', e]
  exact sort_rank _ (fun j i => (args m c).b i = BitVec.ofNat 32 j.val) _ (v73_at m c) j ⟨k, hk'⟩ hk

theorem v61_T (j : Fin 64) (h : 1 ≤ (args m c).n j) : (V9 m c (Proc.devRef .tc main_v61) : Vec Ideal S64 .f32) (ix1 j) = T m c j ((args m c).n j - 1) := by
  rw [v61_at]
  obtain ⟨i, hi⟩ := Finset.card_pos.1 (show 0 < ((args m c).seg j).card from h)
  exact (fold_max_rank (fun i => (args m c).b i = BitVec.ofNat 32 j.val) _ ⟨i, (Finset.mem_filter.1 hi).2⟩).unique (T_rank m c j ((args m c).n j - 1) (by omega))

theorem v64_T (j : Fin 64) (h : 1 ≤ (args m c).n j) : (V12 m c (Proc.devRef .tc main_v64) : Vec Ideal S64 .f32) (ix1 j) = T m c j 0 := by
  rw [v64_at]
  obtain ⟨i, hi⟩ := Finset.card_pos.1 (show 0 < ((args m c).seg j).card from h)
  exact (fold_min_rank (fun i => (args m c).b i = BitVec.ofNat 32 j.val) _ ⟨i, (Finset.mem_filter.1 hi).2⟩).unique (T_rank m c j _ (by omega))

end Cert.ReferenceIdeal.Val
-- ==== Proof.RefV2.lean ====
/- The reference's quantiles and its result, read at an index. -/
module

public import proofs.«01_k».proof.Proof.RefV1
public import Idealize.ShloMosaic.Lib.Routing.OpsSet
public import Idealize.ShloMosaic.Lib.Routing.OpsPair
public import Idealize.ShloMosaic.Lib.Pointwise
public import Idealize.ShloMosaic.Lib.StableHlo.ReadAt

@[expose] public section

set_option maxRecDepth 16384

noncomputable section

namespace Cert.ReferenceIdeal.Val

open Cert.ReferenceIdeal.Gen Cert.ReferenceIdeal.Run Cert.Spec Cert.Rank
open Idealize.ShloMosaic Idealize.ShloMosaic.TcCoe Idealize.ShloMosaic.Tactic

open Idealize.ShloMosaic.Routing

variable (m : (ℓ : Loc nD τ sig) → Buf (Elt Ideal) ℓ) (c : Dev nD)

theorem v72_16_13 : V16 m c (Proc.devRef .tc main_v72) = V13 m c (Proc.devRef .tc main_v72) := by
  rw [V16_of m c (by decide), V15_of m c (by decide), V14_of m c (by decide)]

theorem cst_17_1 : V17 m c (Proc.devRef .tc main_cst) = V1 m c (Proc.devRef .tc main_cst) := by
  rw [V17_of m c (by decide), V16_of m c (by decide), V15_of m c (by decide), V14_of m c (by decide), V13_of m c (by decide), V12_of m c (by decide), V11_of m c (by decide), V10_of m c (by decide), V9_of m c (by decide), V8_of m c (by decide), V7_of m c (by decide), V6_of m c (by decide), V5_of m c (by decide), V4_of m c (by decide), V3_of m c (by decide), V2_of m c (by decide)]

theorem cst_at (k : Fin 9) : (V1 m c (Proc.devRef .tc main_cst) : Vec Ideal S9 .f32) (ix1 k) = ((qv k : ℝ) : EReal) := by
  rw [← qv_bits]
  unfold V1
  after_reads_at
  unfold qbits
  fin_cases k <;> rfl

theorem toInt_small (p : ℕ) (hp : p < 2 ^ 31) : (BitVec.ofNat 32 p).toInt = p := by
  rw [BitVec.toInt_eq_toNat_cond, BitVec.toNat_ofNat]
  have : p % 2 ^ 32 = p := Nat.mod_eq_of_lt (by omega)
  rw [this]; split <;> omega

theorem sit_nat (p : ℕ) (hp : p < 2 ^ 31) : FloatOps.sitofp (F := Ideal) FTy.f32 (BitVec.ofNat 32 p) = ((p : ℝ) : EReal) := by
  show (((BitVec.ofNat 32 p).toInt : ℝ) : EReal) = _
  rw [toInt_small p hp]
  norm_cast

/-- The correction for negative positions leaves a natural number as it is. -/
theorem neg_fix (p : ℕ) (hp : p < 2 ^ 31) (y : BitVec 32) : Scalar.select (IntOp.cmpi CmpIPredicate.slt (BitVec.ofNat 32 p) 0#32) y (BitVec.ofNat 32 p) = BitVec.ofNat 32 p := by
  have e : IntOp.cmpi CmpIPredicate.slt (BitVec.ofNat 32 p) 0#32 = BitVec.ofBool false := by
    show BitVec.ofBool (BitVec.slt (BitVec.ofNat 32 p) 0#32) = _
    rw [BitVec.slt_eq_decide, toInt_small p hp, show (0#32 : BitVec 32).toInt = 0 by decide, decide_eq_false (by omega)]
  rw [e]
  rfl

theorem v77_at (j : Fin 64) (h : 1 ≤ (args m c).n j) : (V17 m c (Proc.devRef .tc main_v77) : Vec Ideal S64 .f32) (ix1 j) = ((((args m c).n j : ℝ) - 1 : ℝ) : EReal) := by
  have hn := n_le m c j
  unfold V17
  after_reads_at
  rw [v72_16_13]
  have e : IntOp.subi ((V13 m c (Proc.devRef .tc main_v72) : Vec Ideal S64 .i32) (ix1 j)) 1#32 = BitVec.ofNat 32 ((args m c).n j - 1) := by
    rw [v72_at]
    unfold IntOp.subi
    rw [show (1#32 : BitVec 32) = BitVec.ofNat 32 1 from rfl, BitVec.ofNat_sub_ofNat_of_le _ _ (by omega) (by omega)]
  refine (congrArg (FloatOps.sitofp (F := Ideal) FTy.f32) e).trans ?_
  rw [sit_nat _ (by omega), Nat.cast_sub h, Nat.cast_one]

/-- The position of a quantile, as the reference computes it. -/
theorem pos_eq (j : Fin 64) (q : Fin 9) (h : 1 ≤ (args m c).n j) :
    HMul.hMul (α := EReal) (β := EReal) (γ := EReal) ((V17 m c (Proc.devRef .tc main_cst) : Vec Ideal S9 .f32) (ix1 q)) ((V17 m c (Proc.devRef .tc main_v77) : Vec Ideal S64 .f32) (ix1 j))
      = ((qpos (qv q) ((args m c).n j) : ℝ) : EReal) := by
  rw [cst_17_1]
  refine (congrArg₂ (fun a b : EReal => a * b) (cst_at m c q) (v77_at m c j h)).trans ?_
  rfl

section
variable (j : Fin 64) (q : Fin 9) (h : 1 ≤ (args m c).n j)
include h

theorem lt_pos : ⌊qpos (qv q) ((args m c).n j)⌋₊ < (args m c).n j ∧ ⌈qpos (qv q) ((args m c).n j)⌉₊ < (args m c).n j ∧ (args m c).n j ≤ 100000 :=
  ⟨floor_lt _ _ (qv_le q) h, ceil_lt _ _ (qv_le q) h, n_le m c j⟩

theorem v84_at : (V18 m c (Proc.devRef .tc main_v84) : Vec Ideal S64x9 .i32) (ix2 j q) = BitVec.ofNat 32 ⌊qpos (qv q) ((args m c).n j)⌋₊ := by
  have hp := lt_pos m c j q h
  unfold V18
  after_reads_at
  refine (congrArg (fun x : EReal => FloatOps.fptosi (F := Ideal) (φ := .f32) 32 (Ideal.liftRound Int.floor x)) (pos_eq m c j q h)).trans ?_
  rw [liftFloor _ (qpos_nonneg _ _ (qv_nonneg q) h)]
  exact toInt_nat _ (by omega)

theorem v86_at : (V18 m c (Proc.devRef .tc main_v86) : Vec Ideal S64x9 .i32) (ix2 j q) = BitVec.ofNat 32 ⌈qpos (qv q) ((args m c).n j)⌉₊ := by
  have hp := lt_pos m c j q h
  unfold V18
  after_reads_at
  refine (congrArg (fun x : EReal => FloatOps.fptosi (F := Ideal) (φ := .f32) 32 (Ideal.liftRound Int.ceil x)) (pos_eq m c j q h)).trans ?_
  rw [liftCeil _ (qpos_nonneg _ _ (qv_nonneg q) h)]
  exact toInt_nat _ (by omega)

theorem v88_at : (V18 m c (Proc.devRef .tc main_v88) : Vec Ideal S64x9 .f32) (ix2 j q)
    = ((qpos (qv q) ((args m c).n j) : ℝ) : EReal) - ((⌊qpos (qv q) ((args m c).n j)⌋₊ : ℝ) : EReal) := by
  have hp := lt_pos m c j q h
  unfold V18
  after_reads_at
  refine (congrArg (fun x : EReal => x - FloatOps.sitofp (F := Ideal) FTy.f32 (FloatOps.fptosi (F := Ideal) (φ := .f32) 32 (Ideal.liftRound Int.floor x))) (pos_eq m c j q h)).trans ?_
  rw [liftFloor _ (qpos_nonneg _ _ (qv_nonneg q) h)]
  refine congrArg (fun x : EReal => ((qpos (qv q) ((args m c).n j) : ℝ) : EReal) - x) ?_
  refine (congrArg (FloatOps.sitofp (F := Ideal) FTy.f32) (toInt_nat _ (by omega))).trans ?_
  exact sit_nat _ (by omega)

theorem v94_at : (V19 m c (Proc.devRef .tc main_v94) : Vec Ideal S64x9x1 .i32) (ix3 j q 0) = BitVec.ofNat 32 ⌊qpos (qv q) ((args m c).n j)⌋₊ := by
  have hp := lt_pos m c j q h
  unfold V19
  after_reads_at
  refine (congrArg (fun x : BitVec 32 => Scalar.select (IntOp.cmpi CmpIPredicate.slt x 0#32) (IntOp.addi x 100000#32) x) (v84_at m c j q h)).trans ?_
  exact neg_fix _ (by omega) _

omit h in
theorem v86_19_18  : V19 m c (Proc.devRef .tc main_v86) = V18 m c (Proc.devRef .tc main_v86) := by
  rw [V19_of m c (by decide)]

theorem v104_at : (V21 m c (Proc.devRef .tc main_v104) : Vec Ideal S64x9x1 .i32) (ix3 j q 0) = BitVec.ofNat 32 ⌈qpos (qv q) ((args m c).n j)⌉₊ := by
  have hp := lt_pos m c j q h
  unfold V21 V20
  after_reads_at
  rw [v86_19_18]
  refine (congrArg (fun x : BitVec 32 => Scalar.select (IntOp.cmpi CmpIPredicate.slt x 0#32) (IntOp.addi x 100000#32) x) (v86_at m c j q h)).trans ?_
  exact neg_fix _ (by omega) _
end

theorem v74_18_16 : V18 m c (Proc.devRef .tc main_v74) = V16 m c (Proc.devRef .tc main_v74) := by
  rw [V18_of m c (by decide), V17_of m c (by decide)]

theorem v74_20_16 : V20 m c (Proc.devRef .tc main_v74) = V16 m c (Proc.devRef .tc main_v74) := by
  rw [V20_of m c (by decide), V19_of m c (by decide), V18_of m c (by decide), V17_of m c (by decide)]

theorem v95_at (j : Fin 64) (q : Fin 9) (h : 1 ≤ (args m c).n j) : (V19 m c (Proc.devRef .tc main_v95) : Vec Ideal S64x9 .f32) (ix2 j q) = T m c j ⌊qpos (qv q) ((args m c).n j)⌋₊ := by
  have hp := lt_pos m c j q h
  have e : (V19 m c (Proc.devRef .tc main_v95) : Vec Ideal S64x9 .f32)
      = Host.gather gather_S64x100000_S64x9x1_S64x9_n_1_0_0_1_2_11 (V18 m c (Proc.devRef .tc main_v74) : Vec Ideal S64x100000 .f32) (V19 m c (Proc.devRef .tc main_v94) : Vec Ideal S64x9x1 .i32) := by
    unfold V19
    after_reads_simp
  rw [e]
  refine (take_at _ _ j q _ (by omega) (v94_at m c j q h)).trans ?_
  unfold T
  rw [dif_pos (by omega), v74_18_16]

theorem v105_at (j : Fin 64) (q : Fin 9) (h : 1 ≤ (args m c).n j) : (V21 m c (Proc.devRef .tc main_v105) : Vec Ideal S64x9 .f32) (ix2 j q) = T m c j ⌈qpos (qv q) ((args m c).n j)⌉₊ := by
  have hp := lt_pos m c j q h
  have e : (V21 m c (Proc.devRef .tc main_v105) : Vec Ideal S64x9 .f32)
      = Host.gather gather_S64x100000_S64x9x1_S64x9_n_1_0_0_1_2_11 (V20 m c (Proc.devRef .tc main_v74) : Vec Ideal S64x100000 .f32) (V21 m c (Proc.devRef .tc main_v104) : Vec Ideal S64x9x1 .i32) := by
    unfold V21
    after_reads_simp
  rw [e]
  refine (take_at _ _ j q _ (by omega) (v104_at m c j q h)).trans ?_
  unfold T
  rw [dif_pos (by omega), v74_20_16]

theorem v98_at (j : Fin 64) (q : Fin 9) (h : 1 ≤ (args m c).n j) : (V19 m c (Proc.devRef .tc main_v98) : Vec Ideal S64x9 .f32) (ix2 j q)
    = T m c j ⌊qpos (qv q) ((args m c).n j)⌋₊ * (1 - (((qpos (qv q) ((args m c).n j) : ℝ) : EReal) - ((⌊qpos (qv q) ((args m c).n j)⌋₊ : ℝ) : EReal))) := by
  have e : @Eq (FVec Ideal S64x9 .f32) (V19 m c (Proc.devRef .tc main_v98))
      (mulf (V19 m c (Proc.devRef .tc main_v95) : FVec Ideal S64x9 .f32) (subf (broadcastInDim S64x9 ![] bcast_S_S64x9 (constant S_ .f32 0x3F800000#32)) (V18 m c (Proc.devRef .tc main_v88) : FVec Ideal S64x9 .f32))) := by
    unfold V19
    after_reads_simp
  rw [e]
  pointwise
  exact congrArg₂ (fun a b : EReal => a * (1 - b)) (v95_at m c j q h) (v88_at m c j q h)

theorem v98_20_19 : V20 m c (Proc.devRef .tc main_v98) = V19 m c (Proc.devRef .tc main_v98) := by
  rw [V20_of m c (by decide)]

theorem v88_20_18 : V20 m c (Proc.devRef .tc main_v88) = V18 m c (Proc.devRef .tc main_v88) := by
  rw [V20_of m c (by decide), V19_of m c (by decide)]

theorem v107_at (j : Fin 64) (q : Fin 9) (h : 1 ≤ (args m c).n j) : (V21 m c (Proc.devRef .tc main_v107) : Vec Ideal S64x9 .f32) (ix2 j q) = quantS (qv q) ((args m c).n j) (T m c j) := by
  have e : @Eq (FVec Ideal S64x9 .f32) (V21 m c (Proc.devRef .tc main_v107))
      (addf (V20 m c (Proc.devRef .tc main_v98) : FVec Ideal S64x9 .f32) (mulf (V21 m c (Proc.devRef .tc main_v105) : FVec Ideal S64x9 .f32) (V20 m c (Proc.devRef .tc main_v88) : FVec Ideal S64x9 .f32))) := by
    unfold V21
    after_reads_simp
  rw [e]
  pointwise
  rw [v98_20_19, v88_20_18]
  unfold quantS
  refine congrArg₂ (fun a b : EReal => a + b) (v98_at m c j q h) ?_
  exact congrArg₂ (fun a b : EReal => a * b) (v105_at m c j q h) (v88_at m c j q h)

end Cert.ReferenceIdeal.Val
-- ==== Proof.RefV3.lean ====
/- The reference's result, read at an index. -/
module

public import proofs.«01_k».proof.Proof.RefV2
public import Idealize.ShloMosaic.Lib.Routing.OpsSet
public import Idealize.ShloMosaic.Lib.Routing.OpsPair
public import Idealize.ShloMosaic.Lib.Pointwise
public import Idealize.ShloMosaic.Lib.StableHlo.ReadAt

@[expose] public section

set_option maxRecDepth 16384

noncomputable section

namespace Cert.ReferenceIdeal.Val

open Cert.ReferenceIdeal.Gen Cert.ReferenceIdeal.Run Cert.Spec Cert.Rank
open Idealize.ShloMosaic Idealize.ShloMosaic.TcCoe Idealize.ShloMosaic.Tactic

open Idealize.ShloMosaic.Routing

variable (m : (ℓ : Loc nD τ sig) → Buf (Elt Ideal) ℓ) (c : Dev nD)

theorem v52_21_4 : V21 m c (Proc.devRef .tc main_v52) = V4 m c (Proc.devRef .tc main_v52) := by
  rw [V21_of m c (by decide), V20_of m c (by decide), V19_of m c (by decide), V18_of m c (by decide), V17_of m c (by decide), V16_of m c (by decide), V15_of m c (by decide), V14_of m c (by decide), V13_of m c (by decide), V12_of m c (by decide), V11_of m c (by decide), V10_of m c (by decide), V9_of m c (by decide), V8_of m c (by decide), V7_of m c (by decide), V6_of m c (by decide), V5_of m c (by decide)]

theorem v61_21_9 : V21 m c (Proc.devRef .tc main_v61) = V9 m c (Proc.devRef .tc main_v61) := by
  rw [V21_of m c (by decide), V20_of m c (by decide), V19_of m c (by decide), V18_of m c (by decide), V17_of m c (by decide), V16_of m c (by decide), V15_of m c (by decide), V14_of m c (by decide), V13_of m c (by decide), V12_of m c (by decide), V11_of m c (by decide), V10_of m c (by decide)]

theorem v64_21_12 : V21 m c (Proc.devRef .tc main_v64) = V12 m c (Proc.devRef .tc main_v64) := by
  rw [V21_of m c (by decide), V20_of m c (by decide), V19_of m c (by decide), V18_of m c (by decide), V17_of m c (by decide), V16_of m c (by decide), V15_of m c (by decide), V14_of m c (by decide), V13_of m c (by decide)]

theorem stats1 (a : Args) (j : Fin 64) (S : ℕ → EReal) : a.stats j S 1 = S (a.n j - 1) := rfl

theorem stats2 (a : Args) (j : Fin 64) (S : ℕ → EReal) : a.stats j S 2 = S 0 := rfl

theorem v111_at (j : Fin 64) (hn : 1 ≤ (args m c).n j) (k : Fin 12) : (V22 m c (Proc.devRef .tc main_v111) : Vec Ideal S64x12 .f32) (ix2 j k) = (args m c).stats j (T m c j) k := by
  unfold V22
  after_reads_at
  rcases k with ⟨k, hk⟩
  dsimp only
  by_cases h0 : k < 1
  · rw [dif_pos h0]
    obtain rfl : k = 0 := by omega
    after_reads_at
    rw [v52_21_4]
    exact v52_at m c j
  rw [dif_neg h0]
  by_cases h1 : k - 1 < 1
  · rw [dif_pos h1]
    obtain rfl : k = 1 := by omega
    unfold StableHlo.upto
    after_reads_at
    rw [v61_21_9]
    exact (v61_T m c j hn).trans (stats1 _ _ _).symm
  rw [dif_neg h1]
  by_cases h2 : k - 1 - 1 < 1
  · rw [dif_pos h2]
    obtain rfl : k = 2 := by omega
    unfold StableHlo.upto
    after_reads_at
    rw [v64_21_12]
    exact (v64_T m c j hn).trans (stats2 _ _ _).symm
  rw [dif_neg h2]
  refine (v107_at m c j ⟨k - 1 - 1 - 1, by omega⟩ hn).trans ?_
  obtain ⟨q, rfl⟩ : ∃ q : Fin 9, k = q.val + 3 := ⟨⟨k - 3, by omega⟩, by simp; omega⟩
  unfold Args.stats
  fin_cases q <;> rfl

theorem v115_at (j : Fin 64) (hn : 1 ≤ (args m c).n j) (h : Fin 128) : (V22 m c (Proc.devRef .tc main_v115) : Vec Ideal S64x128 .f32) (ix2 j h)
    = ∑ k : Fin 12, (args m c).stats j (T m c j) k * (args m c).m1 k h + (args m c).c1 h := by
  have e : @Eq (FVec Ideal S64x128 .f32) (V22 m c (Proc.devRef .tc main_v115))
      (addf (Host.dotGeneral (φ₁ := .f32) (φ₂ := .f32) dot_S64x12_S12x128_S64x128_1_0_0_1_n_n none (V22 m c (Proc.devRef .tc main_v111) : FVec Ideal S64x12 .f32) (V21 m c (Proc.devRef .tc main_arg8) : FVec Ideal S12x128 .f32))
          (broadcastInDim S64x128 ![0, 1] bcast_S1x128_S64x128_0_1 (broadcastInDim S1x128 ![1] bcast_S128_S1x128_1 (V21 m c (Proc.devRef .tc main_arg9) : FVec Ideal S128 .f32)))) := by
    unfold V22
    after_reads_simp
  rw [e, V21_arg m c main_arg8 (by decide), V21_arg m c main_arg9 (by decide)]
  pointwise
  refine congrArg₂ (fun a b : EReal => a + b) (Finset.sum_congr rfl fun k _ => ?_) rfl
  exact congrArg (fun a : EReal => a * (args m c).m1 k h) (v111_at m c j hn k)

theorem v116_at (j : Fin 64) (hn : 1 ≤ (args m c).n j) (h : Fin 128) : (V23 m c (Proc.devRef .tc main_v116) : Vec Ideal S64x128 .f32) (ix2 j h)
    = silu (∑ k : Fin 12, (args m c).stats j (T m c j) k * (args m c).m1 k h + (args m c).c1 h) := by
  unfold V23
  after_reads_at
  exact congrArg silu (v115_at m c j hn h)

theorem v119_at (j : Fin 64) (hn : 1 ≤ (args m c).n j) : (V24 m c (Proc.devRef .tc main_v119) : Vec Ideal S64 .f32) (ix1 j) = (args m c).result j (T m c j) := by
  have e : @Eq (FVec Ideal S64 .f32) (V24 m c (Proc.devRef .tc main_v119))
      (addf (Host.dotGeneral (φ₁ := .f32) (φ₂ := .f32) dot_S64x128_S128_S64_1_0_0_n_n_n none (V23 m c (Proc.devRef .tc main_v116) : FVec Ideal S64x128 .f32) (V23 m c (Proc.devRef .tc main_arg10) : FVec Ideal S128 .f32))
          (broadcastInDim S64 ![] bcast_S_S64 (V23 m c (Proc.devRef .tc main_arg11) : FVec Ideal S_ .f32))) := by
    unfold V24
    after_reads_simp
  rw [e, V23_arg m c main_arg10 (by decide), V23_arg m c main_arg11 (by decide)]
  pointwise
  unfold Args.result fin12
  refine congrArg₂ (fun a b : EReal => a + b) (Finset.sum_congr rfl fun k _ => ?_) rfl
  exact congrArg (fun a : EReal => a * (args m c).m2 k) (v116_at m c j hn k)

end Cert.ReferenceIdeal.Val
-- ==== Proof.FinV.lean ====
/- The kernel and the reference agree on inputs in which every segment has a node. -/
module

public import proofs.«01_k».proof.Defs
public import proofs.«01_k».proof.Proof.PreV
public import proofs.«01_k».proof.Proof.KernV
public import proofs.«01_k».proof.Proof.RefV3

@[expose] public section

set_option maxRecDepth 16384

noncomputable section

namespace Cert.FinV

open Idealize.ShloMosaic Idealize.ShloMosaic.TcCoe Idealize.SL.Sem Cert.Spec

attribute [local instance] Cert.PreV.facts

/-- A memory of the kernel, -/
abbrev KMem := (ℓ : Loc Cert.KernelIdeal.nD Cert.KernelIdeal.τ Cert.KernelIdeal.sig) → Buf (Elt Ideal) ℓ

/-- and one of the reference. -/
abbrev RMem := (ℓ : Loc Cert.ReferenceIdeal.nD Cert.ReferenceIdeal.τ Cert.ReferenceIdeal.sig) → Buf (Elt Ideal) ℓ

theorem pre_b (m : KMem) (h : Cert.Pre_KernelIdeal_segments_filled m) (c : Dev Cert.KernelIdeal.nD) (i : Fin 100000) :
    0 ≤ ((Cert.KernelIdeal.Val.args m c).b i).toInt :=
  Cert.PreV.nonneg _ _ _ _ _ _ _ _ _ _ _ _ (h c).1 i

theorem pre_n (m : KMem) (h : Cert.Pre_KernelIdeal_segments_filled m) (c : Dev Cert.KernelIdeal.nD) (j : Fin 64) :
    1 ≤ (Cert.KernelIdeal.Val.args m c).n j := by
  obtain ⟨i, hi⟩ := Cert.PreV.filled _ _ _ _ _ _ _ _ _ _ _ _ (h c).2 j
  exact Finset.card_pos.2 ⟨i, Finset.mem_filter.2 ⟨Finset.mem_univ _, hi⟩⟩

/-- The result of the kernel, from the reference's sorted members. -/
theorem kernel_eq (m : KMem) (h : Cert.Pre_KernelIdeal_segments_filled m) (m' : RMem) (c : Dev Cert.KernelIdeal.nD)
    (hargs : Cert.ReferenceIdeal.Val.args m' c = Cert.KernelIdeal.Val.args m c) (o : Cert.KernelIdeal.Run.Out (F := Ideal)) (ho : Cert.KernelIdeal.Run.rel m o c) (j : Fin 64) :
    (Cert.KernelIdeal.Run.W7 m o c (Proc.devRef .tc Cert.KernelIdeal.main_v34) : Vec Ideal Cert.KernelIdeal.S64 .f32) (ix1 j)
      = (Cert.KernelIdeal.Val.args m c).result j (Cert.ReferenceIdeal.Val.T m' c j) := by
  rw [Cert.KernelIdeal.Val.kernel_at m o c ho (pre_b m h c) (pre_n m h c) j]
  refine result_unique _ j (pre_n m h c j) _ _ (Cert.KernelIdeal.Val.srt_rank m o c ho j) ?_
  rw [← hargs]
  exact Cert.ReferenceIdeal.Val.T_rank m' c j

theorem reference_eq (m : KMem) (h : Cert.Pre_KernelIdeal_segments_filled m) (m' : RMem) (c : Dev Cert.KernelIdeal.nD)
    (hargs : Cert.ReferenceIdeal.Val.args m' c = Cert.KernelIdeal.Val.args m c) (j : Fin 64) :
    (Cert.ReferenceIdeal.Run.V24 m' c (Proc.devRef .tc Cert.ReferenceIdeal.main_v119) : Vec Ideal Cert.ReferenceIdeal.S64 .f32) (ix1 j)
      = (Cert.KernelIdeal.Val.args m c).result j (Cert.ReferenceIdeal.Val.T m' c j) := by
  have hn := pre_n m h c j
  rw [← hargs] at hn ⊢
  exact Cert.ReferenceIdeal.Val.v119_at m' c j hn

/-- The common result. -/
def value (m : KMem) (m' : RMem) (c : Dev Cert.KernelIdeal.nD) : Vec Ideal Cert.KernelIdeal.S64 .f32 :=
  fun i => (Cert.KernelIdeal.Val.args m c).result (i 0) (Cert.ReferenceIdeal.Val.T m' c (i 0))

open Cert.KernelIdeal.Run in
theorem algebraic : Cert.algebraic_KernelIdeal_ReferenceIdeal_pre_segments_filled := by
  intro m g m' g' h ha
  have hargs : ∀ c, Cert.ReferenceIdeal.Val.args m' c = Cert.KernelIdeal.Val.args m c := fun c => by
    obtain ⟨h0, h1, h2, h3, h4, h5, h6, h7, h8, h9, h10, h11⟩ := ha c
    unfold Cert.ReferenceIdeal.Val.args Cert.KernelIdeal.Val.args
    congr 1
    · exact congrArg (fun (f : Vec Ideal Cert.KernelIdeal.S100000x128x1x4 .f32) i k q => f (ix4 i k 0 q)) h0
    · exact congrArg (fun (f : Vec Ideal Cert.KernelIdeal.S100000 .i32) i => f (ix1 i)) h1
    · exact congrArg (fun (f : Vec Ideal Cert.KernelIdeal.S3x128 .f32) q k => f (ix2 q k)) h2
    · exact congrArg (fun (f : Vec Ideal Cert.KernelIdeal.S3 .f32) i => f (ix1 i)) h3
    · exact congrArg (fun (f : Vec Ideal Cert.KernelIdeal.S128x128 .f32) q k => f (ix2 q k)) h4
    · exact congrArg (fun (f : Vec Ideal Cert.KernelIdeal.S128 .f32) i => f (ix1 i)) h5
    · exact congrArg (fun (f : Vec Ideal Cert.KernelIdeal.S128 .f32) i => f (ix1 i)) h6
    · exact congrArg (fun (f : Vec Ideal Cert.KernelIdeal.S_ .f32) => f ix0) h7
    · exact congrArg (fun (f : Vec Ideal Cert.KernelIdeal.S12x128 .f32) q k => f (ix2 q k)) h8
    · exact congrArg (fun (f : Vec Ideal Cert.KernelIdeal.S128 .f32) i => f (ix1 i)) h9
    · exact congrArg (fun (f : Vec Ideal Cert.KernelIdeal.S128 .f32) i => f (ix1 i)) h10
    · exact congrArg (fun (f : Vec Ideal Cert.KernelIdeal.S_ .f32) => f ix0) h11
  refine ⟨fun c => value m m' c, ?_, ?_⟩
  · refine θ_run_mono (Cert.KernelIdeal.Run.run m g) ?_
    intro r hr c
    obtain ⟨o, ho, hb⟩ := hr.1 c
    refine ⟨(hb _ (mem_uc Cert.KernelIdeal.main_v34 (by decide))).trans ?_, (hb _ (mem_uc Cert.KernelIdeal.main_arg0 (by decide))).trans (W7_args m o c Cert.KernelIdeal.main_arg0 (by decide)),
      (hb _ (mem_uc Cert.KernelIdeal.main_arg1 (by decide))).trans (W7_args m o c Cert.KernelIdeal.main_arg1 (by decide)),
      (hb _ (mem_uc Cert.KernelIdeal.main_arg2 (by decide))).trans (W7_args m o c Cert.KernelIdeal.main_arg2 (by decide)),
      (hb _ (mem_uc Cert.KernelIdeal.main_arg3 (by decide))).trans (W7_args m o c Cert.KernelIdeal.main_arg3 (by decide)),
      (hb _ (mem_uc Cert.KernelIdeal.main_arg4 (by decide))).trans (W7_args m o c Cert.KernelIdeal.main_arg4 (by decide)),
      (hb _ (mem_uc Cert.KernelIdeal.main_arg5 (by decide))).trans (W7_args m o c Cert.KernelIdeal.main_arg5 (by decide)),
      (hb _ (mem_uc Cert.KernelIdeal.main_arg6 (by decide))).trans (W7_args m o c Cert.KernelIdeal.main_arg6 (by decide)),
      (hb _ (mem_uc Cert.KernelIdeal.main_arg7 (by decide))).trans (W7_args m o c Cert.KernelIdeal.main_arg7 (by decide)),
      (hb _ (mem_uc Cert.KernelIdeal.main_arg8 (by decide))).trans (W7_args m o c Cert.KernelIdeal.main_arg8 (by decide)),
      (hb _ (mem_uc Cert.KernelIdeal.main_arg9 (by decide))).trans (W7_args m o c Cert.KernelIdeal.main_arg9 (by decide)),
      (hb _ (mem_uc Cert.KernelIdeal.main_arg10 (by decide))).trans (W7_args m o c Cert.KernelIdeal.main_arg10 (by decide)),
      (hb _ (mem_uc Cert.KernelIdeal.main_arg11 (by decide))).trans (W7_args m o c Cert.KernelIdeal.main_arg11 (by decide))⟩
    funext i
    obtain ⟨j, rfl⟩ : ∃ j : Fin 64, i = ix1 j := ⟨i 0, eq_ix1 i⟩
    exact kernel_eq m h m' c (hargs c) o ho j
  · refine θ_run_mono (Cert.ReferenceIdeal.Run.run m' g') ?_
    intro r hr c
    have hb := hr.1 c
    refine ⟨(hb Cert.ReferenceIdeal.main_v119).trans ?_, (hb Cert.ReferenceIdeal.main_arg0).trans (Cert.ReferenceIdeal.Run.VN_args m' c Cert.ReferenceIdeal.main_arg0 (by decide)),
      (hb Cert.ReferenceIdeal.main_arg1).trans (Cert.ReferenceIdeal.Run.VN_args m' c Cert.ReferenceIdeal.main_arg1 (by decide)),
      (hb Cert.ReferenceIdeal.main_arg2).trans (Cert.ReferenceIdeal.Run.VN_args m' c Cert.ReferenceIdeal.main_arg2 (by decide)),
      (hb Cert.ReferenceIdeal.main_arg3).trans (Cert.ReferenceIdeal.Run.VN_args m' c Cert.ReferenceIdeal.main_arg3 (by decide)),
      (hb Cert.ReferenceIdeal.main_arg4).trans (Cert.ReferenceIdeal.Run.VN_args m' c Cert.ReferenceIdeal.main_arg4 (by decide)),
      (hb Cert.ReferenceIdeal.main_arg5).trans (Cert.ReferenceIdeal.Run.VN_args m' c Cert.ReferenceIdeal.main_arg5 (by decide)),
      (hb Cert.ReferenceIdeal.main_arg6).trans (Cert.ReferenceIdeal.Run.VN_args m' c Cert.ReferenceIdeal.main_arg6 (by decide)),
      (hb Cert.ReferenceIdeal.main_arg7).trans (Cert.ReferenceIdeal.Run.VN_args m' c Cert.ReferenceIdeal.main_arg7 (by decide)),
      (hb Cert.ReferenceIdeal.main_arg8).trans (Cert.ReferenceIdeal.Run.VN_args m' c Cert.ReferenceIdeal.main_arg8 (by decide)),
      (hb Cert.ReferenceIdeal.main_arg9).trans (Cert.ReferenceIdeal.Run.VN_args m' c Cert.ReferenceIdeal.main_arg9 (by decide)),
      (hb Cert.ReferenceIdeal.main_arg10).trans (Cert.ReferenceIdeal.Run.VN_args m' c Cert.ReferenceIdeal.main_arg10 (by decide)),
      (hb Cert.ReferenceIdeal.main_arg11).trans (Cert.ReferenceIdeal.Run.VN_args m' c Cert.ReferenceIdeal.main_arg11 (by decide))⟩
    funext i
    obtain ⟨j, rfl⟩ : ∃ j : Fin 64, i = ix1 j := ⟨i 0, eq_ix1 i⟩
    exact reference_eq m h m' c (hargs c) j

end Cert.FinV

end
-- ==== Proof.lean ====
module

public import proofs.«01_k».proof.Defs
public import proofs.«01_k».proof.Proof.RunB
public import proofs.«01_k».proof.Proof.RunI
public import proofs.«01_k».proof.Proof.RefI
public import proofs.«01_k».proof.Proof.FinV

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.PreV.facts,
  fun m g _ => Cert.Kernel.Run.frame m g, fun m g _ => Cert.KernelIdeal.Run.frame m g, fun m g _ => Cert.KernelIdeal.Run.frame m g,
  fun m g _ => Cert.ReferenceIdeal.Run.frame m g, fun m g _ => Cert.ReferenceIdeal.Run.frame m g, trivial, Cert.FinV.algebraic⟩

end Cert.Proof

end
